-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite [hPre_finite : Cert.Pre_finite.Facts] (m : (ℓ : Loc Cert.MobaIdeal.nD Cert.MobaIdeal.τ Cert.MobaIdeal.sig) → Buf (Elt Ideal) ℓ) : Prop :=
  ∀ c : Dev Cert.MobaIdeal.nD,
    (Cert.Pre_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))).1 = (fun _ => 1#1)
    ∧ (Cert.Pre_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))).2 = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite [hPre_finite : Cert.Pre_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))).1 = (fun _ => 1#1)
    ∧ (Cert.Pre_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_MixFfnRefIdeal (m : (ℓ : Loc Cert.MixFfnRefIdeal.nD Cert.MixFfnRefIdeal.τ Cert.MixFfnRefIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_ProjLru (m : (ℓ : Loc Cert.ProjLru.nD Cert.ProjLru.τ Cert.ProjLru.sig) → Buf (Elt Bits) ℓ) : Prop :=
  True

def Pre_ProjLruIdeal (m : (ℓ : Loc Cert.ProjLruIdeal.nD Cert.ProjLruIdeal.τ Cert.ProjLruIdeal.sig) → Buf (Elt Ideal) ℓ) : Prop :=
  True

def Pre_ProjLruRefIdeal (m : (ℓ : Loc Cert.ProjLruRefIdeal.nD Cert.ProjLruRefIdeal.τ Cert.ProjLruRefIdeal.sig) → Buf (Elt Ideal) ℓ) : Prop :=
  True

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaIdeal_pre_finite [hMobaIdeal : Cert.MobaIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_MobaRefIdeal_pre_finite [hMobaRefIdeal : Cert.MobaRefIdeal.Facts] [hPre_finite : Cert.Pre_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6)
      ∧ r.2.mem ((c.tc : Thread Cert.MixFfn.nD Cert.MixFfn.τ).loc Cert.MixFfn.main_arg7) = m ((c.tc : Thread Cert.MixFfn.nD Cert.MixFfn.τ).loc Cert.MixFfn.main_arg7)
      ∧ r.2.mem ((c.tc : Thread Cert.MixFfn.nD Cert.MixFfn.τ).loc Cert.MixFfn.main_arg8) = m ((c.tc : Thread Cert.MixFfn.nD Cert.MixFfn.τ).loc Cert.MixFfn.main_arg8))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
      ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
      ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8))
      ∧ r.2.sem = fun _ => 0)

def quiescent_MixFfnRefIdeal [hMixFfnRefIdeal : Cert.MixFfnRefIdeal.Facts] : Prop :=
  ∀ (m : (ℓ : Loc Cert.MixFfnRefIdeal.nD Cert.MixFfnRefIdeal.τ Cert.MixFfnRefIdeal.sig) → Buf (Elt Ideal) ℓ) (g : Dev Cert.MixFfnRefIdeal.nD → PrngReg), Pre_MixFfnRefIdeal m →
    θ_run (Cert.MixFfnRefIdeal.defs (F := Ideal)) (onTc (τ := Cert.MixFfnRefIdeal.τ) (Cert.MixFfnRefIdeal.main (F := Ideal))) ⟨m, fun _ => 0, g⟩ (fun r => (∀ c : Dev Cert.MixFfnRefIdeal.nD,
      r.2.mem ((c.tc : Thread Cert.MixFfnRefIdeal.nD Cert.MixFfnRefIdeal.τ).loc Cert.MixFfnRefIdeal.main_arg0) = m ((c.tc : Thread Cert.MixFfnRefIdeal.nD Cert.MixFfnRefIdeal.τ).loc Cert.MixFfnRefIdeal.main_arg0)
      ∧ r.2.mem ((c.tc : Thread Cert.MixFfnRefIdeal.nD Cert.MixFfnRefIdeal.τ).loc Cert.MixFfnRefIdeal.main_arg1) = m ((c.tc : Thread Cert.MixFfnRefIdeal.nD Cert.MixFfnRefIdeal.τ).loc Cert.MixFfnRefIdeal.main_arg1)
      ∧ r.2.mem ((c.tc : Thread Cert.MixFfnRefIdeal.nD Cert.MixFfnRefIdeal.τ).loc Cert.MixFfnRefIdeal.main_arg2) = m ((c.tc : Thread Cert.MixFfnRefIdeal.nD Cert.MixFfnRefIdeal.τ).loc Cert.MixFfnRefIdeal.main_arg2)
      ∧ r.2.mem ((c.tc : Thread Cert.MixFfnRefIdeal.nD Cert.MixFfnRefIdeal.τ).loc Cert.MixFfnRefIdeal.main_arg3) = m ((c.tc : Thread Cert.MixFfnRefIdeal.nD Cert.MixFfnRefIdeal.τ).loc Cert.MixFfnRefIdeal.main_arg3)
      ∧ r.2.mem ((c.tc : Thread Cert.MixFfnRefIdeal.nD Cert.MixFfnRefIdeal.τ).loc Cert.MixFfnRefIdeal.main_arg4) = m ((c.tc : Thread Cert.MixFfnRefIdeal.nD Cert.MixFfnRefIdeal.τ).loc Cert.MixFfnRefIdeal.main_arg4)
      ∧ r.2.mem ((c.tc : Thread Cert.MixFfnRefIdeal.nD Cert.MixFfnRefIdeal.τ).loc Cert.MixFfnRefIdeal.main_arg5) = m ((c.tc : Thread Cert.MixFfnRefIdeal.nD Cert.MixFfnRefIdeal.τ).loc Cert.MixFfnRefIdeal.main_arg5)
      ∧ r.2.mem ((c.tc : Thread Cert.MixFfnRefIdeal.nD Cert.MixFfnRefIdeal.τ).loc Cert.MixFfnRefIdeal.main_arg6) = m ((c.tc : Thread Cert.MixFfnRefIdeal.nD Cert.MixFfnRefIdeal.τ).loc Cert.MixFfnRefIdeal.main_arg6)
      ∧ r.2.mem ((c.tc : Thread Cert.MixFfnRefIdeal.nD Cert.MixFfnRefIdeal.τ).loc Cert.MixFfnRefIdeal.main_arg7) = m ((c.tc : Thread Cert.MixFfnRefIdeal.nD Cert.MixFfnRefIdeal.τ).loc Cert.MixFfnRefIdeal.main_arg7)
      ∧ r.2.mem ((c.tc : Thread Cert.MixFfnRefIdeal.nD Cert.MixFfnRefIdeal.τ).loc Cert.MixFfnRefIdeal.main_arg8) = m ((c.tc : Thread Cert.MixFfnRefIdeal.nD Cert.MixFfnRefIdeal.τ).loc Cert.MixFfnRefIdeal.main_arg8))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3)
      ∧ r.2.mem ((c.tc : Thread Cert.Sconv.nD Cert.Sconv.τ).loc Cert.Sconv.main_arg4) = m ((c.tc : Thread Cert.Sconv.nD Cert.Sconv.τ).loc Cert.Sconv.main_arg4)
      ∧ r.2.mem ((c.tc : Thread Cert.Sconv.nD Cert.Sconv.τ).loc Cert.Sconv.main_arg5) = m ((c.tc : Thread Cert.Sconv.nD Cert.Sconv.τ).loc Cert.Sconv.main_arg5))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
      ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4)
      ∧ r.2.mem ((c.tc : Thread Cert.SconvIdeal.nD Cert.SconvIdeal.τ).loc Cert.SconvIdeal.main_arg5) = m ((c.tc : Thread Cert.SconvIdeal.nD Cert.SconvIdeal.τ).loc Cert.SconvIdeal.main_arg5))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3)
      ∧ r.2.mem ((c.tc : Thread Cert.SconvRefIdeal.nD Cert.SconvRefIdeal.τ).loc Cert.SconvRefIdeal.main_arg4) = m ((c.tc : Thread Cert.SconvRefIdeal.nD Cert.SconvRefIdeal.τ).loc Cert.SconvRefIdeal.main_arg4)
      ∧ r.2.mem ((c.tc : Thread Cert.SconvRefIdeal.nD Cert.SconvRefIdeal.τ).loc Cert.SconvRefIdeal.main_arg5) = m ((c.tc : Thread Cert.SconvRefIdeal.nD Cert.SconvRefIdeal.τ).loc Cert.SconvRefIdeal.main_arg5))
      ∧ r.2.sem = fun _ => 0)

def quiescent_ProjLru [hProjLru : Cert.ProjLru.Facts] : Prop :=
  ∀ (m : (ℓ : Loc Cert.ProjLru.nD Cert.ProjLru.τ Cert.ProjLru.sig) → Buf (Elt Bits) ℓ) (g : Dev Cert.ProjLru.nD → PrngReg), Pre_ProjLru m →
    θ_run (Cert.ProjLru.defs (F := Bits)) (onTc (τ := Cert.ProjLru.τ) (Cert.ProjLru.main (F := Bits))) ⟨m, fun _ => 0, g⟩ (fun r => (∀ c : Dev Cert.ProjLru.nD,
      r.2.mem ((c.tc : Thread Cert.ProjLru.nD Cert.ProjLru.τ).loc Cert.ProjLru.main_arg0) = m ((c.tc : Thread Cert.ProjLru.nD Cert.ProjLru.τ).loc Cert.ProjLru.main_arg0)
      ∧ r.2.mem ((c.tc : Thread Cert.ProjLru.nD Cert.ProjLru.τ).loc Cert.ProjLru.main_arg1) = m ((c.tc : Thread Cert.ProjLru.nD Cert.ProjLru.τ).loc Cert.ProjLru.main_arg1)
      ∧ r.2.mem ((c.tc : Thread Cert.ProjLru.nD Cert.ProjLru.τ).loc Cert.ProjLru.main_arg2) = m ((c.tc : Thread Cert.ProjLru.nD Cert.ProjLru.τ).loc Cert.ProjLru.main_arg2)
      ∧ r.2.mem ((c.tc : Thread Cert.ProjLru.nD Cert.ProjLru.τ).loc Cert.ProjLru.main_arg3) = m ((c.tc : Thread Cert.ProjLru.nD Cert.ProjLru.τ).loc Cert.ProjLru.main_arg3)
      ∧ r.2.mem ((c.tc : Thread Cert.ProjLru.nD Cert.ProjLru.τ).loc Cert.ProjLru.main_arg4) = m ((c.tc : Thread Cert.ProjLru.nD Cert.ProjLru.τ).loc Cert.ProjLru.main_arg4)
      ∧ r.2.mem ((c.tc : Thread Cert.ProjLru.nD Cert.ProjLru.τ).loc Cert.ProjLru.main_arg5) = m ((c.tc : Thread Cert.ProjLru.nD Cert.ProjLru.τ).loc Cert.ProjLru.main_arg5)
      ∧ r.2.mem ((c.tc : Thread Cert.ProjLru.nD Cert.ProjLru.τ).loc Cert.ProjLru.main_arg6) = m ((c.tc : Thread Cert.ProjLru.nD Cert.ProjLru.τ).loc Cert.ProjLru.main_arg6)
      ∧ r.2.mem ((c.tc : Thread Cert.ProjLru.nD Cert.ProjLru.τ).loc Cert.ProjLru.main_arg7) = m ((c.tc : Thread Cert.ProjLru.nD Cert.ProjLru.τ).loc Cert.ProjLru.main_arg7)
      ∧ r.2.mem ((c.tc : Thread Cert.ProjLru.nD Cert.ProjLru.τ).loc Cert.ProjLru.main_arg8) = m ((c.tc : Thread Cert.ProjLru.nD Cert.ProjLru.τ).loc Cert.ProjLru.main_arg8)
      ∧ r.2.mem ((c.tc : Thread Cert.ProjLru.nD Cert.ProjLru.τ).loc Cert.ProjLru.main_arg9) = m ((c.tc : Thread Cert.ProjLru.nD Cert.ProjLru.τ).loc Cert.ProjLru.main_arg9))
      ∧ r.2.sem = fun _ => 0)

def quiescent_ProjLruIdeal [hProjLruIdeal : Cert.ProjLruIdeal.Facts] : Prop :=
  ∀ (m : (ℓ : Loc Cert.ProjLruIdeal.nD Cert.ProjLruIdeal.τ Cert.ProjLruIdeal.sig) → Buf (Elt Ideal) ℓ) (g : Dev Cert.ProjLruIdeal.nD → PrngReg), Pre_ProjLruIdeal m →
    θ_run (Cert.ProjLruIdeal.defs (F := Ideal)) (onTc (τ := Cert.ProjLruIdeal.τ) (Cert.ProjLruIdeal.main (F := Ideal))) ⟨m, fun _ => 0, g⟩ (fun r => (∀ c : Dev Cert.ProjLruIdeal.nD,
      r.2.mem ((c.tc : Thread Cert.ProjLruIdeal.nD Cert.ProjLruIdeal.τ).loc Cert.ProjLruIdeal.main_arg0) = m ((c.tc : Thread Cert.ProjLruIdeal.nD Cert.ProjLruIdeal.τ).loc Cert.ProjLruIdeal.main_arg0)
      ∧ r.2.mem ((c.tc : Thread Cert.ProjLruIdeal.nD Cert.ProjLruIdeal.τ).loc Cert.ProjLruIdeal.main_arg1) = m ((c.tc : Thread Cert.ProjLruIdeal.nD Cert.ProjLruIdeal.τ).loc Cert.ProjLruIdeal.main_arg1)
      ∧ r.2.mem ((c.tc : Thread Cert.ProjLruIdeal.nD Cert.ProjLruIdeal.τ).loc Cert.ProjLruIdeal.main_arg2) = m ((c.tc : Thread Cert.ProjLruIdeal.nD Cert.ProjLruIdeal.τ).loc Cert.ProjLruIdeal.main_arg2)
      ∧ r.2.mem ((c.tc : Thread Cert.ProjLruIdeal.nD Cert.ProjLruIdeal.τ).loc Cert.ProjLruIdeal.main_arg3) = m ((c.tc : Thread Cert.ProjLruIdeal.nD Cert.ProjLruIdeal.τ).loc Cert.ProjLruIdeal.main_arg3)
      ∧ r.2.mem ((c.tc : Thread Cert.ProjLruIdeal.nD Cert.ProjLruIdeal.τ).loc Cert.ProjLruIdeal.main_arg4) = m ((c.tc : Thread Cert.ProjLruIdeal.nD Cert.ProjLruIdeal.τ).loc Cert.ProjLruIdeal.main_arg4)
      ∧ r.2.mem ((c.tc : Thread Cert.ProjLruIdeal.nD Cert.ProjLruIdeal.τ).loc Cert.ProjLruIdeal.main_arg5) = m ((c.tc : Thread Cert.ProjLruIdeal.nD Cert.ProjLruIdeal.τ).loc Cert.ProjLruIdeal.main_arg5)
      ∧ r.2.mem ((c.tc : Thread Cert.ProjLruIdeal.nD Cert.ProjLruIdeal.τ).loc Cert.ProjLruIdeal.main_arg6) = m ((c.tc : Thread Cert.ProjLruIdeal.nD Cert.ProjLruIdeal.τ).loc Cert.ProjLruIdeal.main_arg6)
      ∧ r.2.mem ((c.tc : Thread Cert.ProjLruIdeal.nD Cert.ProjLruIdeal.τ).loc Cert.ProjLruIdeal.main_arg7) = m ((c.tc : Thread Cert.ProjLruIdeal.nD Cert.ProjLruIdeal.τ).loc Cert.ProjLruIdeal.main_arg7)
      ∧ r.2.mem ((c.tc : Thread Cert.ProjLruIdeal.nD Cert.ProjLruIdeal.τ).loc Cert.ProjLruIdeal.main_arg8) = m ((c.tc : Thread Cert.ProjLruIdeal.nD Cert.ProjLruIdeal.τ).loc Cert.ProjLruIdeal.main_arg8)
      ∧ r.2.mem ((c.tc : Thread Cert.ProjLruIdeal.nD Cert.ProjLruIdeal.τ).loc Cert.ProjLruIdeal.main_arg9) = m ((c.tc : Thread Cert.ProjLruIdeal.nD Cert.ProjLruIdeal.τ).loc Cert.ProjLruIdeal.main_arg9))
      ∧ r.2.sem = fun _ => 0)

def quiescent_ProjLruRefIdeal [hProjLruRefIdeal : Cert.ProjLruRefIdeal.Facts] : Prop :=
  ∀ (m : (ℓ : Loc Cert.ProjLruRefIdeal.nD Cert.ProjLruRefIdeal.τ Cert.ProjLruRefIdeal.sig) → Buf (Elt Ideal) ℓ) (g : Dev Cert.ProjLruRefIdeal.nD → PrngReg), Pre_ProjLruRefIdeal m →
    θ_run (Cert.ProjLruRefIdeal.defs (F := Ideal)) (onTc (τ := Cert.ProjLruRefIdeal.τ) (Cert.ProjLruRefIdeal.main (F := Ideal))) ⟨m, fun _ => 0, g⟩ (fun r => (∀ c : Dev Cert.ProjLruRefIdeal.nD,
      r.2.mem ((c.tc : Thread Cert.ProjLruRefIdeal.nD Cert.ProjLruRefIdeal.τ).loc Cert.ProjLruRefIdeal.main_arg0) = m ((c.tc : Thread Cert.ProjLruRefIdeal.nD Cert.ProjLruRefIdeal.τ).loc Cert.ProjLruRefIdeal.main_arg0)
      ∧ r.2.mem ((c.tc : Thread Cert.ProjLruRefIdeal.nD Cert.ProjLruRefIdeal.τ).loc Cert.ProjLruRefIdeal.main_arg1) = m ((c.tc : Thread Cert.ProjLruRefIdeal.nD Cert.ProjLruRefIdeal.τ).loc Cert.ProjLruRefIdeal.main_arg1)
      ∧ r.2.mem ((c.tc : Thread Cert.ProjLruRefIdeal.nD Cert.ProjLruRefIdeal.τ).loc Cert.ProjLruRefIdeal.main_arg2) = m ((c.tc : Thread Cert.ProjLruRefIdeal.nD Cert.ProjLruRefIdeal.τ).loc Cert.ProjLruRefIdeal.main_arg2)
      ∧ r.2.mem ((c.tc : Thread Cert.ProjLruRefIdeal.nD Cert.ProjLruRefIdeal.τ).loc Cert.ProjLruRefIdeal.main_arg3) = m ((c.tc : Thread Cert.ProjLruRefIdeal.nD Cert.ProjLruRefIdeal.τ).loc Cert.ProjLruRefIdeal.main_arg3)
      ∧ r.2.mem ((c.tc : Thread Cert.ProjLruRefIdeal.nD Cert.ProjLruRefIdeal.τ).loc Cert.ProjLruRefIdeal.main_arg4) = m ((c.tc : Thread Cert.ProjLruRefIdeal.nD Cert.ProjLruRefIdeal.τ).loc Cert.ProjLruRefIdeal.main_arg4)
      ∧ r.2.mem ((c.tc : Thread Cert.ProjLruRefIdeal.nD Cert.ProjLruRefIdeal.τ).loc Cert.ProjLruRefIdeal.main_arg5) = m ((c.tc : Thread Cert.ProjLruRefIdeal.nD Cert.ProjLruRefIdeal.τ).loc Cert.ProjLruRefIdeal.main_arg5)
      ∧ r.2.mem ((c.tc : Thread Cert.ProjLruRefIdeal.nD Cert.ProjLruRefIdeal.τ).loc Cert.ProjLruRefIdeal.main_arg6) = m ((c.tc : Thread Cert.ProjLruRefIdeal.nD Cert.ProjLruRefIdeal.τ).loc Cert.ProjLruRefIdeal.main_arg6)
      ∧ r.2.mem ((c.tc : Thread Cert.ProjLruRefIdeal.nD Cert.ProjLruRefIdeal.τ).loc Cert.ProjLruRefIdeal.main_arg7) = m ((c.tc : Thread Cert.ProjLruRefIdeal.nD Cert.ProjLruRefIdeal.τ).loc Cert.ProjLruRefIdeal.main_arg7)
      ∧ r.2.mem ((c.tc : Thread Cert.ProjLruRefIdeal.nD Cert.ProjLruRefIdeal.τ).loc Cert.ProjLruRefIdeal.main_arg8) = m ((c.tc : Thread Cert.ProjLruRefIdeal.nD Cert.ProjLruRefIdeal.τ).loc Cert.ProjLruRefIdeal.main_arg8)
      ∧ r.2.mem ((c.tc : Thread Cert.ProjLruRefIdeal.nD Cert.ProjLruRefIdeal.τ).loc Cert.ProjLruRefIdeal.main_arg9) = m ((c.tc : Thread Cert.ProjLruRefIdeal.nD Cert.ProjLruRefIdeal.τ).loc Cert.ProjLruRefIdeal.main_arg9))
      ∧ r.2.sem = fun _ => 0)

def preserves_Moba_MobaIdeal : Prop :=
  IdealRules.named_const.Statement Cert.MobaIdeal.κ "scale" .f32 0x3E38AA3B#32 ((8⁻¹ * (Real.log 2)⁻¹ : ℝ) : EReal)
  ∧ IdealRules.named_const.Statement Cert.MobaIdeal.κ "mask" .f32 0xF149F2CA#32 ⊥

def algebraic_MobaIdeal_MobaRefIdeal_pre_finite [hMobaIdeal : Cert.MobaIdeal.Facts] [hMobaRefIdeal : Cert.MobaRefIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)) →
    ∃ (v0 : (c : Dev Cert.MobaIdeal.nD) → Buf (Elt Ideal) ((c.tc : Thread Cert.MobaIdeal.nD Cert.MobaIdeal.τ).loc Cert.MobaIdeal.main_v9)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v9) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v62) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MixFfn_MixFfnIdeal : Prop :=
  True

def algebraic_MixFfnIdeal_MixFfnRefIdeal [hMixFfnIdeal : Cert.MixFfnIdeal.Facts] [hMixFfnRefIdeal : Cert.MixFfnRefIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.MixFfnRefIdeal.nD Cert.MixFfnRefIdeal.τ Cert.MixFfnRefIdeal.sig) → Buf (Elt Ideal) ℓ) (g' : Dev Cert.MixFfnRefIdeal.nD → PrngReg), Pre_MixFfnIdeal m →
    (∀ c : Dev Cert.MixFfnIdeal.nD,
      m' ((c.tc : Thread Cert.MixFfnRefIdeal.nD Cert.MixFfnRefIdeal.τ).loc Cert.MixFfnRefIdeal.main_arg0) = m ((c.tc : Thread Cert.MixFfnIdeal.nD Cert.MixFfnIdeal.τ).loc Cert.MixFfnIdeal.main_arg0)
      ∧ m' ((c.tc : Thread Cert.MixFfnRefIdeal.nD Cert.MixFfnRefIdeal.τ).loc Cert.MixFfnRefIdeal.main_arg1) = m ((c.tc : Thread Cert.MixFfnIdeal.nD Cert.MixFfnIdeal.τ).loc Cert.MixFfnIdeal.main_arg1)
      ∧ m' ((c.tc : Thread Cert.MixFfnRefIdeal.nD Cert.MixFfnRefIdeal.τ).loc Cert.MixFfnRefIdeal.main_arg2) = m ((c.tc : Thread Cert.MixFfnIdeal.nD Cert.MixFfnIdeal.τ).loc Cert.MixFfnIdeal.main_arg2)
      ∧ m' ((c.tc : Thread Cert.MixFfnRefIdeal.nD Cert.MixFfnRefIdeal.τ).loc Cert.MixFfnRefIdeal.main_arg3) = m ((c.tc : Thread Cert.MixFfnIdeal.nD Cert.MixFfnIdeal.τ).loc Cert.MixFfnIdeal.main_arg3)
      ∧ m' ((c.tc : Thread Cert.MixFfnRefIdeal.nD Cert.MixFfnRefIdeal.τ).loc Cert.MixFfnRefIdeal.main_arg4) = m ((c.tc : Thread Cert.MixFfnIdeal.nD Cert.MixFfnIdeal.τ).loc Cert.MixFfnIdeal.main_arg4)
      ∧ m' ((c.tc : Thread Cert.MixFfnRefIdeal.nD Cert.MixFfnRefIdeal.τ).loc Cert.MixFfnRefIdeal.main_arg5) = m ((c.tc : Thread Cert.MixFfnIdeal.nD Cert.MixFfnIdeal.τ).loc Cert.MixFfnIdeal.main_arg5)
      ∧ m' ((c.tc : Thread Cert.MixFfnRefIdeal.nD Cert.MixFfnRefIdeal.τ).loc Cert.MixFfnRefIdeal.main_arg6) = m ((c.tc : Thread Cert.MixFfnIdeal.nD Cert.MixFfnIdeal.τ).loc Cert.MixFfnIdeal.main_arg6)
      ∧ m' ((c.tc : Thread Cert.MixFfnRefIdeal.nD Cert.MixFfnRefIdeal.τ).loc Cert.MixFfnRefIdeal.main_arg7) = m ((c.tc : Thread Cert.MixFfnIdeal.nD Cert.MixFfnIdeal.τ).loc Cert.MixFfnIdeal.main_arg7)
      ∧ m' ((c.tc : Thread Cert.MixFfnRefIdeal.nD Cert.MixFfnRefIdeal.τ).loc Cert.MixFfnRefIdeal.main_arg8) = m ((c.tc : Thread Cert.MixFfnIdeal.nD Cert.MixFfnIdeal.τ).loc Cert.MixFfnIdeal.main_arg8)) →
    ∃ (v0 : (c : Dev Cert.MixFfnIdeal.nD) → Buf (Elt Ideal) ((c.tc : Thread Cert.MixFfnIdeal.nD Cert.MixFfnIdeal.τ).loc Cert.MixFfnIdeal.main_v18)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v18) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
          ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
          ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8))
      ∧ θ_run (Cert.MixFfnRefIdeal.defs (F := Ideal)) (onTc (τ := Cert.MixFfnRefIdeal.τ) (Cert.MixFfnRefIdeal.main (F := Ideal))) ⟨m', fun _ => 0, g'⟩ (fun r => ∀ c : Dev Cert.MixFfnRefIdeal.nD,
          r.2.mem ((c.tc : Thread Cert.MixFfnRefIdeal.nD Cert.MixFfnRefIdeal.τ).loc Cert.MixFfnRefIdeal.main_v64) = v0 c
          ∧ r.2.mem ((c.tc : Thread Cert.MixFfnRefIdeal.nD Cert.MixFfnRefIdeal.τ).loc Cert.MixFfnRefIdeal.main_arg0) = m' ((c.tc : Thread Cert.MixFfnRefIdeal.nD Cert.MixFfnRefIdeal.τ).loc Cert.MixFfnRefIdeal.main_arg0)
          ∧ r.2.mem ((c.tc : Thread Cert.MixFfnRefIdeal.nD Cert.MixFfnRefIdeal.τ).loc Cert.MixFfnRefIdeal.main_arg1) = m' ((c.tc : Thread Cert.MixFfnRefIdeal.nD Cert.MixFfnRefIdeal.τ).loc Cert.MixFfnRefIdeal.main_arg1)
          ∧ r.2.mem ((c.tc : Thread Cert.MixFfnRefIdeal.nD Cert.MixFfnRefIdeal.τ).loc Cert.MixFfnRefIdeal.main_arg2) = m' ((c.tc : Thread Cert.MixFfnRefIdeal.nD Cert.MixFfnRefIdeal.τ).loc Cert.MixFfnRefIdeal.main_arg2)
          ∧ r.2.mem ((c.tc : Thread Cert.MixFfnRefIdeal.nD Cert.MixFfnRefIdeal.τ).loc Cert.MixFfnRefIdeal.main_arg3) = m' ((c.tc : Thread Cert.MixFfnRefIdeal.nD Cert.MixFfnRefIdeal.τ).loc Cert.MixFfnRefIdeal.main_arg3)
          ∧ r.2.mem ((c.tc : Thread Cert.MixFfnRefIdeal.nD Cert.MixFfnRefIdeal.τ).loc Cert.MixFfnRefIdeal.main_arg4) = m' ((c.tc : Thread Cert.MixFfnRefIdeal.nD Cert.MixFfnRefIdeal.τ).loc Cert.MixFfnRefIdeal.main_arg4)
          ∧ r.2.mem ((c.tc : Thread Cert.MixFfnRefIdeal.nD Cert.MixFfnRefIdeal.τ).loc Cert.MixFfnRefIdeal.main_arg5) = m' ((c.tc : Thread Cert.MixFfnRefIdeal.nD Cert.MixFfnRefIdeal.τ).loc Cert.MixFfnRefIdeal.main_arg5)
          ∧ r.2.mem ((c.tc : Thread Cert.MixFfnRefIdeal.nD Cert.MixFfnRefIdeal.τ).loc Cert.MixFfnRefIdeal.main_arg6) = m' ((c.tc : Thread Cert.MixFfnRefIdeal.nD Cert.MixFfnRefIdeal.τ).loc Cert.MixFfnRefIdeal.main_arg6)
          ∧ r.2.mem ((c.tc : Thread Cert.MixFfnRefIdeal.nD Cert.MixFfnRefIdeal.τ).loc Cert.MixFfnRefIdeal.main_arg7) = m' ((c.tc : Thread Cert.MixFfnRefIdeal.nD Cert.MixFfnRefIdeal.τ).loc Cert.MixFfnRefIdeal.main_arg7)
          ∧ r.2.mem ((c.tc : Thread Cert.MixFfnRefIdeal.nD Cert.MixFfnRefIdeal.τ).loc Cert.MixFfnRefIdeal.main_arg8) = m' ((c.tc : Thread Cert.MixFfnRefIdeal.nD Cert.MixFfnRefIdeal.τ).loc Cert.MixFfnRefIdeal.main_arg8))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)
      ∧ m' ((c.tc : Thread Cert.SconvRefIdeal.nD Cert.SconvRefIdeal.τ).loc Cert.SconvRefIdeal.main_arg3) = m ((c.tc : Thread Cert.SconvIdeal.nD Cert.SconvIdeal.τ).loc Cert.SconvIdeal.main_arg3)
      ∧ m' ((c.tc : Thread Cert.SconvRefIdeal.nD Cert.SconvRefIdeal.τ).loc Cert.SconvRefIdeal.main_arg4) = m ((c.tc : Thread Cert.SconvIdeal.nD Cert.SconvIdeal.τ).loc Cert.SconvIdeal.main_arg4)
      ∧ m' ((c.tc : Thread Cert.SconvRefIdeal.nD Cert.SconvRefIdeal.τ).loc Cert.SconvRefIdeal.main_arg5) = m ((c.tc : Thread Cert.SconvIdeal.nD Cert.SconvIdeal.τ).loc Cert.SconvIdeal.main_arg5)) →
    ∃ (v0 : (c : Dev Cert.SconvIdeal.nD) → Buf (Elt Ideal) ((c.tc : Thread Cert.SconvIdeal.nD Cert.SconvIdeal.τ).loc Cert.SconvIdeal.main_v9)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v9) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
          ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4)
          ∧ r.2.mem ((c.tc : Thread Cert.SconvIdeal.nD Cert.SconvIdeal.τ).loc Cert.SconvIdeal.main_arg5) = m ((c.tc : Thread Cert.SconvIdeal.nD Cert.SconvIdeal.τ).loc Cert.SconvIdeal.main_arg5))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v68) = v0 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2)
          ∧ r.2.mem ((c.tc : Thread Cert.SconvRefIdeal.nD Cert.SconvRefIdeal.τ).loc Cert.SconvRefIdeal.main_arg3) = m' ((c.tc : Thread Cert.SconvRefIdeal.nD Cert.SconvRefIdeal.τ).loc Cert.SconvRefIdeal.main_arg3)
          ∧ r.2.mem ((c.tc : Thread Cert.SconvRefIdeal.nD Cert.SconvRefIdeal.τ).loc Cert.SconvRefIdeal.main_arg4) = m' ((c.tc : Thread Cert.SconvRefIdeal.nD Cert.SconvRefIdeal.τ).loc Cert.SconvRefIdeal.main_arg4)
          ∧ r.2.mem ((c.tc : Thread Cert.SconvRefIdeal.nD Cert.SconvRefIdeal.τ).loc Cert.SconvRefIdeal.main_arg5) = m' ((c.tc : Thread Cert.SconvRefIdeal.nD Cert.SconvRefIdeal.τ).loc Cert.SconvRefIdeal.main_arg5))

def preserves_ProjLru_ProjLruIdeal : Prop :=
  True

def algebraic_ProjLruIdeal_ProjLruRefIdeal [hProjLruIdeal : Cert.ProjLruIdeal.Facts] [hProjLruRefIdeal : Cert.ProjLruRefIdeal.Facts] : Prop :=
  ∀ (m : (ℓ : Loc Cert.ProjLruIdeal.nD Cert.ProjLruIdeal.τ Cert.ProjLruIdeal.sig) → Buf (Elt Ideal) ℓ) (g : Dev Cert.ProjLruIdeal.nD → PrngReg)
    (m' : (ℓ : Loc Cert.ProjLruRefIdeal.nD Cert.ProjLruRefIdeal.τ Cert.ProjLruRefIdeal.sig) → Buf (Elt Ideal) ℓ) (g' : Dev Cert.ProjLruRefIdeal.nD → PrngReg), Pre_ProjLruIdeal m →
    (∀ c : Dev Cert.ProjLruIdeal.nD,
      m' ((c.tc : Thread Cert.ProjLruRefIdeal.nD Cert.ProjLruRefIdeal.τ).loc Cert.ProjLruRefIdeal.main_arg0) = m ((c.tc : Thread Cert.ProjLruIdeal.nD Cert.ProjLruIdeal.τ).loc Cert.ProjLruIdeal.main_arg0)
      ∧ m' ((c.tc : Thread Cert.ProjLruRefIdeal.nD Cert.ProjLruRefIdeal.τ).loc Cert.ProjLruRefIdeal.main_arg1) = m ((c.tc : Thread Cert.ProjLruIdeal.nD Cert.ProjLruIdeal.τ).loc Cert.ProjLruIdeal.main_arg1)
      ∧ m' ((c.tc : Thread Cert.ProjLruRefIdeal.nD Cert.ProjLruRefIdeal.τ).loc Cert.ProjLruRefIdeal.main_arg2) = m ((c.tc : Thread Cert.ProjLruIdeal.nD Cert.ProjLruIdeal.τ).loc Cert.ProjLruIdeal.main_arg2)
      ∧ m' ((c.tc : Thread Cert.ProjLruRefIdeal.nD Cert.ProjLruRefIdeal.τ).loc Cert.ProjLruRefIdeal.main_arg3) = m ((c.tc : Thread Cert.ProjLruIdeal.nD Cert.ProjLruIdeal.τ).loc Cert.ProjLruIdeal.main_arg3)
      ∧ m' ((c.tc : Thread Cert.ProjLruRefIdeal.nD Cert.ProjLruRefIdeal.τ).loc Cert.ProjLruRefIdeal.main_arg4) = m ((c.tc : Thread Cert.ProjLruIdeal.nD Cert.ProjLruIdeal.τ).loc Cert.ProjLruIdeal.main_arg4)
      ∧ m' ((c.tc : Thread Cert.ProjLruRefIdeal.nD Cert.ProjLruRefIdeal.τ).loc Cert.ProjLruRefIdeal.main_arg5) = m ((c.tc : Thread Cert.ProjLruIdeal.nD Cert.ProjLruIdeal.τ).loc Cert.ProjLruIdeal.main_arg5)
      ∧ m' ((c.tc : Thread Cert.ProjLruRefIdeal.nD Cert.ProjLruRefIdeal.τ).loc Cert.ProjLruRefIdeal.main_arg6) = m ((c.tc : Thread Cert.ProjLruIdeal.nD Cert.ProjLruIdeal.τ).loc Cert.ProjLruIdeal.main_arg6)
      ∧ m' ((c.tc : Thread Cert.ProjLruRefIdeal.nD Cert.ProjLruRefIdeal.τ).loc Cert.ProjLruRefIdeal.main_arg7) = m ((c.tc : Thread Cert.ProjLruIdeal.nD Cert.ProjLruIdeal.τ).loc Cert.ProjLruIdeal.main_arg7)
      ∧ m' ((c.tc : Thread Cert.ProjLruRefIdeal.nD Cert.ProjLruRefIdeal.τ).loc Cert.ProjLruRefIdeal.main_arg8) = m ((c.tc : Thread Cert.ProjLruIdeal.nD Cert.ProjLruIdeal.τ).loc Cert.ProjLruIdeal.main_arg8)
      ∧ m' ((c.tc : Thread Cert.ProjLruRefIdeal.nD Cert.ProjLruRefIdeal.τ).loc Cert.ProjLruRefIdeal.main_arg9) = m ((c.tc : Thread Cert.ProjLruIdeal.nD Cert.ProjLruIdeal.τ).loc Cert.ProjLruIdeal.main_arg9)) →
    ∃ (v0 : (c : Dev Cert.ProjLruIdeal.nD) → Buf (Elt Ideal) ((c.tc : Thread Cert.ProjLruIdeal.nD Cert.ProjLruIdeal.τ).loc Cert.ProjLruIdeal.main_v69_0)) (v1 : (c : Dev Cert.ProjLruIdeal.nD) → Buf (Elt Ideal) ((c.tc : Thread Cert.ProjLruIdeal.nD Cert.ProjLruIdeal.τ).loc Cert.ProjLruIdeal.main_v69_1)) (v2 : (c : Dev Cert.ProjLruIdeal.nD) → Buf (Elt Ideal) ((c.tc : Thread Cert.ProjLruIdeal.nD Cert.ProjLruIdeal.τ).loc Cert.ProjLruIdeal.main_v69_2)) (v3 : (c : Dev Cert.ProjLruIdeal.nD) → Buf (Elt Ideal) ((c.tc : Thread Cert.ProjLruIdeal.nD Cert.ProjLruIdeal.τ).loc Cert.ProjLruIdeal.main_v69_3)),
      θ_run (Cert.ProjLruIdeal.defs (F := Ideal)) (onTc (τ := Cert.ProjLruIdeal.τ) (Cert.ProjLruIdeal.main (F := Ideal))) ⟨m, fun _ => 0, g⟩ (fun r => ∀ c : Dev Cert.ProjLruIdeal.nD,
          r.2.mem ((c.tc : Thread Cert.ProjLruIdeal.nD Cert.ProjLruIdeal.τ).loc Cert.ProjLruIdeal.main_v69_0) = v0 c
          ∧ r.2.mem ((c.tc : Thread Cert.ProjLruIdeal.nD Cert.ProjLruIdeal.τ).loc Cert.ProjLruIdeal.main_v69_1) = v1 c
          ∧ r.2.mem ((c.tc : Thread Cert.ProjLruIdeal.nD Cert.ProjLruIdeal.τ).loc Cert.ProjLruIdeal.main_v69_2) = v2 c
          ∧ r.2.mem ((c.tc : Thread Cert.ProjLruIdeal.nD Cert.ProjLruIdeal.τ).loc Cert.ProjLruIdeal.main_v69_3) = v3 c
          ∧ r.2.mem ((c.tc : Thread Cert.ProjLruIdeal.nD Cert.ProjLruIdeal.τ).loc Cert.ProjLruIdeal.main_arg0) = m ((c.tc : Thread Cert.ProjLruIdeal.nD Cert.ProjLruIdeal.τ).loc Cert.ProjLruIdeal.main_arg0)
          ∧ r.2.mem ((c.tc : Thread Cert.ProjLruIdeal.nD Cert.ProjLruIdeal.τ).loc Cert.ProjLruIdeal.main_arg1) = m ((c.tc : Thread Cert.ProjLruIdeal.nD Cert.ProjLruIdeal.τ).loc Cert.ProjLruIdeal.main_arg1)
          ∧ r.2.mem ((c.tc : Thread Cert.ProjLruIdeal.nD Cert.ProjLruIdeal.τ).loc Cert.ProjLruIdeal.main_arg2) = m ((c.tc : Thread Cert.ProjLruIdeal.nD Cert.ProjLruIdeal.τ).loc Cert.ProjLruIdeal.main_arg2)
          ∧ r.2.mem ((c.tc : Thread Cert.ProjLruIdeal.nD Cert.ProjLruIdeal.τ).loc Cert.ProjLruIdeal.main_arg3) = m ((c.tc : Thread Cert.ProjLruIdeal.nD Cert.ProjLruIdeal.τ).loc Cert.ProjLruIdeal.main_arg3)
          ∧ r.2.mem ((c.tc : Thread Cert.ProjLruIdeal.nD Cert.ProjLruIdeal.τ).loc Cert.ProjLruIdeal.main_arg4) = m ((c.tc : Thread Cert.ProjLruIdeal.nD Cert.ProjLruIdeal.τ).loc Cert.ProjLruIdeal.main_arg4)
          ∧ r.2.mem ((c.tc : Thread Cert.ProjLruIdeal.nD Cert.ProjLruIdeal.τ).loc Cert.ProjLruIdeal.main_arg5) = m ((c.tc : Thread Cert.ProjLruIdeal.nD Cert.ProjLruIdeal.τ).loc Cert.ProjLruIdeal.main_arg5)
          ∧ r.2.mem ((c.tc : Thread Cert.ProjLruIdeal.nD Cert.ProjLruIdeal.τ).loc Cert.ProjLruIdeal.main_arg6) = m ((c.tc : Thread Cert.ProjLruIdeal.nD Cert.ProjLruIdeal.τ).loc Cert.ProjLruIdeal.main_arg6)
          ∧ r.2.mem ((c.tc : Thread Cert.ProjLruIdeal.nD Cert.ProjLruIdeal.τ).loc Cert.ProjLruIdeal.main_arg7) = m ((c.tc : Thread Cert.ProjLruIdeal.nD Cert.ProjLruIdeal.τ).loc Cert.ProjLruIdeal.main_arg7)
          ∧ r.2.mem ((c.tc : Thread Cert.ProjLruIdeal.nD Cert.ProjLruIdeal.τ).loc Cert.ProjLruIdeal.main_arg8) = m ((c.tc : Thread Cert.ProjLruIdeal.nD Cert.ProjLruIdeal.τ).loc Cert.ProjLruIdeal.main_arg8)
          ∧ r.2.mem ((c.tc : Thread Cert.ProjLruIdeal.nD Cert.ProjLruIdeal.τ).loc Cert.ProjLruIdeal.main_arg9) = m ((c.tc : Thread Cert.ProjLruIdeal.nD Cert.ProjLruIdeal.τ).loc Cert.ProjLruIdeal.main_arg9))
      ∧ θ_run (Cert.ProjLruRefIdeal.defs (F := Ideal)) (onTc (τ := Cert.ProjLruRefIdeal.τ) (Cert.ProjLruRefIdeal.main (F := Ideal))) ⟨m', fun _ => 0, g'⟩ (fun r => ∀ c : Dev Cert.ProjLruRefIdeal.nD,
          r.2.mem ((c.tc : Thread Cert.ProjLruRefIdeal.nD Cert.ProjLruRefIdeal.τ).loc Cert.ProjLruRefIdeal.main_v99) = v0 c
          ∧ r.2.mem ((c.tc : Thread Cert.ProjLruRefIdeal.nD Cert.ProjLruRefIdeal.τ).loc Cert.ProjLruRefIdeal.main_v100) = v1 c
          ∧ r.2.mem ((c.tc : Thread Cert.ProjLruRefIdeal.nD Cert.ProjLruRefIdeal.τ).loc Cert.ProjLruRefIdeal.main_v101) = v2 c
          ∧ r.2.mem ((c.tc : Thread Cert.ProjLruRefIdeal.nD Cert.ProjLruRefIdeal.τ).loc Cert.ProjLruRefIdeal.main_v98) = v3 c
          ∧ r.2.mem ((c.tc : Thread Cert.ProjLruRefIdeal.nD Cert.ProjLruRefIdeal.τ).loc Cert.ProjLruRefIdeal.main_arg0) = m' ((c.tc : Thread Cert.ProjLruRefIdeal.nD Cert.ProjLruRefIdeal.τ).loc Cert.ProjLruRefIdeal.main_arg0)
          ∧ r.2.mem ((c.tc : Thread Cert.ProjLruRefIdeal.nD Cert.ProjLruRefIdeal.τ).loc Cert.ProjLruRefIdeal.main_arg1) = m' ((c.tc : Thread Cert.ProjLruRefIdeal.nD Cert.ProjLruRefIdeal.τ).loc Cert.ProjLruRefIdeal.main_arg1)
          ∧ r.2.mem ((c.tc : Thread Cert.ProjLruRefIdeal.nD Cert.ProjLruRefIdeal.τ).loc Cert.ProjLruRefIdeal.main_arg2) = m' ((c.tc : Thread Cert.ProjLruRefIdeal.nD Cert.ProjLruRefIdeal.τ).loc Cert.ProjLruRefIdeal.main_arg2)
          ∧ r.2.mem ((c.tc : Thread Cert.ProjLruRefIdeal.nD Cert.ProjLruRefIdeal.τ).loc Cert.ProjLruRefIdeal.main_arg3) = m' ((c.tc : Thread Cert.ProjLruRefIdeal.nD Cert.ProjLruRefIdeal.τ).loc Cert.ProjLruRefIdeal.main_arg3)
          ∧ r.2.mem ((c.tc : Thread Cert.ProjLruRefIdeal.nD Cert.ProjLruRefIdeal.τ).loc Cert.ProjLruRefIdeal.main_arg4) = m' ((c.tc : Thread Cert.ProjLruRefIdeal.nD Cert.ProjLruRefIdeal.τ).loc Cert.ProjLruRefIdeal.main_arg4)
          ∧ r.2.mem ((c.tc : Thread Cert.ProjLruRefIdeal.nD Cert.ProjLruRefIdeal.τ).loc Cert.ProjLruRefIdeal.main_arg5) = m' ((c.tc : Thread Cert.ProjLruRefIdeal.nD Cert.ProjLruRefIdeal.τ).loc Cert.ProjLruRefIdeal.main_arg5)
          ∧ r.2.mem ((c.tc : Thread Cert.ProjLruRefIdeal.nD Cert.ProjLruRefIdeal.τ).loc Cert.ProjLruRefIdeal.main_arg6) = m' ((c.tc : Thread Cert.ProjLruRefIdeal.nD Cert.ProjLruRefIdeal.τ).loc Cert.ProjLruRefIdeal.main_arg6)
          ∧ r.2.mem ((c.tc : Thread Cert.ProjLruRefIdeal.nD Cert.ProjLruRefIdeal.τ).loc Cert.ProjLruRefIdeal.main_arg7) = m' ((c.tc : Thread Cert.ProjLruRefIdeal.nD Cert.ProjLruRefIdeal.τ).loc Cert.ProjLruRefIdeal.main_arg7)
          ∧ r.2.mem ((c.tc : Thread Cert.ProjLruRefIdeal.nD Cert.ProjLruRefIdeal.τ).loc Cert.ProjLruRefIdeal.main_arg8) = m' ((c.tc : Thread Cert.ProjLruRefIdeal.nD Cert.ProjLruRefIdeal.τ).loc Cert.ProjLruRefIdeal.main_arg8)
          ∧ r.2.mem ((c.tc : Thread Cert.ProjLruRefIdeal.nD Cert.ProjLruRefIdeal.τ).loc Cert.ProjLruRefIdeal.main_arg9) = m' ((c.tc : Thread Cert.ProjLruRefIdeal.nD Cert.ProjLruRefIdeal.τ).loc Cert.ProjLruRefIdeal.main_arg9))

def Claim : Prop :=
  ∃ (hMoba : Cert.Moba.Facts) (hMobaIdeal : Cert.MobaIdeal.Facts) (hMobaRefIdeal : Cert.MobaRefIdeal.Facts) (hFfn : Cert.Ffn.Facts) (hFfnIdeal : Cert.FfnIdeal.Facts) (hFfnRefIdeal : Cert.FfnRefIdeal.Facts) (hMixFfn : Cert.MixFfn.Facts) (hMixFfnIdeal : Cert.MixFfnIdeal.Facts) (hMixFfnRefIdeal : Cert.MixFfnRefIdeal.Facts) (hSconv : Cert.Sconv.Facts) (hSconvIdeal : Cert.SconvIdeal.Facts) (hSconvRefIdeal : Cert.SconvRefIdeal.Facts) (hProjLru : Cert.ProjLru.Facts) (hProjLruIdeal : Cert.ProjLruIdeal.Facts) (hProjLruRefIdeal : Cert.ProjLruRefIdeal.Facts) (hPre_finite : Cert.Pre_finite.Facts),
    quiescent_Moba (hMoba := hMoba)
    ∧ quiescent_MobaIdeal (hMobaIdeal := hMobaIdeal)
    ∧ quiescent_MobaIdeal_pre_finite (hMobaIdeal := hMobaIdeal) (hPre_finite := hPre_finite)
    ∧ quiescent_MobaRefIdeal (hMobaRefIdeal := hMobaRefIdeal)
    ∧ quiescent_MobaRefIdeal_pre_finite (hMobaRefIdeal := hMobaRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_MixFfn (hMixFfn := hMixFfn)
    ∧ quiescent_MixFfnIdeal (hMixFfnIdeal := hMixFfnIdeal)
    ∧ quiescent_MixFfnRefIdeal (hMixFfnRefIdeal := hMixFfnRefIdeal)
    ∧ quiescent_Sconv (hSconv := hSconv)
    ∧ quiescent_SconvIdeal (hSconvIdeal := hSconvIdeal)
    ∧ quiescent_SconvRefIdeal (hSconvRefIdeal := hSconvRefIdeal)
    ∧ quiescent_ProjLru (hProjLru := hProjLru)
    ∧ quiescent_ProjLruIdeal (hProjLruIdeal := hProjLruIdeal)
    ∧ quiescent_ProjLruRefIdeal (hProjLruRefIdeal := hProjLruRefIdeal)
    ∧ preserves_Moba_MobaIdeal
    ∧ algebraic_MobaIdeal_MobaRefIdeal_pre_finite (hMobaIdeal := hMobaIdeal) (hMobaRefIdeal := hMobaRefIdeal) (hPre_finite := hPre_finite)
    ∧ preserves_Ffn_FfnIdeal
    ∧ algebraic_FfnIdeal_FfnRefIdeal (hFfnIdeal := hFfnIdeal) (hFfnRefIdeal := hFfnRefIdeal)
    ∧ preserves_MixFfn_MixFfnIdeal
    ∧ algebraic_MixFfnIdeal_MixFfnRefIdeal (hMixFfnIdeal := hMixFfnIdeal) (hMixFfnRefIdeal := hMixFfnRefIdeal)
    ∧ preserves_Sconv_SconvIdeal
    ∧ algebraic_SconvIdeal_SconvRefIdeal (hSconvIdeal := hSconvIdeal) (hSconvRefIdeal := hSconvRefIdeal)
    ∧ preserves_ProjLru_ProjLruIdeal
    ∧ algebraic_ProjLruIdeal_ProjLruRefIdeal (hProjLruIdeal := hProjLruIdeal) (hProjLruRefIdeal := hProjLruRefIdeal)
-- ==== Pre_finite.lean ====
abbrev S16x2048x8x64 : Shape := ⟨4, ![16, 2048, 8, 64]⟩
abbrev S_ : Shape := ⟨0, ![]⟩

class Facts : Prop where
  bcast_S_S16x2048x8x64 : S_.BroadcastsInDim S16x2048x8x64 (![] : Fin 0 → Fin S16x2048x8x64.rank)

variable [Facts]

def fn {F : FTy → Type} [FloatOps F] (main_arg0 : FVec F S16x2048x8x64 .f32) (main_arg1 : FVec F S16x2048x8x64 .f32) (main_arg2 : FVec F S16x2048x8x64 .f32) : IVec S16x2048x8x64 1 × IVec S16x2048x8x64 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  (main_v2, main_v5)
-- ==== Moba.lean ====
abbrev S16x2048x8x64 : Shape := ⟨4, ![16, 2048, 8, 64]⟩
abbrev S16x8x256x512 : Shape := ⟨4, ![16, 8, 256, 512]⟩
abbrev S_ : Shape := ⟨0, ![]⟩
abbrev S16x8x512 : Shape := ⟨3, ![16, 8, 512]⟩
abbrev S16x2048x512 : Shape := ⟨3, ![16, 2048, 512]⟩
abbrev S1x1024x512 : Shape := ⟨3, ![1, 1024, 512]⟩
abbrev S1x2048x512 : Shape := ⟨3, ![1, 2048, 512]⟩
abbrev S1x8x512 : Shape := ⟨3, ![1, 8, 512]⟩
abbrev S1x128 : Shape := ⟨2, ![1, 128]⟩
abbrev S256x512 : Shape := ⟨2, ![256, 512]⟩
abbrev S1x256x128 : Shape := ⟨3, ![1, 256, 128]⟩
abbrev S256x128 : Shape := ⟨2, ![256, 128]⟩
abbrev S512x128 : Shape := ⟨2, ![512, 128]⟩
abbrev S512 : Shape := ⟨1, ![512]⟩
abbrev S1x512 : Shape := ⟨2, ![1, 512]⟩
abbrev S128x512 : Shape := ⟨2, ![128, 512]⟩
abbrev S64x256 : Shape := ⟨2, ![64, 256]⟩
abbrev S128x256 : Shape := ⟨2, ![128, 256]⟩
abbrev S1x8x128 : Shape := ⟨3, ![1, 8, 128]⟩
abbrev S8x128 : Shape := ⟨2, ![8, 128]⟩
abbrev S24x128 : Shape := ⟨2, ![24, 128]⟩
abbrev S24x512 : Shape := ⟨2, ![24, 512]⟩
abbrev S8x512 : Shape := ⟨2, ![8, 512]⟩
abbrev S1x512x128 : Shape := ⟨3, ![1, 512, 128]⟩
abbrev S512x512 : Shape := ⟨2, ![512, 512]⟩
abbrev S1x768x128 : Shape := ⟨3, ![1, 768, 128]⟩
abbrev S768x128 : Shape := ⟨2, ![768, 128]⟩
abbrev S768x512 : Shape := ⟨2, ![768, 512]⟩
abbrev S1x1024x128 : Shape := ⟨3, ![1, 1024, 128]⟩
abbrev S1024x128 : Shape := ⟨2, ![1024, 128]⟩
abbrev S1024x512 : Shape := ⟨2, ![1024, 512]⟩
abbrev S1x1280x128 : Shape := ⟨3, ![1, 1280, 128]⟩
abbrev S1280x128 : Shape := ⟨2, ![1280, 128]⟩
abbrev S1280x512 : Shape := ⟨2, ![1280, 512]⟩
abbrev S1x1536x128 : Shape := ⟨3, ![1, 1536, 128]⟩
abbrev S1536x128 : Shape := ⟨2, ![1536, 128]⟩
abbrev S1536x512 : Shape := ⟨2, ![1536, 512]⟩
abbrev S1x1792x128 : Shape := ⟨3, ![1, 1792, 128]⟩
abbrev S1792x128 : Shape := ⟨2, ![1792, 128]⟩
abbrev S1792x512 : Shape := ⟨2, ![1792, 512]⟩
abbrev S1x2048x128 : Shape := ⟨3, ![1, 2048, 128]⟩
abbrev S2048x128 : Shape := ⟨2, ![2048, 128]⟩
abbrev S2048x512 : Shape := ⟨2, ![2048, 512]⟩

abbrev nBuf : Space → Nat
  | .hbm => 15
  | .vmem => 10
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x8x256x512, .f32⟩
  | .hbm, ⟨4, _⟩ => ⟨S_, .f32⟩
  | .hbm, ⟨5, _⟩ => ⟨S16x8x512, .f32⟩
  | .hbm, ⟨6, _⟩ => ⟨S_, .f32⟩
  | .hbm, ⟨7, _⟩ => ⟨S16x8x512, .f32⟩
  | .hbm, ⟨8, _⟩ => ⟨S16x8x512, .f32⟩
  | .hbm, ⟨9, _⟩ => ⟨S16x2048x8x64, .bf16⟩
  | .hbm, ⟨10, _⟩ => ⟨S16x2048x8x64, .bf16⟩
  | .hbm, ⟨11, _⟩ => ⟨S16x2048x512, .f32⟩
  | .hbm, ⟨12, _⟩ => ⟨S16x2048x512, .bf16⟩
  | .hbm, ⟨13, _⟩ => ⟨S16x2048x512, .bf16⟩
  | .hbm, ⟨14, _⟩ => ⟨S16x2048x512, .bf16⟩
  | .local _ .vmem, ⟨0, _⟩ => ⟨S1x1024x512, .f32⟩
  | .local _ .vmem, ⟨1, _⟩ => ⟨S1x1024x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x8x512, .f32⟩
  | .local _ .vmem, ⟨7, _⟩ => ⟨S1x8x512, .f32⟩
  | .local _ .vmem, ⟨8, _⟩ => ⟨S1x1024x512, .bf16⟩
  | .local _ .vmem, ⟨9, _⟩ => ⟨S1x1024x512, .bf16⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32_3 : BitVec 32 := 0#32
  let v20 : BitVec 1 := Scalar.cmpi .eq arg2 c0_i32_3
  let v21 : BitVec 32 := Scalar.extui v20
  let c0_i32_4 : BitVec 32 := 0#32
  let v22 : BitVec 1 := Scalar.cmpi .ne v21 c0_i32_4
  v22

def k0_cond2 (i : grid0.Coords) : BitVec 1 :=
  let arg2 : BitVec 32 := BitVec.ofNat 32 (i 2).val
  let c1_i32_5 : BitVec 32 := 1#32
  let v23 : BitVec 1 := Scalar.cmpi .eq arg2 c1_i32_5
  let v24 : BitVec 32 := Scalar.extui v23
  let c0_i32_6 : BitVec 32 := 0#32
  let v25 : BitVec 1 := Scalar.cmpi .ne v24 c0_i32_6
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MobaIdeal.lean ====
variable {F : FTy → Type} [FloatOps F] [Named F]
def κ : String → Option EReal := fun
  | "mask" => some ⊥
  | "scale" => some ((8⁻¹ * (Real.log 2)⁻¹ : ℝ) : EReal)
  | _ => none
-- ==== MobaRefIdeal.lean ====
abbrev S16x2048x8x64 : Shape := ⟨4, ![16, 2048, 8, 64]⟩
abbrev S16x8x256x8x64 : Shape := ⟨5, ![16, 8, 256, 8, 64]⟩
abbrev S_ : Shape := ⟨0, ![]⟩
abbrev S16x8x8x64 : Shape := ⟨4, ![16, 8, 8, 64]⟩
abbrev S8 : Shape := ⟨1, ![8]⟩
abbrev S2048 : Shape := ⟨1, ![2048]⟩
abbrev S16x8x2048x8 : Shape := ⟨4, ![16, 8, 2048, 8]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S1x1x2048x1 : Shape := ⟨4, ![1, 1, 2048, 1]⟩
abbrev S16x8x2048x3x1 : Shape := ⟨5, ![16, 8, 2048, 3, 1]⟩
abbrev S1x1x1x1x8 : Shape := ⟨5, ![1, 1, 1, 1, 8]⟩
abbrev S16x8x2048x3x8 : Shape := ⟨5, ![16, 8, 2048, 3, 8]⟩
abbrev S16x8x2048x8x1 : Shape := ⟨5, ![16, 8, 2048, 8, 1]⟩
abbrev S16x8x2048x8x256 : Shape := ⟨5, ![16, 8, 2048, 8, 256]⟩
abbrev S16x8x2048x2048 : Shape := ⟨4, ![16, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x512 : Shape := ⟨3, ![16, 2048, 512]⟩

abbrev nBuf : Space → Nat
  | .hbm => 99
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x8x256x8x64, .f32⟩
  | .hbm, ⟨4, _⟩ => ⟨S_, .f32⟩
  | .hbm, ⟨5, _⟩ => ⟨S16x8x8x64, .f32⟩
  | .hbm, ⟨6, _⟩ => ⟨S_, .f32⟩
  | .hbm, ⟨7, _⟩ => ⟨S16x8x8x64, .f32⟩
  | .hbm, ⟨8, _⟩ => ⟨S16x8x8x64, .f32⟩
  | .hbm, ⟨9, _⟩ => ⟨S8, .i32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S16x8x2048x8, .f32⟩
  | .hbm, ⟨30, _⟩ => ⟨S1x8, .i32⟩
  | .hbm, ⟨31, _⟩ => ⟨S2048x1, .i32⟩
  | .hbm, ⟨32, _⟩ => ⟨S2048x8, .i32⟩
  | .hbm, ⟨33, _⟩ => ⟨S2048x8, .i32⟩
  | .hbm, ⟨34, _⟩ => ⟨S2048x8, .i1⟩
  | .hbm, ⟨35, _⟩ => ⟨S_, .f32⟩
  | .hbm, ⟨36, _⟩ => ⟨S_, .f32⟩
  | .hbm, ⟨37, _⟩ => ⟨S16x8x2048x8, .i1⟩
  | .hbm, ⟨38, _⟩ => ⟨S16x8x2048x8, .f32⟩
  | .hbm, ⟨39, _⟩ => ⟨S16x8x2048x8, .f32⟩
  | .hbm, ⟨40, _⟩ => ⟨S16x8x2048x3, .f32⟩
  | .hbm, ⟨41, _⟩ => ⟨S16x8x2048x3, .i32⟩
  | .hbm, ⟨42, _⟩ => ⟨S2048x1, .i32⟩
  | .hbm, ⟨43, _⟩ => ⟨S1x1x2048x1, .i32⟩
  | .hbm, ⟨44, _⟩ => ⟨S16x8x2048x3, .i32⟩
  | .hbm, ⟨45, _⟩ => ⟨S16x8x2048x3, .i1⟩
  | .hbm, ⟨46, _⟩ => ⟨S16x8x2048x3x1, .i32⟩
  | .hbm, ⟨47, _⟩ => ⟨S1x1x1x1x8, .i32⟩
  | .hbm, ⟨48, _⟩ => ⟨S16x8x2048x3x8, .i32⟩
  | .hbm, ⟨49, _⟩ => ⟨S16x8x2048x3x8, .i32⟩
  | .hbm, ⟨50, _⟩ => ⟨S16x8x2048x3x8, .i1⟩
  | .hbm, ⟨51, _⟩ => ⟨S16x8x2048x3x1, .i1⟩
  | .hbm, ⟨52, _⟩ => ⟨S16x8x2048x3x8, .i1⟩
  | .hbm, ⟨53, _⟩ => ⟨S16x8x2048x3x8, .i1⟩
  | .hbm, ⟨54, _⟩ => ⟨S_, .i1⟩
  | .hbm, ⟨55, _⟩ => ⟨S16x8x2048x8, .i1⟩
  | .hbm, ⟨56, _⟩ => ⟨S16x8x2048x8x1, .i1⟩
  | .hbm, ⟨57, _⟩ => ⟨S16x8x2048x8x256, .i1⟩
  | .hbm, ⟨58, _⟩ => ⟨S16x8x2048x2048, .i1⟩
  | .hbm, ⟨59, _⟩ => ⟨S1x2048, .i32⟩
  | .hbm, ⟨60, _⟩ => ⟨S2048x1, .i32⟩
  | .hbm, ⟨61, _⟩ => ⟨S2048x2048, .i32⟩
  | .hbm, ⟨62, _⟩ => ⟨S2048x2048, .i32⟩
  | .hbm, ⟨63, _⟩ => ⟨S2048x2048, .i1⟩
  | .hbm, ⟨64, _⟩ => ⟨S1x2048, .i32⟩
  | .hbm, ⟨65, _⟩ => ⟨S2048x1, .i32⟩
  | .hbm, ⟨66, _⟩ => ⟨S2048x2048, .i32⟩
  | .hbm, ⟨67, _⟩ => ⟨S2048x2048, .i32⟩
  | .hbm, ⟨68, _⟩ => ⟨S2048x2048, .i1⟩
  | .hbm, ⟨69, _⟩ => ⟨S2048x2048, .i1⟩
  | .hbm, ⟨70, _⟩ => ⟨S16x8x2048x2048, .f32⟩
  | .hbm, ⟨71, _⟩ => ⟨S_, .f32⟩
  | .hbm, ⟨72, _⟩ => ⟨S16x8x2048x2048, .f32⟩
  | .hbm, ⟨73, _⟩ => ⟨S16x8x2048x2048, .f32⟩
  | .hbm, ⟨74, _⟩ => ⟨S1x1x2048x2048, .i1⟩
  | .hbm, ⟨75, _⟩ => ⟨S16x8x2048x2048, .i1⟩
  | .hbm, ⟨76, _⟩ => ⟨S16x8x2048x2048, .i1⟩
  | .hbm, ⟨77, _⟩ => ⟨S_, .f32⟩
  | .hbm, ⟨78, _⟩ => ⟨S_, .f32⟩
  | .hbm, ⟨79, _⟩ => ⟨S16x8x2048x2048, .f32⟩
  | .hbm, ⟨80, _⟩ => ⟨S16x8x2048x2048, .f32⟩
  | .hbm, ⟨81, _⟩ => ⟨S_, .f32⟩
  | .hbm, ⟨82, _⟩ => ⟨S16x8x2048, .f32⟩
  | .hbm, ⟨83, _⟩ => ⟨S_, .f32⟩
  | .hbm, ⟨84, _⟩ => ⟨S16x8x2048, .f32⟩
  | .hbm, ⟨85, _⟩ => ⟨S16x8x2048, .f32⟩
  | .hbm, ⟨86, _⟩ => ⟨S16x8x2048x1, .f32⟩
  | .hbm, ⟨87, _⟩ => ⟨S16x8x2048x2048, .f32⟩
  | .hbm, ⟨88, _⟩ => ⟨S16x8x2048x2048, .f32⟩
  | .hbm, ⟨89, _⟩ => ⟨S16x8x2048x2048, .f32⟩
  | .hbm, ⟨90, _⟩ => ⟨S_, .f32⟩
  | .hbm, ⟨91, _⟩ => ⟨S16x8x2048, .f32⟩
  | .hbm, ⟨92, _⟩ => ⟨S16x8x2048x1, .f32⟩
  | .hbm, ⟨93, _⟩ => ⟨S16x8x2048x2048, .f32⟩
  | .hbm, ⟨94, _⟩ => ⟨S16x8x2048x2048, .f32⟩
  | .hbm, ⟨95, _⟩ => ⟨S16x8x64x2048, .f32⟩
  | .hbm, ⟨96, _⟩ => ⟨S16x2048x8x64, .f32⟩
  | .hbm, ⟨97, _⟩ => ⟨S16x2048x512, .f32⟩
  | .hbm, ⟨98, _⟩ => ⟨S16x2048x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v13 : Ref sig .tc := ⟨.hbm, 39, rfl⟩
abbrev main_values : Ref sig .tc := ⟨.hbm, 40, rfl⟩
abbrev main_indices : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_4 : Ref sig .tc := ⟨.hbm, 77, rfl⟩
abbrev main_call2_v0 : Ref sig .tc := ⟨.hbm, 78, rfl⟩
abbrev main_call2_v1 : Ref sig .tc := ⟨.hbm, 79, rfl⟩
abbrev main_v47 : Ref sig .tc := ⟨.hbm, 80, rfl⟩
abbrev main_cst_5 : Ref sig .tc := ⟨.hbm, 81, rfl⟩
abbrev main_v48 : Ref sig .tc := ⟨.hbm, 82, rfl⟩
abbrev main_cst_6 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩

abbrev nD : Nat := 1
abbrev τ : Topo := Topo.v7x

variable {F : FTy → Type} [FloatOps F]
-- ==== Ffn.lean ====
abbrev S16x2048x1024 : Shape := ⟨3, ![16, 2048, 1024]⟩
abbrev S4x3x1024 : Shape := ⟨3, ![4, 3, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩

abbrev nBuf : Space → Nat
  | .hbm => 17
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S4x3x1024, .f32⟩
  | .hbm, ⟨2, _⟩ => ⟨S4x3x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S32768x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1024x1024, .f32⟩
  | .local _ .vmem, ⟨8, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16x2048x1024 : Shape := ⟨3, ![16, 2048, 1024]⟩
abbrev S4x3x1024 : Shape := ⟨3, ![4, 3, 1024]⟩
abbrev S4x1024x2816 : Shape := ⟨3, ![4, 1024, 2816]⟩
abbrev S4x2816x1024 : Shape := ⟨3, ![4, 2816, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x3x1024, .f32⟩
  | .hbm, ⟨2, _⟩ => ⟨S4x3x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1x1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S_, .f32⟩
  | .hbm, ⟨34, _⟩ => ⟨S16x2048x2816, .f32⟩
  | .hbm, ⟨35, _⟩ => ⟨S16x2048x2816, .f32⟩
  | .hbm, ⟨36, _⟩ => ⟨S_, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x1024, .f32⟩
  | .hbm, ⟨43, _⟩ => ⟨S1x1x1024, .f32⟩
  | .hbm, ⟨44, _⟩ => ⟨S1024, .f32⟩
  | .hbm, ⟨45, _⟩ => ⟨S16x2048x1024, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== MixFfn.lean ====
abbrev S16x2048x1024 : Shape := ⟨3, ![16, 2048, 1024]⟩
abbrev S16x2048x512 : Shape := ⟨3, ![16, 2048, 512]⟩
abbrev S4x3x1024 : Shape := ⟨3, ![4, 3, 1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S32768x512 : Shape := ⟨2, ![32768, 512]⟩
abbrev S1x1x1024 : Shape := ⟨3, ![1, 1, 1024]⟩
abbrev S1024 : Shape := ⟨1, ![1024]⟩
abbrev S1x1024 : Shape := ⟨2, ![1, 1024]⟩
abbrev S32768x1024 : Shape := ⟨2, ![32768, 1024]⟩
abbrev S1024x1024 : Shape := ⟨2, ![1024, 1024]⟩
abbrev S1024x512 : Shape := ⟨2, ![1024, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S256x512 : Shape := ⟨2, ![256, 512]⟩
abbrev S1x512x1024 : Shape := ⟨3, ![1, 512, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩

abbrev nBuf : Space → Nat
  | .hbm => 28
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S4x3x1024, .f32⟩
  | .hbm, ⟨4, _⟩ => ⟨S4x3x1024, .f32⟩
  | .hbm, ⟨5, _⟩ => ⟨S2x1024x1024, .f32⟩
  | .hbm, ⟨6, _⟩ => ⟨S4x1024x2816, .f32⟩
  | .hbm, ⟨7, _⟩ => ⟨S4x1024x2816, .f32⟩
  | .hbm, ⟨8, _⟩ => ⟨S4x2816x1024, .f32⟩
  | .hbm, ⟨9, _⟩ => ⟨S2x1024x1024, .bf16⟩
  | .hbm, ⟨10, _⟩ => ⟨S4x1024x2816, .bf16⟩
  | .hbm, ⟨11, _⟩ => ⟨S4x1024x2816, .bf16⟩
  | .hbm, ⟨12, _⟩ => ⟨S4x2816x1024, .bf16⟩
  | .hbm, ⟨13, _⟩ => ⟨S16x2048x512, .bf16⟩
  | .hbm, ⟨14, _⟩ => ⟨S32768x512, .bf16⟩
  | .hbm, ⟨15, _⟩ => ⟨S16x2048x512, .bf16⟩
  | .hbm, ⟨16, _⟩ => ⟨S32768x512, .bf16⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S32768x1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S1x1x1024, .f32⟩
  | .hbm, ⟨25, _⟩ => ⟨S1024, .f32⟩
  | .hbm, ⟨26, _⟩ => ⟨S1x1024, .f32⟩
  | .hbm, ⟨27, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1x1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1024x1024, .f32⟩
  | .local _ .vmem, ⟨14, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixFfnRefIdeal.lean ====
abbrev S16x2048x1024 : Shape := ⟨3, ![16, 2048, 1024]⟩
abbrev S16x2048x512 : Shape := ⟨3, ![16, 2048, 512]⟩
abbrev S4x3x1024 : Shape := ⟨3, ![4, 3, 1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S4x3x1024, .f32⟩
  | .hbm, ⟨4, _⟩ => ⟨S4x3x1024, .f32⟩
  | .hbm, ⟨5, _⟩ => ⟨S2x1024x1024, .f32⟩
  | .hbm, ⟨6, _⟩ => ⟨S4x1024x2816, .f32⟩
  | .hbm, ⟨7, _⟩ => ⟨S4x1024x2816, .f32⟩
  | .hbm, ⟨8, _⟩ => ⟨S4x2816x1024, .f32⟩
  | .hbm, ⟨9, _⟩ => ⟨S16x2048x1024, .f32⟩
  | .hbm, ⟨10, _⟩ => ⟨S1x1024x1024, .f32⟩
  | .hbm, ⟨11, _⟩ => ⟨S1024x1024, .f32⟩
  | .hbm, ⟨12, _⟩ => ⟨S16x2048x1024, .f32⟩
  | .hbm, ⟨13, _⟩ => ⟨S1x1x1024, .f32⟩
  | .hbm, ⟨14, _⟩ => ⟨S1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S1x1024x2816, .f32⟩
  | .hbm, ⟨51, _⟩ => ⟨S1024x2816, .f32⟩
  | .hbm, ⟨52, _⟩ => ⟨S1x1024x2816, .f32⟩
  | .hbm, ⟨53, _⟩ => ⟨S1024x2816, .f32⟩
  | .hbm, ⟨54, _⟩ => ⟨S1x2816x1024, .f32⟩
  | .hbm, ⟨55, _⟩ => ⟨S2816x1024, .f32⟩
  | .hbm, ⟨56, _⟩ => ⟨S16x2048x2816, .f32⟩
  | .hbm, ⟨57, _⟩ => ⟨S16x2048x2816, .f32⟩
  | .hbm, ⟨58, _⟩ => ⟨S16x2048x2816, .f32⟩
  | .hbm, ⟨59, _⟩ => ⟨S_, .f32⟩
  | .hbm, ⟨60, _⟩ => ⟨S16x2048x2816, .f32⟩
  | .hbm, ⟨61, _⟩ => ⟨S16x2048x2816, .f32⟩
  | .hbm, ⟨62, _⟩ => ⟨S_, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S16x2048x1024, .f32⟩
  | .hbm, ⟨69, _⟩ => ⟨S1x1x1024, .f32⟩
  | .hbm, ⟨70, _⟩ => ⟨S1024, .f32⟩
  | .hbm, ⟨71, _⟩ => ⟨S16x2048x1024, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S1x1x1024, .f32⟩
  | .hbm, ⟨85, _⟩ => ⟨S16x2048x1024, .f32⟩
  | .hbm, ⟨86, _⟩ => ⟨S16x2048x1024, .f32⟩
  | .hbm, ⟨87, _⟩ => ⟨S_, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Sconv.lean ====
abbrev S16x2048x1024 : Shape := ⟨3, ![16, 2048, 1024]⟩
abbrev S4x3x1024 : Shape := ⟨3, ![4, 3, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x8x1024 : Shape := ⟨3, ![1, 8, 1024]⟩
abbrev S256x1024 : Shape := ⟨2, ![256, 1024]⟩
abbrev S256 : Shape := ⟨1, ![256]⟩
abbrev S256x1 : Shape := ⟨2, ![256, 1]⟩
abbrev S1x1024x2048 : Shape := ⟨3, ![1, 1024, 2048]⟩
abbrev S1024x2048 : Shape := ⟨2, ![1024, 2048]⟩
abbrev S256x2048 : Shape := ⟨2, ![256, 2048]⟩
abbrev S32x8x1024 : Shape := ⟨3, ![32, 8, 1024]⟩
abbrev S1x8x1 : Shape := ⟨3, ![1, 8, 1]⟩
abbrev S31x8x1024 : Shape := ⟨3, ![31, 8, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S4x3x1024, .f32⟩
  | .hbm, ⟨2, _⟩ => ⟨S4x3x1024, .f32⟩
  | .hbm, ⟨3, _⟩ => ⟨S2x1024x3072, .f32⟩
  | .hbm, ⟨4, _⟩ => ⟨S2x3x1024, .f32⟩
  | .hbm, ⟨5, _⟩ => ⟨S2x1024x1024, .f32⟩
  | .hbm, ⟨6, _⟩ => ⟨S32768x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S2x1024x3072, .bf16⟩
  | .hbm, ⟨14, _⟩ => ⟨S2x1024x1024, .bf16⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024x3072, .bf16⟩
  | .local _ .vmem, ⟨5, _⟩ => ⟨S1x3x1024, .f32⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1x8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SconvRefIdeal.lean ====
abbrev S16x2048x1024 : Shape := ⟨3, ![16, 2048, 1024]⟩
abbrev S4x3x1024 : Shape := ⟨3, ![4, 3, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1024x3072 : Shape := ⟨3, ![1, 1024, 3072]⟩
abbrev S1024x3072 : Shape := ⟨2, ![1024, 3072]⟩
abbrev S16x2048x3072 : Shape := ⟨3, ![16, 2048, 3072]⟩
abbrev S1x3x1024 : Shape := ⟨3, ![1, 3, 1024]⟩
abbrev S3x1024 : Shape := ⟨2, ![3, 1024]⟩
abbrev S16x2x1024 : Shape := ⟨3, ![16, 2, 1024]⟩
abbrev S16x2050x1024 : Shape := ⟨3, ![16, 2050, 1024]⟩
abbrev S1x1024 : Shape := ⟨2, ![1, 1024]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x3x1024, .f32⟩
  | .hbm, ⟨2, _⟩ => ⟨S4x3x1024, .f32⟩
  | .hbm, ⟨3, _⟩ => ⟨S2x1024x3072, .f32⟩
  | .hbm, ⟨4, _⟩ => ⟨S2x3x1024, .f32⟩
  | .hbm, ⟨5, _⟩ => ⟨S2x1024x1024, .f32⟩
  | .hbm, ⟨6, _⟩ => ⟨S1x1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x3072, .f32⟩
  | .hbm, ⟨25, _⟩ => ⟨S1024x3072, .f32⟩
  | .hbm, ⟨26, _⟩ => ⟨S16x2048x3072, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1x3x1024, .f32⟩
  | .hbm, ⟨32, _⟩ => ⟨S3x1024, .f32⟩
  | .hbm, ⟨33, _⟩ => ⟨S_, .f32⟩
  | .hbm, ⟨34, _⟩ => ⟨S16x2x1024, .f32⟩
  | .hbm, ⟨35, _⟩ => ⟨S16x2050x1024, .f32⟩
  | .hbm, ⟨36, _⟩ => ⟨S1x1024, .f32⟩
  | .hbm, ⟨37, _⟩ => ⟨S1024, .f32⟩
  | .hbm, ⟨38, _⟩ => ⟨S16x2048x1024, .f32⟩
  | .hbm, ⟨39, _⟩ => ⟨S1x1x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S1x1024, .f32⟩
  | .hbm, ⟨46, _⟩ => ⟨S1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S1x1024, .f32⟩
  | .hbm, ⟨53, _⟩ => ⟨S1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S1x1024x1024, .f32⟩
  | .hbm, ⟨61, _⟩ => ⟨S1024x1024, .f32⟩
  | .hbm, ⟨62, _⟩ => ⟨S16x2048x1024, .f32⟩
  | .hbm, ⟨63, _⟩ => ⟨S1x1x1024, .f32⟩
  | .hbm, ⟨64, _⟩ => ⟨S1024, .f32⟩
  | .hbm, ⟨65, _⟩ => ⟨S16x2048x1024, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | .hbm, ⟨82, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== ProjLru.lean ====
abbrev S16x2048x1024 : Shape := ⟨3, ![16, 2048, 1024]⟩
abbrev S4x3x1024 : Shape := ⟨3, ![4, 3, 1024]⟩
abbrev S2x1024x2560 : Shape := ⟨3, ![2, 1024, 2560]⟩
abbrev S2x4x512 : Shape := ⟨3, ![2, 4, 512]⟩
abbrev S2x512 : Shape := ⟨2, ![2, 512]⟩
abbrev S2x8x64x64 : Shape := ⟨4, ![2, 8, 64, 64]⟩
abbrev S2x8x64 : Shape := ⟨3, ![2, 8, 64]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S2x1x512 : Shape := ⟨3, ![2, 1, 512]⟩
abbrev S8x8 : Shape := ⟨2, ![8, 8]⟩
abbrev S2x8x64x1x64 : Shape := ⟨5, ![2, 8, 64, 1, 64]⟩
abbrev S1x8x1x8x1 : Shape := ⟨5, ![1, 8, 1, 8, 1]⟩
abbrev S2x8x64x8x64 : Shape := ⟨5, ![2, 8, 64, 8, 64]⟩
abbrev S2x512x512 : Shape := ⟨3, ![2, 512, 512]⟩
abbrev S32768x512 : Shape := ⟨2, ![32768, 512]⟩
abbrev S128x1x512 : Shape := ⟨3, ![128, 1, 512]⟩
abbrev S1024x1024 : Shape := ⟨2, ![1024, 1024]⟩
abbrev S1x1024x2560 : Shape := ⟨3, ![1, 1024, 2560]⟩
abbrev S1024x128 : Shape := ⟨2, ![1024, 128]⟩
abbrev S1x4x512 : Shape := ⟨3, ![1, 4, 512]⟩
abbrev S1x1x512 : Shape := ⟨3, ![1, 1, 512]⟩
abbrev S1x512x512 : Shape := ⟨3, ![1, 512, 512]⟩
abbrev S1024x512 : Shape := ⟨2, ![1024, 512]⟩
abbrev S4x1x512 : Shape := ⟨3, ![4, 1, 512]⟩
abbrev S1x8x512 : Shape := ⟨3, ![1, 8, 512]⟩
abbrev S1x512 : Shape := ⟨2, ![1, 512]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1x1024x1536 : Shape := ⟨3, ![1, 1024, 1536]⟩
abbrev S1024x1536 : Shape := ⟨2, ![1024, 1536]⟩
abbrev S256x1536 : Shape := ⟨2, ![256, 1536]⟩
abbrev S256x128 : Shape := ⟨2, ![256, 128]⟩
abbrev S256x512 : Shape := ⟨2, ![256, 512]⟩
abbrev S512 : Shape := ⟨1, ![512]⟩
abbrev S32x8x512 : Shape := ⟨3, ![32, 8, 512]⟩
abbrev S1x8x1 : Shape := ⟨3, ![1, 8, 1]⟩
abbrev S31x8x512 : Shape := ⟨3, ![31, 8, 512]⟩
abbrev S512x512 : Shape := ⟨2, ![512, 512]⟩
abbrev S8x512 : Shape := ⟨2, ![8, 512]⟩

abbrev nBuf : Space → Nat
  | .hbm => 93
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S4x3x1024, .f32⟩
  | .hbm, ⟨2, _⟩ => ⟨S2x1024x2560, .f32⟩
  | .hbm, ⟨3, _⟩ => ⟨S2x4x512, .f32⟩
  | .hbm, ⟨4, _⟩ => ⟨S2x512, .f32⟩
  | .hbm, ⟨5, _⟩ => ⟨S2x8x64x64, .f32⟩
  | .hbm, ⟨6, _⟩ => ⟨S2x8x64, .f32⟩
  | .hbm, ⟨7, _⟩ => ⟨S2x8x64x64, .f32⟩
  | .hbm, ⟨8, _⟩ => ⟨S2x8x64, .f32⟩
  | .hbm, ⟨9, _⟩ => ⟨S2x512, .f32⟩
  | .hbm, ⟨10, _⟩ => ⟨S2048, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S2048x1, .f32⟩
  | .hbm, ⟨26, _⟩ => ⟨S1x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S_, .f32⟩
  | .hbm, ⟨33, _⟩ => ⟨S2048x48, .f32⟩
  | .hbm, ⟨34, _⟩ => ⟨S_, .f32⟩
  | .hbm, ⟨35, _⟩ => ⟨S2048x48, .f32⟩
  | .hbm, ⟨36, _⟩ => ⟨S_, .f32⟩
  | .hbm, ⟨37, _⟩ => ⟨S2048x8, .f32⟩
  | .hbm, ⟨38, _⟩ => ⟨S2048x64, .f32⟩
  | .hbm, ⟨39, _⟩ => ⟨S2048x8, .f32⟩
  | .hbm, ⟨40, _⟩ => ⟨S2048x64, .f32⟩
  | .hbm, ⟨41, _⟩ => ⟨S2048x64, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S1x2048x1x64, .f32⟩
  | .hbm, ⟨46, _⟩ => ⟨S1x2048x2x64, .f32⟩
  | .hbm, ⟨47, _⟩ => ⟨S2048x128, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S32768x1024, .f32⟩
  | .hbm, ⟨52, _⟩ => ⟨S1x1x1024, .f32⟩
  | .hbm, ⟨53, _⟩ => ⟨S1024, .f32⟩
  | .hbm, ⟨54, _⟩ => ⟨S1x1024, .f32⟩
  | .hbm, ⟨55, _⟩ => ⟨S2x1024x2560, .bf16⟩
  | .hbm, ⟨56, _⟩ => ⟨S2x1x512, .f32⟩
  | .hbm, ⟨57, _⟩ => ⟨S8x8, .i32⟩
  | .hbm, ⟨58, _⟩ => ⟨S8x8, .i32⟩
  | .hbm, ⟨59, _⟩ => ⟨S_, .i32⟩
  | .hbm, ⟨60, _⟩ => ⟨S8x8, .i32⟩
  | .hbm, ⟨61, _⟩ => ⟨S8x8, .i32⟩
  | .hbm, ⟨62, _⟩ => ⟨S8x8, .i1⟩
  | .hbm, ⟨63, _⟩ => ⟨S8x8, .f32⟩
  | .hbm, ⟨64, _⟩ => ⟨S2x8x64x1x64, .f32⟩
  | .hbm, ⟨65, _⟩ => ⟨S1x8x1x8x1, .f32⟩
  | .hbm, ⟨66, _⟩ => ⟨S2x8x64x8x64, .f32⟩
  | .hbm, ⟨67, _⟩ => ⟨S2x8x64x8x64, .f32⟩
  | .hbm, ⟨68, _⟩ => ⟨S2x8x64x8x64, .f32⟩
  | .hbm, ⟨69, _⟩ => ⟨S2x512x512, .f32⟩
  | .hbm, ⟨70, _⟩ => ⟨S2x512x512, .bf16⟩
  | .hbm, ⟨71, _⟩ => ⟨S8x8, .i32⟩
  | .hbm, ⟨72, _⟩ => ⟨S8x8, .i32⟩
  | .hbm, ⟨73, _⟩ => ⟨S_, .i32⟩
  | .hbm, ⟨74, _⟩ => ⟨S8x8, .i32⟩
  | .hbm, ⟨75, _⟩ => ⟨S8x8, .i32⟩
  | .hbm, ⟨76, _⟩ => ⟨S8x8, .i1⟩
  | .hbm, ⟨77, _⟩ => ⟨S8x8, .f32⟩
  | .hbm, ⟨78, _⟩ => ⟨S2x8x64x1x64, .f32⟩
  | .hbm, ⟨79, _⟩ => ⟨S1x8x1x8x1, .f32⟩
  | .hbm, ⟨80, _⟩ => ⟨S2x8x64x8x64, .f32⟩
  | .hbm, ⟨81, _⟩ => ⟨S2x8x64x8x64, .f32⟩
  | .hbm, ⟨82, _⟩ => ⟨S2x8x64x8x64, .f32⟩
  | .hbm, ⟨83, _⟩ => ⟨S2x512x512, .f32⟩
  | .hbm, ⟨84, _⟩ => ⟨S2x512x512, .bf16⟩
  | .hbm, ⟨85, _⟩ => ⟨S2x1x512, .f32⟩
  | .hbm, ⟨86, _⟩ => ⟨S2x1x512, .f32⟩
  | .hbm, ⟨87, _⟩ => ⟨S2x1x512, .f32⟩
  | .hbm, ⟨88, _⟩ => ⟨S32768x512, .bf16⟩
  | .hbm, ⟨89, _⟩ => ⟨S32768x512, .bf16⟩
  | .hbm, ⟨90, _⟩ => ⟨S32768x512, .bf16⟩
  | .hbm, ⟨91, _⟩ => ⟨S128x1x512, .f32⟩
  | .hbm, ⟨92, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x4x512, .f32⟩
  | .local _ .vmem, ⟨11, _⟩ => ⟨S1x1x512, .f32⟩
  | .local _ .vmem, ⟨12, _⟩ => ⟨S1x512x512, .bf16⟩
  | .local _ .vmem, ⟨13, _⟩ => ⟨S1x512x512, .bf16⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S4x1x512, .f32⟩
  | .local _ .vmem, ⟨24, _⟩ => ⟨S4x1x512, .f32⟩
  | .local _ .vmem, ⟨25, _⟩ => ⟨S1024x512, .bf16⟩
  | .local _ .vmem, ⟨26, _⟩ => ⟨S1024x512, .bf16⟩
  | .local _ .vmem, ⟨27, _⟩ => ⟨S1x8x512, .f32⟩
  | .local _ .vmem, ⟨28, _⟩ => ⟨S1x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69_0 : Ref sig .tc := ⟨.hbm, 88, rfl⟩
abbrev main_v69_1 : Ref sig .tc := ⟨.hbm, 89, rfl⟩
abbrev main_v69_2 : Ref sig .tc := ⟨.hbm, 90, rfl⟩
abbrev main_v69_3 : Ref sig .tc := ⟨.hbm, 91, rfl⟩
abbrev main_v69_4 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjLruRefIdeal.lean ====
abbrev S16x2048x1024 : Shape := ⟨3, ![16, 2048, 1024]⟩
abbrev S4x3x1024 : Shape := ⟨3, ![4, 3, 1024]⟩
abbrev S2x1024x2560 : Shape := ⟨3, ![2, 1024, 2560]⟩
abbrev S2x4x512 : Shape := ⟨3, ![2, 4, 512]⟩
abbrev S2x512 : Shape := ⟨2, ![2, 512]⟩
abbrev S2x8x64x64 : Shape := ⟨4, ![2, 8, 64, 64]⟩
abbrev S2x8x64 : Shape := ⟨3, ![2, 8, 64]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1024x2560 : Shape := ⟨3, ![1, 1024, 2560]⟩
abbrev S1024x2560 : Shape := ⟨2, ![1024, 2560]⟩
abbrev S16x2048x2560 : Shape := ⟨3, ![16, 2048, 2560]⟩
abbrev S16x2048x512 : Shape := ⟨3, ![16, 2048, 512]⟩
abbrev S16x2048x8x64 : Shape := ⟨4, ![16, 2048, 8, 64]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x8x8 : Shape := ⟨4, ![16, 2048, 8, 8]⟩
abbrev S16x2048x8x48 : Shape := ⟨4, ![16, 2048, 8, 48]⟩
abbrev S32768x512 : Shape := ⟨2, ![32768, 512]⟩
abbrev S128x256x512 : Shape := ⟨3, ![128, 256, 512]⟩
abbrev S128x512 : Shape := ⟨2, ![128, 512]⟩
abbrev S128x1x512 : Shape := ⟨3, ![128, 1, 512]⟩

abbrev nBuf : Space → Nat
  | .hbm => 125
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x3x1024, .f32⟩
  | .hbm, ⟨2, _⟩ => ⟨S2x1024x2560, .f32⟩
  | .hbm, ⟨3, _⟩ => ⟨S2x4x512, .f32⟩
  | .hbm, ⟨4, _⟩ => ⟨S2x512, .f32⟩
  | .hbm, ⟨5, _⟩ => ⟨S2x8x64x64, .f32⟩
  | .hbm, ⟨6, _⟩ => ⟨S2x8x64, .f32⟩
  | .hbm, ⟨7, _⟩ => ⟨S2x8x64x64, .f32⟩
  | .hbm, ⟨8, _⟩ => ⟨S2x8x64, .f32⟩
  | .hbm, ⟨9, _⟩ => ⟨S2x512, .f32⟩
  | .hbm, ⟨10, _⟩ => ⟨S1x1x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S1x1024x2560, .f32⟩
  | .hbm, ⟨29, _⟩ => ⟨S1024x2560, .f32⟩
  | .hbm, ⟨30, _⟩ => ⟨S16x2048x2560, .f32⟩
  | .hbm, ⟨31, _⟩ => ⟨S16x2048x512, .f32⟩
  | .hbm, ⟨32, _⟩ => ⟨S16x2048x8x64, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S2048, .f32⟩
  | .hbm, ⟨48, _⟩ => ⟨S2048x1, .f32⟩
  | .hbm, ⟨49, _⟩ => ⟨S1x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S2048x8, .f32⟩
  | .hbm, ⟨54, _⟩ => ⟨S1x2048x1x8, .f32⟩
  | .hbm, ⟨55, _⟩ => ⟨S2048x8, .f32⟩
  | .hbm, ⟨56, _⟩ => ⟨S1x2048x1x8, .f32⟩
  | .hbm, ⟨57, _⟩ => ⟨S16x2048x8x8, .f32⟩
  | .hbm, ⟨58, _⟩ => ⟨S16x2048x8x8, .f32⟩
  | .hbm, ⟨59, _⟩ => ⟨S16x2048x8x48, .f32⟩
  | .hbm, ⟨60, _⟩ => ⟨S16x2048x8x8, .f32⟩
  | .hbm, ⟨61, _⟩ => ⟨S16x2048x8x8, .f32⟩
  | .hbm, ⟨62, _⟩ => ⟨S16x2048x8x8, .f32⟩
  | .hbm, ⟨63, _⟩ => ⟨S16x2048x8x8, .f32⟩
  | .hbm, ⟨64, _⟩ => ⟨S16x2048x8x8, .f32⟩
  | .hbm, ⟨65, _⟩ => ⟨S16x2048x8x8, .f32⟩
  | .hbm, ⟨66, _⟩ => ⟨S16x2048x8x8, .f32⟩
  | .hbm, ⟨67, _⟩ => ⟨S16x2048x8x8, .f32⟩
  | .hbm, ⟨68, _⟩ => ⟨S16x2048x8x8, .f32⟩
  | .hbm, ⟨69, _⟩ => ⟨S16x2048x8x8, .f32⟩
  | .hbm, ⟨70, _⟩ => ⟨S16x2048x8x64, .f32⟩
  | .hbm, ⟨71, _⟩ => ⟨S32768x512, .f32⟩
  | .hbm, ⟨72, _⟩ => ⟨S16x2048x512, .f32⟩
  | .hbm, ⟨73, _⟩ => ⟨S16x2048x8x64, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S2048, .f32⟩
  | .hbm, ⟨89, _⟩ => ⟨S2048x1, .f32⟩
  | .hbm, ⟨90, _⟩ => ⟨S1x8, .f32⟩
  | .hbm, ⟨91, _⟩ => ⟨S2048x8, .f32⟩
  | .hbm, ⟨92, _⟩ => ⟨S2048x8, .f32⟩
  | .hbm, ⟨93, _⟩ => ⟨S2048x8, .f32⟩
  | .hbm, ⟨94, _⟩ => ⟨S2048x8, .f32⟩
  | .hbm, ⟨95, _⟩ => ⟨S1x2048x1x8, .f32⟩
  | .hbm, ⟨96, _⟩ => ⟨S2048x8, .f32⟩
  | .hbm, ⟨97, _⟩ => ⟨S1x2048x1x8, .f32⟩
  | .hbm, ⟨98, _⟩ => ⟨S16x2048x8x8, .f32⟩
  | .hbm, ⟨99, _⟩ => ⟨S16x2048x8x8, .f32⟩
  | .hbm, ⟨100, _⟩ => ⟨S16x2048x8x48, .f32⟩
  | .hbm, ⟨101, _⟩ => ⟨S16x2048x8x8, .f32⟩
  | .hbm, ⟨102, _⟩ => ⟨S16x2048x8x8, .f32⟩
  | .hbm, ⟨103, _⟩ => ⟨S16x2048x8x8, .f32⟩
  | .hbm, ⟨104, _⟩ => ⟨S16x2048x8x8, .f32⟩
  | .hbm, ⟨105, _⟩ => ⟨S16x2048x8x8, .f32⟩
  | .hbm, ⟨106, _⟩ => ⟨S16x2048x8x8, .f32⟩
  | .hbm, ⟨107, _⟩ => ⟨S16x2048x8x8, .f32⟩
  | .hbm, ⟨108, _⟩ => ⟨S16x2048x8x8, .f32⟩
  | .hbm, ⟨109, _⟩ => ⟨S16x2048x8x8, .f32⟩
  | .hbm, ⟨110, _⟩ => ⟨S16x2048x8x8, .f32⟩
  | .hbm, ⟨111, _⟩ => ⟨S16x2048x8x64, .f32⟩
  | .hbm, ⟨112, _⟩ => ⟨S32768x512, .f32⟩
  | .hbm, ⟨113, _⟩ => ⟨S16x2048x512, .f32⟩
  | .hbm, ⟨114, _⟩ => ⟨S32768x512, .f32⟩
  | .hbm, ⟨115, _⟩ => ⟨S128x256x512, .f32⟩
  | .hbm, ⟨116, _⟩ => ⟨S_, .f32⟩
  | .hbm, ⟨117, _⟩ => ⟨S128x512, .f32⟩
  | .hbm, ⟨118, _⟩ => ⟨S128x1x512, .f32⟩
  | .hbm, ⟨119, _⟩ => ⟨S_, .f32⟩
  | .hbm, ⟨120, _⟩ => ⟨S128x1x512, .f32⟩
  | .hbm, ⟨121, _⟩ => ⟨S128x1x512, .f32⟩
  | .hbm, ⟨122, _⟩ => ⟨S32768x512, .bf16⟩
  | .hbm, ⟨123, _⟩ => ⟨S32768x512, .bf16⟩
  | .hbm, ⟨124, _⟩ => ⟨S32768x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_10 : Ref sig .tc := ⟨.hbm, 116, rfl⟩
abbrev main_v95 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩

abbrev nD : Nat := 1
abbrev τ : Topo := Topo.v7x

variable {F : FTy → Type} [FloatOps F]
-- ==== Proof.Ffn.Row.lean ====
module

public import Idealize.ShloMosaic.Lib.Pointwise

@[expose] public section

noncomputable section

/-! The feed-forward layer on one row of activations, over the extended reals: what the kernel and the reference both
compute. -/

namespace Cert.FfnVal

open Idealize.ShloMosaic

/-- Root-mean-square normalisation of a row, with the layer's weight. -/
def rms (v g : Fin 1024 → EReal) (c : Fin 1024) : EReal :=
  v c * Ideal.rsqrt (Ideal.div (∑ k, v k * v k) (Ideal.ofBits .f32 0x44800000#32) + Ideal.ofBits .f32 0x358637BD#32) * g c

/-- One column of the hidden layer: the gate's product through `x · σ(x)`, times the other product. -/
def hidden (y : Fin 1024 → EReal) (g u : Fin 1024 → EReal) : EReal :=
  (∑ k, y k * g k) * Ideal.logistic (∑ k, y k * g k) * ∑ k, y k * u k

/-- The layer's result from the second product `z`: its normalisation halved and added to the input. -/
def residual (x gpost z : Fin 1024 → EReal) (c : Fin 1024) : EReal :=
  x c + Ideal.ofBits .f32 0x3F000000#32 * rms z gpost c

/-- The whole layer on one row. -/
def row (x gpre gpost : Fin 1024 → EReal) (wg wu : Fin 1024 → Fin 2816 → EReal) (wd : Fin 2816 → Fin 1024 → EReal) :
    Fin 1024 → EReal :=
  residual x gpost fun c => ∑ j, hidden (rms x gpre) (fun k => wg k j) (fun k => wu k j) * wd j c

/-- A sum over the hidden columns is the sum over the first 1536 and the sum over the other 1280. -/
theorem sum_split (f : Fin 2816 → EReal) :
    ∑ j, f j = (∑ j : Fin 1536, f ⟨j, by omega⟩) + ∑ j : Fin 1280, f ⟨1536 + j, by omega⟩ :=
  Fin.sum_univ_add (a := 1536) (b := 1280) f

end Cert.FfnVal
end
-- ==== Proof.Ffn.Block.lean ====
module

public import proofs.«01_k».proof.Proof.Gen.FfnIdeal.Value
public import proofs.«01_k».proof.Proof.Ffn.Row
public import Idealize.ShloMosaic.Lib.Pipeline.ValueKit

@[expose] public section

noncomputable section

namespace Cert.FfnVal

open Cert.FfnIdeal Cert.FfnIdeal.Gen Idealize.ShloMosaic Idealize.SL.Sem

variable {F : FTy → Type} [FloatOps F]

/-- What the kernel stores for one group of 256 rows: a function of the group's rows, the two norm weights and the
    two column ranges of each weight matrix. -/
def group (x : Vec F S256x1024 .f32) (gpre gpost : Vec F S1x1024 .f32) (wg wu : Vec F S1x1024x1536 .bf16)
    (wd : Vec F S1x1536x1024 .bf16) (wg' wu' : Vec F S1x1024x1280 .bf16) (wd' : Vec F S1x1280x1024 .bf16) :
    FVec F S256x1024 .f32 :=
  k0_pay6 (k0_pay2 x) (k0_pay3 x gpre) (k0_pay4 x gpre wg wu wd) (k0_pay5 x gpre wg') wu' wd' gpost

/-- The group of the 256 rows of a block from row `o` on. -/
def groupAt (x0 : Vec F S1024x1024 .f32) (x1 x2 : Vec F S1x1024 .f32) (x3 x4 : Vec F S1x1024x2816 .bf16)
    (x5 : Vec F S1x2816x1024 .bf16) (o : Nat) (inb : ∀ a, ![o, 0] a + S256x1024.size a ≤ S1024x1024.size a) :
    FVec F S256x1024 .f32 :=
  group (View.ld x0 (Rect.unit (s := S1024x1024) ![o, 0] S256x1024.size inb)) (View.ld x1 r0_1) (View.ld x2 r0_1)
    (View.ld x3 r0_2) (View.ld x4 r0_2) (View.ld x5 r0_3) (View.ld x3 r0_4) (View.ld x4 r0_4) (View.ld x5 r0_5)

/-- The block a grid point writes is the four groups of its rows. -/
theorem out_eq (x0 : Vec F S1024x1024 .f32) (x1 x2 : Vec F S1x1024 .f32) (x3 x4 : Vec F S1x1024x2816 .bf16)
    (x5 : Vec F S1x2816x1024 .bf16) :
    out0_6 x0 x1 x2 x3 x4 x5 = View.canon
      [⟨r0_8, groupAt x0 x1 x2 x3 x4 x5 768 inb_S1024x1024_S256x1024_768_0⟩,
       ⟨r0_7, groupAt x0 x1 x2 x3 x4 x5 512 inb_S1024x1024_S256x1024_512_0⟩,
       ⟨r0_6, groupAt x0 x1 x2 x3 x4 x5 256 inb_S1024x1024_S256x1024_256_0⟩,
       ⟨r0_0, groupAt x0 x1 x2 x3 x4 x5 0 inb_S1024x1024_S256x1024_0_0⟩] := rfl

set_option maxRecDepth 16384 in
/-- A group at an index: the layer on that row, the second product taken over the two column ranges. -/
theorem group_apply (x : Vec Ideal S256x1024 .f32) (gpre gpost : Vec Ideal S1x1024 .f32) (wg wu : Vec Ideal S1x1024x1536 .bf16)
    (wd : Vec Ideal S1x1536x1024 .bf16) (wg' wu' : Vec Ideal S1x1024x1280 .bf16) (wd' : Vec Ideal S1x1280x1024 .bf16)
    (r : Fin 256) (c : Fin 1024) :
    group x gpre gpost wg wu wd wg' wu' wd' (ix2 r c) =
      residual (fun k => x (ix2 r k)) (fun k => gpost (ix2 0 k)) (fun c =>
        (∑ j : Fin 1536, hidden (rms (fun k => x (ix2 r k)) fun k => gpre (ix2 0 k)) (fun k => wg (ix3 0 k j))
          (fun k => wu (ix3 0 k j)) * wd (ix3 0 j c)) +
        ∑ j : Fin 1280, hidden (rms (fun k => x (ix2 r k)) fun k => gpre (ix2 0 k)) (fun k => wg' (ix3 0 k j))
          (fun k => wu' (ix3 0 k j)) * wd' (ix3 0 j c)) c := by
  pointwise [group, k0_pay2, k0_pay3, k0_pay4, k0_pay5, k0_pay6]
  rfl

/-- A rectangle of 256 whole rows from row `o` on. -/
theorem group_row (x0 : Vec Ideal S1024x1024 .f32) (x1 x2 : Vec Ideal S1x1024 .f32) (x3 x4 : Vec Ideal S1x1024x2816 .bf16)
    (x5 : Vec Ideal S1x2816x1024 .bf16) (o : Nat) (inb) (r : Fin 256) (c : Fin 1024) (r' : Fin 1024) (h : r'.val = o + r.val) :
    groupAt x0 x1 x2 x3 x4 x5 o inb (ix2 r c) =
      row (fun k => x0 (ix2 r' k)) (fun k => x1 (ix2 0 k)) (fun k => x2 (ix2 0 k)) (fun k j => x3 (ix3 0 k j))
        (fun k j => x4 (ix3 0 k j)) (fun j c => x5 (ix3 0 j c)) c := by
  have e0 : ∀ k, View.ld x0 (Rect.unit (s := S1024x1024) ![o, 0] S256x1024.size inb) (ix2 r k) = x0 (ix2 r' k) := fun k =>
    View.ld_unit_apply_of x0 _ _ _ _ _ fun a => match a with | ⟨0, _⟩ => h | ⟨1, _⟩ => (Nat.zero_add _).symm
  have e1 : ∀ (x : Vec Ideal S1x1024 .f32) k, View.ld x r0_1 (ix2 0 k) = x (ix2 0 k) := fun x k =>
    View.ld_unit_apply_of x _ _ _ _ _ fun a => match a with | ⟨0, _⟩ => rfl | ⟨1, _⟩ => (Nat.zero_add _).symm
  have e2 : ∀ (x : Vec Ideal S1x1024x2816 .bf16) k (j : Fin 1536), View.ld x r0_2 (ix3 0 k j) = x (ix3 0 k ⟨j, by omega⟩) :=
    fun x k j => View.ld_unit_apply_of x _ _ _ _ _ fun a => match a with
      | ⟨0, _⟩ => rfl | ⟨1, _⟩ => (Nat.zero_add _).symm | ⟨2, _⟩ => (Nat.zero_add _).symm
  have e3 : ∀ j k, View.ld x5 r0_3 (ix3 0 j k) = x5 (ix3 0 ⟨j, by omega⟩ k) := fun j k =>
    View.ld_unit_apply_of x5 _ _ _ _ _ fun a => match a with
      | ⟨0, _⟩ => rfl | ⟨1, _⟩ => (Nat.zero_add _).symm | ⟨2, _⟩ => (Nat.zero_add _).symm
  have e4 : ∀ (x : Vec Ideal S1x1024x2816 .bf16) k (j : Fin 1280), View.ld x r0_4 (ix3 0 k j) = x (ix3 0 k ⟨1536 + j, by omega⟩) :=
    fun x k j => View.ld_unit_apply_of x _ _ _ _ _ fun a => match a with
      | ⟨0, _⟩ => rfl | ⟨1, _⟩ => (Nat.zero_add _).symm | ⟨2, _⟩ => rfl
  have e5 : ∀ j k, View.ld x5 r0_5 (ix3 0 j k) = x5 (ix3 0 ⟨1536 + j, by omega⟩ k) := fun j k =>
    View.ld_unit_apply_of x5 _ _ _ _ _ fun a => match a with
      | ⟨0, _⟩ => rfl | ⟨1, _⟩ => rfl | ⟨2, _⟩ => (Nat.zero_add _).symm
  rw [groupAt, group_apply]
  simp only [e0, e1 x1, e1 x2, e2 x3, e2 x4, e3, e4 x3, e4 x4, e5, row, sum_split]

/-- A grid point's block at an index: the layer on that row. -/
theorem out_apply (x0 : Vec Ideal S1024x1024 .f32) (x1 x2 : Vec Ideal S1x1024 .f32) (x3 x4 : Vec Ideal S1x1024x2816 .bf16)
    (x5 : Vec Ideal S1x2816x1024 .bf16) (r c : Fin 1024) :
    out0_6 x0 x1 x2 x3 x4 x5 (ix2 r c) =
      row (fun k => x0 (ix2 r k)) (fun k => x1 (ix2 0 k)) (fun k => x2 (ix2 0 k)) (fun k j => x3 (ix3 0 k j))
        (fun k j => x4 (ix3 0 k j)) (fun j c => x5 (ix3 0 j c)) c := by
  have tile (o : Nat) (inb) : View.TileAt (Val := Elt Ideal) (S := S1024x1024) (e := .f32) (ix2 r c) ![o, 0] S256x1024.size
      (groupAt x0 x1 x2 x3 x4 x5 o inb)
      (row (fun k => x0 (ix2 r k)) (fun k => x1 (ix2 0 k)) (fun k => x2 (ix2 0 k)) (fun k j => x3 (ix3 0 k j))
        (fun k j => x4 (ix3 0 k j)) (fun j c => x5 (ix3 0 j c)) c) := by
    intro x hx
    rw [eq_ix2 x, show c = x 1 from Fin.ext ((hx 1).trans (Nat.zero_add _))]
    exact group_row x0 x1 x2 x3 x4 x5 o inb (x 0) (x 1) r (hx 0)
  rw [out_eq]
  exact View.canon_eq_of_allAt _ _ _ (cover0_6 _ _ _ _ _) <|
    View.allAt_cons_unit _ _ _ _ _ (tile _ _) <| View.allAt_cons_unit _ _ _ _ _ (tile _ _) <|
    View.allAt_cons_unit _ _ _ _ _ (tile _ _) <| View.allAt_cons_unit _ _ _ _ _ (tile _ _) <| View.allAt_nil _ _

end Cert.FfnVal
end
-- ==== Proof.Ffn.Run.lean ====
module

public import proofs.«01_k».proof.Proof.Ffn.Block

@[expose] public section

noncomputable section

/-! The result array of the feed-forward kernel as one function of its argument arrays. -/

namespace Cert.FfnVal

open Cert.FfnIdeal Cert.FfnIdeal.Gen Cert.FfnIdeal.Value Idealize.ShloMosaic Idealize.ShloMosaic.TcCoe Idealize.SL.Sem

variable (m : (ℓ : Loc nD τ sig) → Buf (Elt Ideal) ℓ)

/-- Result row `r`, column `c`: the layer on row `r % 2048` of sequence `r / 2048`. -/
def result (x0 : Vec Ideal S16x2048x1024 .f32) (x1 x2 : Vec Ideal S4x3x1024 .f32) (x3 x4 : Vec Ideal S4x1024x2816 .f32)
    (x5 : Vec Ideal S4x2816x1024 .f32) (r : Fin 32768) (c : Fin 1024) : EReal :=
  row (fun k => x0 (ix3 ⟨r / 2048, by omega⟩ ⟨r % 2048, by omega⟩ k)) (fun k => x1 (ix3 3 2 k)) (fun k => x2 (ix3 3 2 k))
    (fun k j => x3 (ix3 3 k j)) (fun k j => x4 (ix3 3 k j)) (fun j c => x5 (ix3 3 j c)) c

/-! The arrays the windows stage, after the host's slices, reshapes and conversions. -/

set_option maxRecDepth 16384 in
theorem V_x (c : Dev nD) (r : Fin 32768) (k : Fin 1024) : V m c main_v3 (ix2 r k) =
    m ((c : Thread nD τ).loc main_arg0) (ix3 ⟨r / 2048, by omega⟩ ⟨r % 2048, by omega⟩ k) := by
  unfold V hostOps0; after_results_simp; pointwise []

set_option maxRecDepth 16384 in
theorem V_pre (c : Dev nD) (k : Fin 1024) : V m c main_v6 (ix2 0 k) = m ((c : Thread nD τ).loc main_arg1) (ix3 3 2 k) := by
  unfold V hostOps0; after_results_simp;  pointwise []

set_option maxRecDepth 16384 in
theorem V_post (c : Dev nD) (k : Fin 1024) : V m c main_v9 (ix2 0 k) = m ((c : Thread nD τ).loc main_arg2) (ix3 3 2 k) := by
  unfold V hostOps0; after_results_simp; pointwise []

set_option maxRecDepth 16384 in
theorem V_gate (c : Dev nD) : V m c main_v0 = (m ((c : Thread nD τ).loc main_arg3) : Vec Ideal S4x1024x2816 .f32) := by
  unfold V hostOps0; after_results_simp; rfl

set_option maxRecDepth 16384 in
theorem V_up (c : Dev nD) : V m c main_v1 = (m ((c : Thread nD τ).loc main_arg4) : Vec Ideal S4x1024x2816 .f32) := by
  unfold V hostOps0; after_results_simp; rfl

set_option maxRecDepth 16384 in
theorem V_down (c : Dev nD) : V m c main_v2 = (m ((c : Thread nD τ).loc main_arg5) : Vec Ideal S4x2816x1024 .f32) := by
  unfold V hostOps0; after_results_simp; rfl

/-- The block indices at grid point `t`. -/
theorem idx_facts : ∀ t : Fin cfg0.N,
    (win0_0.index t (0 : Fin 2) = t ∧ win0_0.index t (1 : Fin 2) = 0) ∧
    (win0_6.index t (0 : Fin 2) = t ∧ win0_6.index t (1 : Fin 2) = 0) ∧
    (∀ a, win0_1.index t a = 0) ∧ (∀ a, win0_2.index t a = 0) ∧
    (win0_3.index t (0 : Fin 3) = 3 ∧ win0_3.index t (1 : Fin 3) = 0 ∧ win0_3.index t (2 : Fin 3) = 0) ∧ (win0_4.index t (0 : Fin 3) = 3 ∧ win0_4.index t (1 : Fin 3) = 0 ∧ win0_4.index t (2 : Fin 3) = 0) ∧ (win0_5.index t (0 : Fin 3) = 3 ∧ win0_5.index t (1 : Fin 3) = 0 ∧ win0_5.index t (2 : Fin 3) = 0) :=
  (by decide +kernel : ∀ t : Fin grid0.N, _)

theorem covers : win0_6.Covers := by decide +kernel

theorem point_lt (t : Fin cfg0.N) : t.val < 32 := t.isLt

theorem emb_rows (t : Fin cfg0.N) (r k : Fin 1024) :
    ((cfg0.win 0).blk t).view.emb (ix2 r k : S1024x1024.Idx) = (ix2 ⟨t.val * 1024 + r, by have := point_lt t; omega⟩ k : S32768x1024.Idx) := by
  obtain ⟨⟨e0, e1⟩, -⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem emb_out (t : Fin cfg0.N) (r k : Fin 1024) :
    ((cfg0.win 6).blk t).view.emb (ix2 r k : S1024x1024.Idx) = (ix2 ⟨t.val * 1024 + r, by have := point_lt t; omega⟩ k : S32768x1024.Idx) := by
  obtain ⟨-, ⟨e0, e1⟩, -⟩ := idx_facts t
  funext a; apply Fin.ext
  match a with
  | ⟨0, _⟩ => show win0_6.index t (0 : Fin 2) * 1024 + 1 * r.val = t.val * 1024 + r.val; omega
  | ⟨1, _⟩ => show win0_6.index t (1 : Fin 2) * 1024 + 1 * k.val = k.val; omega

theorem emb_pre (t : Fin cfg0.N) (k : Fin 1024) : ((cfg0.win 1).blk t).view.emb (ix2 0 k : S1x1024.Idx) = (ix2 0 k : S1x1024.Idx) := by
  have e := (idx_facts t).2.2.1
  funext a; apply Fin.ext
  match a with
  | ⟨0, _⟩ => show win0_1.index t (0 : Fin 2) * 1 + 1 * 0 = 0; have := e 0; omega
  | ⟨1, _⟩ => show win0_1.index t (1 : Fin 2) * 1024 + 1 * k.val = k.val; have := e 1; omega

theorem emb_post (t : Fin cfg0.N) (k : Fin 1024) : ((cfg0.win 2).blk t).view.emb (ix2 0 k : S1x1024.Idx) = (ix2 0 k : S1x1024.Idx) := by
  have e := (idx_facts t).2.2.2.1
  funext a; apply Fin.ext
  match a with
  | ⟨0, _⟩ => show win0_2.index t (0 : Fin 2) * 1 + 1 * 0 = 0; have := e 0; omega
  | ⟨1, _⟩ => show win0_2.index t (1 : Fin 2) * 1024 + 1 * k.val = k.val; have := e 1; omega

theorem emb_gate (t : Fin cfg0.N) (k : Fin 1024) (j : Fin 2816) :
    ((cfg0.win 3).blk t).view.emb (ix3 0 k j : S1x1024x2816.Idx) = (ix3 3 k j : S4x1024x2816.Idx) := by
  have e := (idx_facts t).2.2.2.2.1
  funext a; apply Fin.ext
  match a with
  | ⟨0, _⟩ => show win0_3.index t (0 : Fin 3) * 1 + 1 * 0 = 3; have := e.1; omega
  | ⟨1, _⟩ => show win0_3.index t (1 : Fin 3) * 1024 + 1 * k.val = k.val; have := e.2.1; omega
  | ⟨2, _⟩ => show win0_3.index t (2 : Fin 3) * 2816 + 1 * j.val = j.val; have := e.2.2; omega

theorem emb_up (t : Fin cfg0.N) (k : Fin 1024) (j : Fin 2816) :
    ((cfg0.win 4).blk t).view.emb (ix3 0 k j : S1x1024x2816.Idx) = (ix3 3 k j : S4x1024x2816.Idx) := by
  have e := (idx_facts t).2.2.2.2.2.1
  funext a; apply Fin.ext
  match a with
  | ⟨0, _⟩ => show win0_4.index t (0 : Fin 3) * 1 + 1 * 0 = 3; have := e.1; omega
  | ⟨1, _⟩ => show win0_4.index t (1 : Fin 3) * 1024 + 1 * k.val = k.val; have := e.2.1; omega
  | ⟨2, _⟩ => show win0_4.index t (2 : Fin 3) * 2816 + 1 * j.val = j.val; have := e.2.2; omega

theorem emb_down (t : Fin cfg0.N) (j : Fin 2816) (k : Fin 1024) :
    ((cfg0.win 5).blk t).view.emb (ix3 0 j k : S1x2816x1024.Idx) = (ix3 3 j k : S4x2816x1024.Idx) := by
  have e := (idx_facts t).2.2.2.2.2.2
  funext a; apply Fin.ext
  match a with
  | ⟨0, _⟩ => show win0_5.index t (0 : Fin 3) * 1 + 1 * 0 = 3; have := e.1; omega
  | ⟨1, _⟩ => show win0_5.index t (1 : Fin 3) * 2816 + 1 * j.val = j.val; have := e.2.1; omega
  | ⟨2, _⟩ => show win0_5.index t (2 : Fin 3) * 1024 + 1 * k.val = k.val; have := e.2.2; omega

/-- The result array after the run. -/
def out (c : Dev nD) : Vec Ideal S32768x1024 .f32 := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- A grid point's block at an index is the layer on that row of the arguments. -/
theorem block_apply (c : Dev nD) (t : Fin cfg0.N) (r k : Fin 1024) :
    out0_6 (iblk m c 0 t) (iblk m c 1 t) (iblk m c 2 t) (iblk m c 3 t) (iblk m c 4 t) (iblk m c 5 t) (ix2 r k) =
      out m c (((cfg0.win 6).blk t).view.emb (ix2 r k : S1024x1024.Idx)) := by
  rw [emb_out, out_apply]
  have e0 : ∀ r k, iblk m c 0 t (ix2 r k : S1024x1024.Idx) = _ := fun r k =>
    (congrArg (V m c main_v3) (emb_rows t r k)).trans (V_x m c _ _)
  have e1 : ∀ k, iblk m c 1 t (ix2 0 k : S1x1024.Idx) = _ := fun k =>
    (congrArg (V m c main_v6) (emb_pre t k)).trans (V_pre m c k)
  have e2 : ∀ k, iblk m c 2 t (ix2 0 k : S1x1024.Idx) = _ := fun k =>
    (congrArg (V m c main_v9) (emb_post t k)).trans (V_post m c k)
  have e3 : ∀ k j, iblk m c 3 t (ix3 0 k j : S1x1024x2816.Idx) = _ := fun k j =>
    (congrArg (V m c main_v0) (emb_gate t k j)).trans (congrFun (V_gate m c) _)
  have e4 : ∀ k j, iblk m c 4 t (ix3 0 k j : S1x1024x2816.Idx) = _ := fun k j =>
    (congrArg (V m c main_v1) (emb_up t k j)).trans (congrFun (V_up m c) _)
  have e5 : ∀ j k, iblk m c 5 t (ix3 0 j k : S1x2816x1024.Idx) = _ := fun j k =>
    (congrArg (V m c main_v2) (emb_down t j k)).trans (congrFun (V_down m c) _)
  simp only [e0, e1, e2, e3, e4, e5]
  rfl

/-- A block that agrees with an array at every row and column is the array's block. -/
theorem cut_eq (t : Fin cfg0.N) (f : Vec Ideal S1024x1024 .f32) (g : Vec Ideal S32768x1024 .f32)
    (h : ∀ r k : Fin 1024, f (ix2 r k) = g (((cfg0.win 6).blk t).view.emb (ix2 r k : S1024x1024.Idx))) :
    (cfg0.win 6).cut (grid0.coords t) f = ((cfg0.win 6).blk t).view.read (Elt Ideal) g := by
  funext j
  show f j = g (((cfg0.win 6).blk t).view.emb j)
  rw [eq_ix2 (n0 := 1024) (n1 := 1024) j]; exact h _ _

/-- The result array after the run is the layer on every row. -/
theorem final (c : Dev nD) : (dats m 0 c).arrAt 6 cfg0.N = out m c :=
  (dats m 0 c).arrAt_eq_of_cover 6 (out m c)
    (fun t _ => (flushed6 m c t).trans (cut_eq t _ (out m c) (block_apply m c t)))
    (Pipeline.Window.Covers.cover _ covers (Memref.isWhole_whole _))

end Cert.FfnVal
end
-- ==== Proof.Ffn.Ref.lean ====
module

public import proofs.«01_k».proof.Proof.Gen.FfnRefIdeal.Read
public import proofs.«01_k».proof.Proof.Ffn.Run
public import proofs.«01_k».proof.Defs

@[expose] public section

noncomputable section

namespace Cert.FfnVal

open Cert.FfnRefIdeal Cert.FfnRefIdeal.Gen Cert.FfnRefIdeal.Read Idealize.ShloMosaic Idealize.SL.Sem

set_option maxRecDepth 16384 in
/-- The reference's hidden layer at an index. -/
theorem ref_hidden (x0 : Vec Ideal S16x2048x1024 .f32) (x1 : Vec Ideal S4x3x1024 .f32) (x3 x4 : Vec Ideal S4x1024x2816 .f32)
    (b : Fin 16) (s : Fin 2048) (j : Fin 2816) :
    val_main_v24 (F := Ideal) x0 x1 x3 x4 (ix3 b s j) =
      hidden (rms (fun k => x0 (ix3 b s k)) fun k => x1 (ix3 3 2 k)) (fun k => x3 (ix3 3 k j)) (fun k => x4 (ix3 3 k j)) := by
  unfold val_main_v24 val_main_v23 val_main_v22 val_main_call0_v5 val_main_call0_v4 val_main_call0_cst_0 val_main_call0_v3 val_main_call0_v2
    val_main_call0_cst val_main_call0_v1 val_main_call0_v0 val_main_v21 val_main_v18 val_main_v17 val_main_v16 val_main_v15
    val_main_v14 val_main_v13 val_main_v12 val_main_v11 val_main_v10 val_main_v9 val_main_v8 val_main_v7 val_main_cst_1
    val_main_v6 val_main_v5 val_main_cst_0 val_main_v4 val_main_v3 val_main_cst val_main_v2 val_main_v1 val_main_v0
  pointwise []
  rfl

set_option maxRecDepth 16384 in
/-- The reference's result at an index: the layer on that row. -/
theorem ref_apply (x0 : Vec Ideal S16x2048x1024 .f32) (x1 x2 : Vec Ideal S4x3x1024 .f32) (x3 x4 : Vec Ideal S4x1024x2816 .f32)
    (x5 : Vec Ideal S4x2816x1024 .f32) (r : Fin 32768) (c : Fin 1024) :
    val_main_v44 (F := Ideal) x0 x1 x2 x3 x4 x5 (ix2 r c) = result x0 x1 x2 x3 x4 x5 r c := by
  have hh := ref_hidden x0 x1 x3 x4
  unfold val_main_v44 val_main_v43 val_main_v42 val_main_v41 val_main_cst_5 val_main_v40 val_main_v39 val_main_v38 val_main_v37
    val_main_v36 val_main_v35 val_main_v34 val_main_v33 val_main_cst_4 val_main_v32 val_main_v31 val_main_cst_3 val_main_v30
    val_main_v29 val_main_cst_2 val_main_v28 val_main_v27 val_main_v26 val_main_v25 val_main_v20 val_main_v19
  generalize val_main_v24 (F := Ideal) x0 x1 x3 x4 = y at hh ⊢
  pointwise []
  simp only [hh]
  rfl

open Idealize.ShloMosaic.TcCoe

/-- From arguments that agree, the two runs end with one result array. -/
theorem algebraic : Cert.algebraic_FfnIdeal_FfnRefIdeal
    (hFfnIdeal := Cert.FfnIdeal.Gen.facts) (hFfnRefIdeal := Cert.FfnRefIdeal.Gen.facts) := by
  intro m g m' g' _ hagree
  refine ⟨fun c => out m c, ?_, ?_⟩
  · exact (θ_run _ _ _).mono (fun r h c => ⟨(h c).1.trans (final m c), (h c).2⟩) (Cert.FfnIdeal.Value.run_blocks m g)
  · refine (θ_run _ _ _).mono (fun r h c => ⟨(h c).1.trans ?_, (h c).2⟩) (Cert.FfnRefIdeal.Value.run m' g')
    obtain ⟨a0, a1, a2, a3, a4, a5⟩ := hagree c
    rw [val_main_v44_eq]
    funext i
    rw [a0, a1, a2, a3, a4, a5, eq_ix2 i]
    exact ref_apply _ _ _ _ _ _ _ _

end Cert.FfnVal
end
-- ==== Proof.Mix.Block.lean ====
module

public import proofs.«01_k».proof.Proof.Gen.MixFfnIdeal.Value
public import proofs.«01_k».proof.Proof.Ffn.Row
public import Idealize.ShloMosaic.Lib.Pipeline.ValueKit

@[expose] public section

noncomputable section

/-! One grid point of the feed-forward kernel that first adds the mixer's output projection. -/

namespace Cert.MixVal

open Cert.FfnVal (rms hidden residual row sum_split)
open Cert.MixFfnIdeal Cert.MixFfnIdeal.Gen Idealize.ShloMosaic Idealize.SL.Sem

variable {F : FTy → Type} [FloatOps F]

/-- The activations with the mixer's output added: the products of the two head groups with the two halves of the
    output weights, normalised. -/
def mixed (x gmix : Fin 1024 → EReal) (wa wr : Fin 512 → Fin 1024 → EReal) (ha hr : Fin 512 → EReal) (c : Fin 1024) : EReal :=
  x c + rms (fun c => (∑ k, ha k * wa k c) + ∑ k, hr k * wr k c) gmix c

/-- What the kernel makes of one group of 256 rows before the feed-forward layer. -/
def mixGroup (x : Vec F S256x1024 .f32) (a r : Vec F S256x512 .bf16) (wa wr : Vec F S1x512x1024 .bf16) (gmix : Vec F S1x1024 .f32) :
    FVec F S256x1024 .f32 :=
  k0_pay2 a wa r wr x gmix

/-- The feed-forward layer on such a group. -/
def group (x : FVec F S256x1024 .f32) (gpre gpost : Vec F S1x1024 .f32) (wg wu : Vec F S1x1024x1536 .bf16)
    (wd : Vec F S1x1536x1024 .bf16) (wg' wu' : Vec F S1x1024x1280 .bf16) (wd' : Vec F S1x1280x1024 .bf16) :
    FVec F S256x1024 .f32 :=
  k0_pay15 x (k0_pay12 x gpre) (k0_pay13 x gpre wg wu wd) (k0_pay14 wg') (constant S256x1280 .f32 0x00000000#32) wu' wd' gpost

/-- The mixed rows of a block from row `o` on. -/
def mixAt (x0 : Vec F S1024x1024 .f32) (x1 x2 : Vec F S1024x512 .bf16) (x3 : Vec F S1x1024 .f32) (x4 : Vec F S1x1024x1024 .bf16)
    (o : Nat) (inb : ∀ a, ![o, 0] a + S256x1024.size a ≤ S1024x1024.size a)
    (inb' : ∀ a, ![o, 0] a + S256x512.size a ≤ S1024x512.size a) : FVec F S256x1024 .f32 :=
  mixGroup (View.ld x0 (Rect.unit (s := S1024x1024) ![o, 0] S256x1024.size inb))
    (View.ld x1 (Rect.unit (s := S1024x512) ![o, 0] S256x512.size inb')) (View.ld x2 (Rect.unit (s := S1024x512) ![o, 0] S256x512.size inb'))
    (View.ld x4 r0_1) (View.ld x4 r0_2) (View.ld x3 r0_4)

/-- The layer on a group of rows, its weights read from the windows' blocks. -/
def groupOf (y : FVec F S256x1024 .f32) (x5 x6 : Vec F S1x1024 .f32) (x7 x8 : Vec F S1x1024x2816 .bf16)
    (x9 : Vec F S1x2816x1024 .bf16) : FVec F S256x1024 .f32 :=
  group y (View.ld x5 r0_4) (View.ld x6 r0_4) (View.ld x7 r0_11) (View.ld x8 r0_11) (View.ld x9 r0_12) (View.ld x7 r0_13)
    (View.ld x8 r0_13) (View.ld x9 r0_14)

/-- The block a grid point writes is the four groups of its rows. -/
theorem out_eq (x0 : Vec F S1024x1024 .f32) (x1 x2 : Vec F S1024x512 .bf16) (x3 : Vec F S1x1024 .f32) (x4 : Vec F S1x1024x1024 .bf16)
    (x5 x6 : Vec F S1x1024 .f32) (x7 x8 : Vec F S1x1024x2816 .bf16) (x9 : Vec F S1x2816x1024 .bf16) :
    out0_10 x0 x1 x2 x3 x4 x5 x6 x7 x8 x9 = View.canon
      [⟨r0_10, groupOf (mixAt x0 x1 x2 x3 x4 768 inb_S1024x1024_S256x1024_768_0 inb_S1024x512_S256x512_768_0) x5 x6 x7 x8 x9⟩,
       ⟨r0_8, groupOf (mixAt x0 x1 x2 x3 x4 512 inb_S1024x1024_S256x1024_512_0 inb_S1024x512_S256x512_512_0) x5 x6 x7 x8 x9⟩,
       ⟨r0_6, groupOf (mixAt x0 x1 x2 x3 x4 256 inb_S1024x1024_S256x1024_256_0 inb_S1024x512_S256x512_256_0) x5 x6 x7 x8 x9⟩,
       ⟨r0_3, groupOf (mixAt x0 x1 x2 x3 x4 0 inb_S1024x1024_S256x1024_0_0 inb_S1024x512_S256x512_0_0) x5 x6 x7 x8 x9⟩] := rfl

set_option maxRecDepth 16384 in
/-- The mixed rows at an index. -/
theorem mixGroup_apply (x : Vec Ideal S256x1024 .f32) (a r : Vec Ideal S256x512 .bf16) (wa wr : Vec Ideal S1x512x1024 .bf16)
    (gmix : Vec Ideal S1x1024 .f32) (p : Fin 256) (c : Fin 1024) :
    mixGroup x a r wa wr gmix (ix2 p c) =
      mixed (fun k => x (ix2 p k)) (fun k => gmix (ix2 0 k)) (fun k c => wa (ix3 0 k c)) (fun k c => wr (ix3 0 k c))
        (fun k => a (ix2 p k)) (fun k => r (ix2 p k)) c := by
  pointwise [mixGroup, k0_pay2]
  rfl

set_option maxRecDepth 16384 in
/-- A group at an index: the layer on that row, the second product taken over the two column ranges. -/
theorem group_apply (x : FVec Ideal S256x1024 .f32) (gpre gpost : Vec Ideal S1x1024 .f32) (wg wu : Vec Ideal S1x1024x1536 .bf16)
    (wd : Vec Ideal S1x1536x1024 .bf16) (wg' wu' : Vec Ideal S1x1024x1280 .bf16) (wd' : Vec Ideal S1x1280x1024 .bf16)
    (r : Fin 256) (c : Fin 1024) :
    group x gpre gpost wg wu wd wg' wu' wd' (ix2 r c) =
      residual (fun k => x (ix2 r k)) (fun k => gpost (ix2 0 k)) (fun c =>
        (∑ j : Fin 1536, hidden (rms (fun k => x (ix2 r k)) fun k => gpre (ix2 0 k)) (fun k => wg (ix3 0 k j))
          (fun k => wu (ix3 0 k j)) * wd (ix3 0 j c)) +
        ∑ j : Fin 1280, hidden (rms (fun k => x (ix2 r k)) fun k => gpre (ix2 0 k)) (fun k => wg' (ix3 0 k j))
          (fun k => wu' (ix3 0 k j)) * wd' (ix3 0 j c)) c := by
  pointwise [group, k0_pay12, k0_pay13, k0_pay14, k0_pay15]
  rfl

/-- The mixed rows, read from the blocks. -/
theorem mix_row (x0 : Vec Ideal S1024x1024 .f32) (x1 x2 : Vec Ideal S1024x512 .bf16) (x3 : Vec Ideal S1x1024 .f32)
    (x4 : Vec Ideal S1x1024x1024 .bf16) (o : Nat) (inb) (inb') (r : Fin 256) (c : Fin 1024) (r' : Fin 1024) (h : r'.val = o + r.val) :
    mixAt x0 x1 x2 x3 x4 o inb inb' (ix2 r c) =
      mixed (fun k => x0 (ix2 r' k)) (fun k => x3 (ix2 0 k)) (fun k c => x4 (ix3 0 ⟨k, by omega⟩ c))
        (fun k c => x4 (ix3 0 ⟨512 + k, by omega⟩ c)) (fun k => x1 (ix2 r' k)) (fun k => x2 (ix2 r' k)) c := by
  have e0 : ∀ k, View.ld x0 (Rect.unit (s := S1024x1024) ![o, 0] S256x1024.size inb) (ix2 r k) = x0 (ix2 r' k) := fun k =>
    View.ld_unit_apply_of x0 _ _ _ _ _ fun a => match a with | ⟨0, _⟩ => h | ⟨1, _⟩ => (Nat.zero_add _).symm
  have e1 : ∀ (x : Vec Ideal S1024x512 .bf16) k, View.ld x (Rect.unit (s := S1024x512) ![o, 0] S256x512.size inb') (ix2 r k) = x (ix2 r' k) :=
    fun x k => View.ld_unit_apply_of x _ _ _ _ _ fun a => match a with | ⟨0, _⟩ => h | ⟨1, _⟩ => (Nat.zero_add _).symm
  have e3 : ∀ k, View.ld x3 r0_4 (ix2 0 k) = x3 (ix2 0 k) := fun k =>
    View.ld_unit_apply_of x3 _ _ _ _ _ fun a => match a with | ⟨0, _⟩ => rfl | ⟨1, _⟩ => (Nat.zero_add _).symm
  have e4 : ∀ k c, View.ld x4 r0_1 (ix3 0 k c) = x4 (ix3 0 ⟨k, by omega⟩ c) := fun k c =>
    View.ld_unit_apply_of x4 _ _ _ _ _ fun a => match a with
      | ⟨0, _⟩ => rfl | ⟨1, _⟩ => (Nat.zero_add _).symm | ⟨2, _⟩ => (Nat.zero_add _).symm
  have e5 : ∀ k c, View.ld x4 r0_2 (ix3 0 k c) = x4 (ix3 0 ⟨512 + k, by omega⟩ c) := fun k c =>
    View.ld_unit_apply_of x4 _ _ _ _ _ fun a => match a with | ⟨0, _⟩ => rfl | ⟨1, _⟩ => rfl | ⟨2, _⟩ => (Nat.zero_add _).symm
  rw [mixAt, mixGroup_apply]
  simp only [e0, e1 x1, e1 x2, e3, e4, e5]

/-- The layer on a group of rows, its weights the whole blocks. -/
theorem group_row (y : FVec Ideal S256x1024 .f32) (x5 x6 : Vec Ideal S1x1024 .f32) (x7 x8 : Vec Ideal S1x1024x2816 .bf16)
    (x9 : Vec Ideal S1x2816x1024 .bf16) (r : Fin 256) (c : Fin 1024) :
    groupOf y x5 x6 x7 x8 x9 (ix2 r c) =
      row (fun k => y (ix2 r k)) (fun k => x5 (ix2 0 k)) (fun k => x6 (ix2 0 k)) (fun k j => x7 (ix3 0 k j))
        (fun k j => x8 (ix3 0 k j)) (fun j c => x9 (ix3 0 j c)) c := by
  have e1 : ∀ (x : Vec Ideal S1x1024 .f32) k, View.ld x r0_4 (ix2 0 k) = x (ix2 0 k) := fun x k =>
    View.ld_unit_apply_of x _ _ _ _ _ fun a => match a with | ⟨0, _⟩ => rfl | ⟨1, _⟩ => (Nat.zero_add _).symm
  have e2 : ∀ (x : Vec Ideal S1x1024x2816 .bf16) k (j : Fin 1536), View.ld x r0_11 (ix3 0 k j) = x (ix3 0 k ⟨j, by omega⟩) :=
    fun x k j => View.ld_unit_apply_of x _ _ _ _ _ fun a => match a with
      | ⟨0, _⟩ => rfl | ⟨1, _⟩ => (Nat.zero_add _).symm | ⟨2, _⟩ => (Nat.zero_add _).symm
  have e3 : ∀ j k, View.ld x9 r0_12 (ix3 0 j k) = x9 (ix3 0 ⟨j, by omega⟩ k) := fun j k =>
    View.ld_unit_apply_of x9 _ _ _ _ _ fun a => match a with
      | ⟨0, _⟩ => rfl | ⟨1, _⟩ => (Nat.zero_add _).symm | ⟨2, _⟩ => (Nat.zero_add _).symm
  have e4 : ∀ (x : Vec Ideal S1x1024x2816 .bf16) k (j : Fin 1280), View.ld x r0_13 (ix3 0 k j) = x (ix3 0 k ⟨1536 + j, by omega⟩) :=
    fun x k j => View.ld_unit_apply_of x _ _ _ _ _ fun a => match a with
      | ⟨0, _⟩ => rfl | ⟨1, _⟩ => (Nat.zero_add _).symm | ⟨2, _⟩ => rfl
  have e5 : ∀ j k, View.ld x9 r0_14 (ix3 0 j k) = x9 (ix3 0 ⟨1536 + j, by omega⟩ k) := fun j k =>
    View.ld_unit_apply_of x9 _ _ _ _ _ fun a => match a with
      | ⟨0, _⟩ => rfl | ⟨1, _⟩ => rfl | ⟨2, _⟩ => (Nat.zero_add _).symm
  rw [groupOf, group_apply]
  simp only [e1 x5, e1 x6, e2 x7, e2 x8, e3, e4 x7, e4 x8, e5, row, sum_split]

/-- The layer on one row of a grid point's blocks. -/
def blockRow (x0 : Vec Ideal S1024x1024 .f32) (x1 x2 : Vec Ideal S1024x512 .bf16) (x3 : Vec Ideal S1x1024 .f32)
    (x4 : Vec Ideal S1x1024x1024 .bf16) (x5 x6 : Vec Ideal S1x1024 .f32) (x7 x8 : Vec Ideal S1x1024x2816 .bf16)
    (x9 : Vec Ideal S1x2816x1024 .bf16) (r : Fin 1024) : Fin 1024 → EReal :=
  row (mixed (fun k => x0 (ix2 r k)) (fun k => x3 (ix2 0 k)) (fun k c => x4 (ix3 0 ⟨k, by omega⟩ c))
      (fun k c => x4 (ix3 0 ⟨512 + k, by omega⟩ c)) (fun k => x1 (ix2 r k)) (fun k => x2 (ix2 r k)))
    (fun k => x5 (ix2 0 k)) (fun k => x6 (ix2 0 k)) (fun k j => x7 (ix3 0 k j))
    (fun k j => x8 (ix3 0 k j)) (fun j c => x9 (ix3 0 j c))

theorem layer_row (x0 : Vec Ideal S1024x1024 .f32) (x1 x2 : Vec Ideal S1024x512 .bf16) (x3 : Vec Ideal S1x1024 .f32)
    (x4 : Vec Ideal S1x1024x1024 .bf16) (x5 x6 : Vec Ideal S1x1024 .f32) (x7 x8 : Vec Ideal S1x1024x2816 .bf16)
    (x9 : Vec Ideal S1x2816x1024 .bf16) (o : Nat) (inb) (inb') (r : Fin 256) (c : Fin 1024) (r' : Fin 1024) (h : r'.val = o + r.val) :
    groupOf (mixAt x0 x1 x2 x3 x4 o inb inb') x5 x6 x7 x8 x9 (ix2 r c) = blockRow x0 x1 x2 x3 x4 x5 x6 x7 x8 x9 r' c := by
  rw [group_row]
  simp only [mix_row x0 x1 x2 x3 x4 o inb inb' r _ r' h]
  rfl

/-- A grid point's block at an index: the layer on that row. -/
theorem out_apply (x0 : Vec Ideal S1024x1024 .f32) (x1 x2 : Vec Ideal S1024x512 .bf16) (x3 : Vec Ideal S1x1024 .f32)
    (x4 : Vec Ideal S1x1024x1024 .bf16) (x5 x6 : Vec Ideal S1x1024 .f32) (x7 x8 : Vec Ideal S1x1024x2816 .bf16)
    (x9 : Vec Ideal S1x2816x1024 .bf16) (r c : Fin 1024) :
    out0_10 x0 x1 x2 x3 x4 x5 x6 x7 x8 x9 (ix2 r c) = blockRow x0 x1 x2 x3 x4 x5 x6 x7 x8 x9 r c := by
  have tile (o : Nat) (inb) (inb') : View.TileAt (Val := Elt Ideal) (S := S1024x1024) (e := .f32) (ix2 r c) ![o, 0] S256x1024.size
      (groupOf (mixAt x0 x1 x2 x3 x4 o inb inb') x5 x6 x7 x8 x9) (blockRow x0 x1 x2 x3 x4 x5 x6 x7 x8 x9 r c) := by
    intro x hx
    rw [eq_ix2 x, show c = x 1 from Fin.ext ((hx 1).trans (Nat.zero_add _))]
    exact layer_row x0 x1 x2 x3 x4 x5 x6 x7 x8 x9 o inb inb' (x 0) (x 1) r (hx 0)
  rw [out_eq]
  exact View.canon_eq_of_allAt _ _ _ (cover0_10 _ _ _ _ _) <|
    View.allAt_cons_unit _ _ _ _ _ (tile _ _ _) <| View.allAt_cons_unit _ _ _ _ _ (tile _ _ _) <|
    View.allAt_cons_unit _ _ _ _ _ (tile _ _ _) <| View.allAt_cons_unit _ _ _ _ _ (tile _ _ _) <| View.allAt_nil _ _

end Cert.MixVal
end
-- ==== Proof.Mix.Run.lean ====
module

public import proofs.«01_k».proof.Proof.Mix.Block

@[expose] public section

noncomputable section

/-! The result array of that kernel as one function of its argument arrays. -/

namespace Cert.MixVal

open Cert.FfnVal (row)
open Cert.MixFfnIdeal Cert.MixFfnIdeal.Gen Cert.MixFfnIdeal.Value Idealize.ShloMosaic Idealize.ShloMosaic.TcCoe Idealize.SL.Sem

variable (m : (ℓ : Loc nD τ sig) → Buf (Elt Ideal) ℓ)

/-- Result row `r`, column `c`: the layer on row `r % 2048` of sequence `r / 2048`. -/
def result (x0 : Vec Ideal S16x2048x1024 .f32) (x1 x2 : Vec Ideal S16x2048x512 .f32) (x3 x4 : Vec Ideal S4x3x1024 .f32)
    (x5 : Vec Ideal S2x1024x1024 .f32) (x6 x7 : Vec Ideal S4x1024x2816 .f32) (x8 : Vec Ideal S4x2816x1024 .f32)
    (r : Fin 32768) (c : Fin 1024) : EReal :=
  row (mixed (fun k => x0 (ix3 ⟨r / 2048, by omega⟩ ⟨r % 2048, by omega⟩ k)) (fun k => x4 (ix3 0 1 k))
      (fun k c => x5 (ix3 0 ⟨k, by omega⟩ c)) (fun k c => x5 (ix3 0 ⟨512 + k, by omega⟩ c))
      (fun k => x1 (ix3 ⟨r / 2048, by omega⟩ ⟨r % 2048, by omega⟩ k)) (fun k => x2 (ix3 ⟨r / 2048, by omega⟩ ⟨r % 2048, by omega⟩ k)))
    (fun k => x3 (ix3 0 2 k)) (fun k => x4 (ix3 0 2 k)) (fun k j => x6 (ix3 0 k j)) (fun k j => x7 (ix3 0 k j))
    (fun j c => x8 (ix3 0 j c)) c

/-! The arrays the windows stage, after the host's slices, reshapes and conversions. -/

set_option maxRecDepth 16384 in
theorem V_x (c : Dev nD) (r : Fin 32768) (k : Fin 1024) : V m c main_v11 (ix2 r k) =
    m ((c : Thread nD τ).loc main_arg0) (ix3 ⟨r / 2048, by omega⟩ ⟨r % 2048, by omega⟩ k) := by
  unfold V hostOps0; after_results_simp; pointwise []

set_option maxRecDepth 16384 in
theorem V_attn (c : Dev nD) (r : Fin 32768) (k : Fin 512) : V m c main_v5 (ix2 r k) =
    m ((c : Thread nD τ).loc main_arg1) (ix3 ⟨r / 2048, by omega⟩ ⟨r % 2048, by omega⟩ k) := by
  unfold V hostOps0; after_results_simp; pointwise []

set_option maxRecDepth 16384 in
theorem V_rec (c : Dev nD) (r : Fin 32768) (k : Fin 512) : V m c main_v7 (ix2 r k) =
    m ((c : Thread nD τ).loc main_arg2) (ix3 ⟨r / 2048, by omega⟩ ⟨r % 2048, by omega⟩ k) := by
  unfold V hostOps0; after_results_simp; pointwise []

set_option maxRecDepth 16384 in
theorem V_mix (c : Dev nD) (k : Fin 1024) : V m c main_v10 (ix2 0 k) = m ((c : Thread nD τ).loc main_arg4) (ix3 0 1 k) := by
  unfold V hostOps0; after_results_simp; pointwise []

set_option maxRecDepth 16384 in
theorem V_pre (c : Dev nD) (k : Fin 1024) : V m c main_v14 (ix2 0 k) = m ((c : Thread nD τ).loc main_arg3) (ix3 0 2 k) := by
  unfold V hostOps0; after_results_simp; pointwise []

set_option maxRecDepth 16384 in
theorem V_post (c : Dev nD) (k : Fin 1024) : V m c main_v17 (ix2 0 k) = m ((c : Thread nD τ).loc main_arg4) (ix3 0 2 k) := by
  unfold V hostOps0; after_results_simp; pointwise []

set_option maxRecDepth 16384 in
theorem V_out (c : Dev nD) : V m c main_v0 = (m ((c : Thread nD τ).loc main_arg5) : Vec Ideal S2x1024x1024 .f32) := by
  unfold V hostOps0; after_results_simp; rfl

set_option maxRecDepth 16384 in
theorem V_gate (c : Dev nD) : V m c main_v1 = (m ((c : Thread nD τ).loc main_arg6) : Vec Ideal S4x1024x2816 .f32) := by
  unfold V hostOps0; after_results_simp; rfl

set_option maxRecDepth 16384 in
theorem V_up (c : Dev nD) : V m c main_v2 = (m ((c : Thread nD τ).loc main_arg7) : Vec Ideal S4x1024x2816 .f32) := by
  unfold V hostOps0; after_results_simp; rfl

set_option maxRecDepth 16384 in
theorem V_down (c : Dev nD) : V m c main_v3 = (m ((c : Thread nD τ).loc main_arg8) : Vec Ideal S4x2816x1024 .f32) := by
  unfold V hostOps0; after_results_simp; rfl

/-- The block indices at grid point `t`. -/
theorem idx_facts : ∀ t : Fin cfg0.N,
    (win0_0.index t (0 : Fin 2) = t ∧ win0_0.index t (1 : Fin 2) = 0) ∧ (win0_1.index t (0 : Fin 2) = t ∧ win0_1.index t (1 : Fin 2) = 0) ∧
    (win0_2.index t (0 : Fin 2) = t ∧ win0_2.index t (1 : Fin 2) = 0) ∧ (win0_10.index t (0 : Fin 2) = t ∧ win0_10.index t (1 : Fin 2) = 0) ∧
    (∀ a, win0_3.index t a = 0) ∧ (∀ a, win0_4.index t a = 0) ∧ (∀ a, win0_5.index t a = 0) ∧ (∀ a, win0_6.index t a = 0) ∧
    (∀ a, win0_7.index t a = 0) ∧ (∀ a, win0_8.index t a = 0) ∧ (∀ a, win0_9.index t a = 0) :=
  (by decide +kernel : ∀ t : Fin grid0.N, _)

theorem covers : win0_10.Covers := by decide +kernel

theorem point_lt (t : Fin cfg0.N) : t.val < 32 := t.isLt

/-- A window whose block is `n0` rows at row `n0 * t`: its index maps, as numbers. -/
theorem rows_at {t k n : Nat} (i : Nat) (h : i = t) : i * n + 1 * k = t * n + k := by subst h; omega

theorem here {k n : Nat} (i : Nat) (h : i = 0) : i * n + 1 * k = k := by subst h; omega

theorem emb_rows (t : Fin cfg0.N) (r : Fin 1024) (k : Fin 1024) : ((cfg0.win 0).blk t).view.emb (ix2 r k : S1024x1024.Idx) =
    (ix2 ⟨t.val * 1024 + r, by have := point_lt t; omega⟩ k : S32768x1024.Idx) := by
  obtain ⟨⟨e0, e1⟩, -⟩ := idx_facts t
  funext a; apply Fin.ext
  match a with
  | ⟨0, _⟩ => exact rows_at (k := r.val) (win0_0.index t (0 : Fin 2)) e0
  | ⟨1, _⟩ => exact here (k := k.val) (win0_0.index t (1 : Fin 2)) e1

theorem emb_attn (t : Fin cfg0.N) (r : Fin 1024) (k : Fin 512) : ((cfg0.win 1).blk t).view.emb (ix2 r k : S1024x512.Idx) =
    (ix2 ⟨t.val * 1024 + r, by have := point_lt t; omega⟩ k : S32768x512.Idx) := by
  obtain ⟨-, ⟨e0, e1⟩, -⟩ := idx_facts t
  funext a; apply Fin.ext
  match a with
  | ⟨0, _⟩ => exact rows_at (k := r.val) (win0_1.index t (0 : Fin 2)) e0
  | ⟨1, _⟩ => exact here (k := k.val) (win0_1.index t (1 : Fin 2)) e1

theorem emb_rec (t : Fin cfg0.N) (r : Fin 1024) (k : Fin 512) : ((cfg0.win 2).blk t).view.emb (ix2 r k : S1024x512.Idx) =
    (ix2 ⟨t.val * 1024 + r, by have := point_lt t; omega⟩ k : S32768x512.Idx) := by
  obtain ⟨-, -, ⟨e0, e1⟩, -⟩ := idx_facts t
  funext a; apply Fin.ext
  match a with
  | ⟨0, _⟩ => exact rows_at (k := r.val) (win0_2.index t (0 : Fin 2)) e0
  | ⟨1, _⟩ => exact here (k := k.val) (win0_2.index t (1 : Fin 2)) e1

theorem emb_res (t : Fin cfg0.N) (r : Fin 1024) (k : Fin 1024) : ((cfg0.win 10).blk t).view.emb (ix2 r k : S1024x1024.Idx) =
    (ix2 ⟨t.val * 1024 + r, by have := point_lt t; omega⟩ k : S32768x1024.Idx) := by
  obtain ⟨-, -, -, ⟨e0, e1⟩, -⟩ := idx_facts t
  funext a; apply Fin.ext
  match a with
  | ⟨0, _⟩ => exact rows_at (k := r.val) (win0_10.index t (0 : Fin 2)) e0
  | ⟨1, _⟩ => exact here (k := k.val) (win0_10.index t (1 : Fin 2)) e1

theorem emb_mix (t : Fin cfg0.N) (k : Fin 1024) : ((cfg0.win 3).blk t).view.emb (ix2 0 k : S1x1024.Idx) = (ix2 0 k : S1x1024.Idx) := by
  have e := (idx_facts t).2.2.2.2.1
  funext a; apply Fin.ext
  match a with
  | ⟨0, _⟩ => exact here (k := 0) (win0_3.index t (0 : Fin 2)) (e 0)
  | ⟨1, _⟩ => exact here (k := k.val) (win0_3.index t (1 : Fin 2)) (e 1)

theorem emb_out (t : Fin cfg0.N) (k : Fin 1024) (j : Fin 1024) :
    ((cfg0.win 4).blk t).view.emb (ix3 0 k j : S1x1024x1024.Idx) = (ix3 0 k j : S2x1024x1024.Idx) := by
  have e := (idx_facts t).2.2.2.2.2.1
  funext a; apply Fin.ext
  match a with
  | ⟨0, _⟩ => exact here (k := 0) (win0_4.index t (0 : Fin 3)) (e 0)
  | ⟨1, _⟩ => exact here (k := k.val) (win0_4.index t (1 : Fin 3)) (e 1)
  | ⟨2, _⟩ => exact here (k := j.val) (win0_4.index t (2 : Fin 3)) (e 2)

theorem emb_pre (t : Fin cfg0.N) (k : Fin 1024) : ((cfg0.win 5).blk t).view.emb (ix2 0 k : S1x1024.Idx) = (ix2 0 k : S1x1024.Idx) := by
  have e := (idx_facts t).2.2.2.2.2.2.1
  funext a; apply Fin.ext
  match a with
  | ⟨0, _⟩ => exact here (k := 0) (win0_5.index t (0 : Fin 2)) (e 0)
  | ⟨1, _⟩ => exact here (k := k.val) (win0_5.index t (1 : Fin 2)) (e 1)

theorem emb_post (t : Fin cfg0.N) (k : Fin 1024) : ((cfg0.win 6).blk t).view.emb (ix2 0 k : S1x1024.Idx) = (ix2 0 k : S1x1024.Idx) := by
  have e := (idx_facts t).2.2.2.2.2.2.2.1
  funext a; apply Fin.ext
  match a with
  | ⟨0, _⟩ => exact here (k := 0) (win0_6.index t (0 : Fin 2)) (e 0)
  | ⟨1, _⟩ => exact here (k := k.val) (win0_6.index t (1 : Fin 2)) (e 1)

theorem emb_gate (t : Fin cfg0.N) (k : Fin 1024) (j : Fin 2816) :
    ((cfg0.win 7).blk t).view.emb (ix3 0 k j : S1x1024x2816.Idx) = (ix3 0 k j : S4x1024x2816.Idx) := by
  have e := (idx_facts t).2.2.2.2.2.2.2.2.1
  funext a; apply Fin.ext
  match a with
  | ⟨0, _⟩ => exact here (k := 0) (win0_7.index t (0 : Fin 3)) (e 0)
  | ⟨1, _⟩ => exact here (k := k.val) (win0_7.index t (1 : Fin 3)) (e 1)
  | ⟨2, _⟩ => exact here (k := j.val) (win0_7.index t (2 : Fin 3)) (e 2)

theorem emb_up (t : Fin cfg0.N) (k : Fin 1024) (j : Fin 2816) :
    ((cfg0.win 8).blk t).view.emb (ix3 0 k j : S1x1024x2816.Idx) = (ix3 0 k j : S4x1024x2816.Idx) := by
  have e := (idx_facts t).2.2.2.2.2.2.2.2.2.1
  funext a; apply Fin.ext
  match a with
  | ⟨0, _⟩ => exact here (k := 0) (win0_8.index t (0 : Fin 3)) (e 0)
  | ⟨1, _⟩ => exact here (k := k.val) (win0_8.index t (1 : Fin 3)) (e 1)
  | ⟨2, _⟩ => exact here (k := j.val) (win0_8.index t (2 : Fin 3)) (e 2)

theorem emb_down (t : Fin cfg0.N) (k : Fin 2816) (j : Fin 1024) :
    ((cfg0.win 9).blk t).view.emb (ix3 0 k j : S1x2816x1024.Idx) = (ix3 0 k j : S4x2816x1024.Idx) := by
  have e := (idx_facts t).2.2.2.2.2.2.2.2.2.2
  funext a; apply Fin.ext
  match a with
  | ⟨0, _⟩ => exact here (k := 0) (win0_9.index t (0 : Fin 3)) (e 0)
  | ⟨1, _⟩ => exact here (k := k.val) (win0_9.index t (1 : Fin 3)) (e 1)
  | ⟨2, _⟩ => exact here (k := j.val) (win0_9.index t (2 : Fin 3)) (e 2)

/-- The result array after the run. -/
def out (c : Dev nD) : Vec Ideal S32768x1024 .f32 := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1)

/-- A grid point's block at an index is the layer on that row of the arguments. -/
theorem block_apply (c : Dev nD) (t : Fin cfg0.N) (r k : Fin 1024) :
    out0_10 (iblk m c 0 t) (iblk m c 1 t) (iblk m c 2 t) (iblk m c 3 t) (iblk m c 4 t) (iblk m c 5 t) (iblk m c 6 t) (iblk m c 7 t)
        (iblk m c 8 t) (iblk m c 9 t) (ix2 r k) =
      out m c (((cfg0.win 10).blk t).view.emb (ix2 r k : S1024x1024.Idx)) := by
  rw [emb_res, out_apply, blockRow]
  have e0 : ∀ r k, iblk m c 0 t (ix2 r k : S1024x1024.Idx) = _ := fun r k =>
    (congrArg (V m c main_v11) (emb_rows t r k)).trans (V_x m c _ _)
  have e1 : ∀ r k, iblk m c 1 t (ix2 r k : S1024x512.Idx) = _ := fun r k =>
    (congrArg (V m c main_v5) (emb_attn t r k)).trans (V_attn m c _ _)
  have e2 : ∀ r k, iblk m c 2 t (ix2 r k : S1024x512.Idx) = _ := fun r k =>
    (congrArg (V m c main_v7) (emb_rec t r k)).trans (V_rec m c _ _)
  have e3 : ∀ k, iblk m c 3 t (ix2 0 k : S1x1024.Idx) = _ := fun k =>
    (congrArg (V m c main_v10) (emb_mix t k)).trans (V_mix m c k)
  have e4 : ∀ k j, iblk m c 4 t (ix3 0 k j : S1x1024x1024.Idx) = _ := fun k j =>
    (congrArg (V m c main_v0) (emb_out t k j)).trans (congrFun (V_out m c) _)
  have e5 : ∀ k, iblk m c 5 t (ix2 0 k : S1x1024.Idx) = _ := fun k =>
    (congrArg (V m c main_v14) (emb_pre t k)).trans (V_pre m c k)
  have e6 : ∀ k, iblk m c 6 t (ix2 0 k : S1x1024.Idx) = _ := fun k =>
    (congrArg (V m c main_v17) (emb_post t k)).trans (V_post m c k)
  have e7 : ∀ k j, iblk m c 7 t (ix3 0 k j : S1x1024x2816.Idx) = _ := fun k j =>
    (congrArg (V m c main_v1) (emb_gate t k j)).trans (congrFun (V_gate m c) _)
  have e8 : ∀ k j, iblk m c 8 t (ix3 0 k j : S1x1024x2816.Idx) = _ := fun k j =>
    (congrArg (V m c main_v2) (emb_up t k j)).trans (congrFun (V_up m c) _)
  have e9 : ∀ k j, iblk m c 9 t (ix3 0 k j : S1x2816x1024.Idx) = _ := fun k j =>
    (congrArg (V m c main_v3) (emb_down t k j)).trans (congrFun (V_down m c) _)
  simp only [e0, e1, e2, e3, e4, e5, e6, e7, e8, e9]
  rfl

/-- A block that agrees with an array at every row and column is the array's block. -/
theorem cut_eq (t : Fin cfg0.N) (f : Vec Ideal S1024x1024 .f32) (g : Vec Ideal S32768x1024 .f32)
    (h : ∀ r k : Fin 1024, f (ix2 r k) = g (((cfg0.win 10).blk t).view.emb (ix2 r k : S1024x1024.Idx))) :
    (cfg0.win 10).cut (grid0.coords t) f = ((cfg0.win 10).blk t).view.read (Elt Ideal) g := by
  funext j
  show f j = g (((cfg0.win 10).blk t).view.emb j)
  rw [eq_ix2 (n0 := 1024) (n1 := 1024) j]; exact h _ _

/-- The result array after the run is the layer on every row. -/
theorem final (c : Dev nD) : (dats m 0 c).arrAt 10 cfg0.N = out m c :=
  (dats m 0 c).arrAt_eq_of_cover 10 (out m c)
    (fun t _ => (flushed10 m c t).trans (cut_eq t _ (out m c) (block_apply m c t)))
    (Pipeline.Window.Covers.cover _ covers (Memref.isWhole_whole _))

end Cert.MixVal
end
-- ==== Proof.Mix.Ref.lean ====
module

public import proofs.«01_k».proof.Proof.Gen.MixFfnRefIdeal.Read
public import proofs.«01_k».proof.Proof.Mix.Run
public import proofs.«01_k».proof.Defs

@[expose] public section

noncomputable section

namespace Cert.MixVal

open Cert.FfnVal (rms hidden residual row)
open Cert.MixFfnRefIdeal Cert.MixFfnRefIdeal.Gen Cert.MixFfnRefIdeal.Read Idealize.ShloMosaic Idealize.SL.Sem

set_option maxRecDepth 16384 in
/-- The reference's product of the joined head groups with the output weights, over the two halves. -/
theorem ref_product (x1 x2 : Vec Ideal S16x2048x512 .f32) (x5 : Vec Ideal S2x1024x1024 .f32) (b : Fin 16) (s : Fin 2048) (c : Fin 1024) :
    val_main_v3 (F := Ideal) x1 x2 x5 (ix3 b s c) =
      (∑ k : Fin 512, x1 (ix3 b s k) * x5 (ix3 0 ⟨k, by omega⟩ c)) + ∑ k : Fin 512, x2 (ix3 b s k) * x5 (ix3 0 ⟨512 + k, by omega⟩ c) := by
  unfold val_main_v3 val_main_v2 val_main_v1 val_main_v0
  pointwise []

set_option maxRecDepth 16384 in
/-- The reference's activations with the mixer's output added. -/
theorem ref_mixed (x0 : Vec Ideal S16x2048x1024 .f32) (x1 x2 : Vec Ideal S16x2048x512 .f32) (x4 : Vec Ideal S4x3x1024 .f32)
    (x5 : Vec Ideal S2x1024x1024 .f32) (b : Fin 16) (s : Fin 2048) (c : Fin 1024) :
    val_main_v19 (F := Ideal) x0 x1 x2 x4 x5 (ix3 b s c) =
      mixed (fun k => x0 (ix3 b s k)) (fun k => x4 (ix3 0 1 k)) (fun k c => x5 (ix3 0 ⟨k, by omega⟩ c))
        (fun k c => x5 (ix3 0 ⟨512 + k, by omega⟩ c)) (fun k => x1 (ix3 b s k)) (fun k => x2 (ix3 b s k)) c := by
  have hh := ref_product x1 x2 x5
  unfold val_main_v19 val_main_v18 val_main_v17 val_main_v16 val_main_v15 val_main_v14 val_main_v13 val_main_v12 val_main_v11
    val_main_cst_1 val_main_v10 val_main_v9 val_main_cst_0 val_main_v8 val_main_v7 val_main_cst val_main_v6 val_main_v5
    val_main_v4
  generalize val_main_v3 (F := Ideal) x1 x2 x5 = y at hh ⊢
  pointwise []
  simp only [hh]
  rfl

set_option maxRecDepth 16384 in
/-- The reference's hidden layer at an index. -/
theorem ref_hidden (x0 : Vec Ideal S16x2048x1024 .f32) (x1 x2 : Vec Ideal S16x2048x512 .f32) (x3 x4 : Vec Ideal S4x3x1024 .f32)
    (x5 : Vec Ideal S2x1024x1024 .f32) (x6 x7 : Vec Ideal S4x1024x2816 .f32) (b : Fin 16) (s : Fin 2048) (j : Fin 2816) :
    val_main_v44 (F := Ideal) x0 x1 x2 x3 x4 x5 x6 x7 (ix3 b s j) =
      hidden (rms (fun k => val_main_v19 (F := Ideal) x0 x1 x2 x4 x5 (ix3 b s k)) fun k => x3 (ix3 0 2 k)) (fun k => x6 (ix3 0 k j))
        (fun k => x7 (ix3 0 k j)) := by
  unfold val_main_v44 val_main_v43 val_main_v42 val_main_call0_v5 val_main_call0_v4 val_main_call0_cst_0 val_main_call0_v3
    val_main_call0_v2 val_main_call0_cst val_main_call0_v1 val_main_call0_v0 val_main_v41 val_main_v38 val_main_v37
    val_main_v36 val_main_v35 val_main_v34 val_main_v33 val_main_v32 val_main_v31 val_main_v30 val_main_v29 val_main_v28
    val_main_v27 val_main_cst_4 val_main_v26 val_main_v25 val_main_cst_3 val_main_v24 val_main_v23 val_main_cst_2
    val_main_v22 val_main_v21 val_main_v20
  generalize val_main_v19 (F := Ideal) x0 x1 x2 x4 x5 = y
  pointwise []
  rfl

set_option maxRecDepth 16384 in
/-- The reference's result at an index: the layer on that row. -/
theorem ref_apply (x0 : Vec Ideal S16x2048x1024 .f32) (x1 x2 : Vec Ideal S16x2048x512 .f32) (x3 x4 : Vec Ideal S4x3x1024 .f32)
    (x5 : Vec Ideal S2x1024x1024 .f32) (x6 x7 : Vec Ideal S4x1024x2816 .f32) (x8 : Vec Ideal S4x2816x1024 .f32) (r : Fin 32768) (c : Fin 1024) :
    val_main_v64 (F := Ideal) x0 x1 x2 x3 x4 x5 x6 x7 x8 (ix2 r c) = result x0 x1 x2 x3 x4 x5 x6 x7 x8 r c := by
  have hh := ref_hidden x0 x1 x2 x3 x4 x5 x6 x7
  have hm := ref_mixed x0 x1 x2 x4 x5
  unfold val_main_v64 val_main_v63 val_main_v62 val_main_v61 val_main_cst_8 val_main_v60 val_main_v59 val_main_v58
    val_main_v57 val_main_v56 val_main_v55 val_main_v54 val_main_v53 val_main_cst_7 val_main_v52 val_main_v51 val_main_cst_6
    val_main_v50 val_main_v49 val_main_cst_5 val_main_v48 val_main_v47 val_main_v46 val_main_v45 val_main_v40 val_main_v39
  generalize val_main_v44 (F := Ideal) x0 x1 x2 x3 x4 x5 x6 x7 = y at hh ⊢
  generalize val_main_v19 (F := Ideal) x0 x1 x2 x4 x5 = z at hh hm ⊢
  pointwise []
  simp only [hh, hm]
  rfl

open Idealize.ShloMosaic.TcCoe

/-- From arguments that agree, the two runs end with one result array. -/
theorem algebraic : Cert.algebraic_MixFfnIdeal_MixFfnRefIdeal
    (hMixFfnIdeal := Cert.MixFfnIdeal.Gen.facts) (hMixFfnRefIdeal := Cert.MixFfnRefIdeal.Gen.facts) := by
  intro m g m' g' _ hagree
  refine ⟨fun c => out m c, ?_, ?_⟩
  · exact (θ_run _ _ _).mono (fun r h c => ⟨(h c).1.trans (final m c), (h c).2⟩) (Cert.MixFfnIdeal.Value.run_blocks m g)
  · refine (θ_run _ _ _).mono (fun r h c => ⟨(h c).1.trans ?_, (h c).2⟩) (Cert.MixFfnRefIdeal.Value.run m' g')
    obtain ⟨a0, a1, a2, a3, a4, a5, a6, a7, a8⟩ := hagree c
    rw [val_main_v64_eq]
    funext i
    rw [a0, a1, a2, a3, a4, a5, a6, a7, a8, eq_ix2 i]
    exact ref_apply _ _ _ _ _ _ _ _ _ _ _

end Cert.MixVal
end
-- ==== Proof.Sconv.Block.lean ====
module

public import proofs.«01_k».proof.Proof.Gen.SconvIdeal.Value
public import proofs.«01_k».proof.Proof.Ffn.Row
public import Idealize.ShloMosaic.Lib.Pipeline.ValueKit

@[expose] public section

noncomputable section

/-! One grid point of the gated short convolution: 1024 rows of one sequence, in four groups of 256, after the eight rows
that precede them. -/

namespace Cert.SconvVal

open Cert.FfnVal (rms)
open Cert.SconvIdeal Cert.SconvIdeal.Gen Idealize.ShloMosaic Idealize.ShloMosaic.TcCoe Idealize.ShloMosaic.Tactic Idealize.SL.Sem

/-! ## The layer on one row -/

/-- The gate on the convolution's result: the first third of the input projection. -/
def gate (x gpre : Fin 1024 → EReal) (w : Fin 1024 → Fin 3072 → EReal) (c : Fin 1024) : EReal :=
  ∑ k, rms x gpre k * w k ⟨c, by omega⟩

/-- What is convolved: the product of the other two thirds. -/
def inner (x gpre : Fin 1024 → EReal) (w : Fin 1024 → Fin 3072 → EReal) (c : Fin 1024) : EReal :=
  (∑ k, rms x gpre k * w k ⟨1024 + c, by omega⟩) * ∑ k, rms x gpre k * w k ⟨2048 + c, by omega⟩

/-- The layer's result on a row, from the gate and from what is convolved at the row itself and one and two rows before. -/
def row (x gpost : Fin 1024 → EReal) (cw : Fin 3 → Fin 1024 → EReal) (wo : Fin 1024 → Fin 1024 → EReal)
    (g u0 u1 u2 : Fin 1024 → EReal) (c : Fin 1024) : EReal :=
  x c + rms (fun c => ∑ j, g j * (cw 2 j * u0 j + cw 1 j * u1 j + cw 0 j * u2 j) * wo j c) gpost c

/-! ## A group of rows -/

variable {F : FTy → Type} [FloatOps F]

/-- The gated convolution of a group, after the eight rows `tail`. -/
def gated (tail : Vec F S1x8x1024 .f32) (x : Vec F S256x1024 .f32) (gpre : Vec F S1x1024 .f32) (wb : Vec F S1x1024x1024 .bf16)
    (wc : Vec F S1x1024x2048 .bf16) (c2 c1 c0 : Vec F S1x1x1024 .f32) : FVec F S256x1024 .bf16 :=
  k0_pay9 tail (k0_pay4 x gpre wb) (k0_pay5 x gpre wc) (k0_pay6 x gpre wc) (k0_pay7 c2) c1 c0

/-- What is convolved, at the last eight rows of a group. -/
def last (x : Vec F S256x1024 .f32) (gpre : Vec F S1x1024 .f32) (wc : Vec F S1x1024x2048 .bf16) : FVec F S1x8x1024 .f32 :=
  k0_pay8 (k0_pay6 x gpre wc)

/-- The rows of a block from row `o` on. -/
def rowsAt (x0 : Vec F S1024x1024 .f32) (o : Nat) (inb : ∀ a, ![o, 0] a + S256x1024.size a ≤ S1024x1024.size a) :
    Vec F S256x1024 .f32 :=
  View.ld x0 (Rect.unit (s := S1024x1024) ![o, 0] S256x1024.size inb)

/-- The last eight rows of the group at row `o`, from the windows' blocks. -/
def lastAt (x0 : Vec F S1024x1024 .f32) (x1 : Vec F S1x1024 .f32) (x3 : Vec F S1x1024x3072 .bf16) (o : Nat)
    (inb : ∀ a, ![o, 0] a + S256x1024.size a ≤ S1024x1024.size a) : FVec F S1x8x1024 .f32 :=
  last (rowsAt x0 o inb) (View.ld x1 (Rect.unit (s := S1x1024) ![0, 0] S1x1024.size inb_S1x1024_S1x1024_0_0))
    (View.ld x3 (Rect.unit (s := S1x1024x3072) ![0, 0, 1024] S1x1024x2048.size inb_S1x1024x3072_S1x1024x2048_0_0_1024))

/-- The layer on the group at row `o`, from the windows' blocks. -/
def groupAt (tail : Vec F S1x8x1024 .f32) (x0 : Vec F S1024x1024 .f32) (x1 x2 : Vec F S1x1024 .f32) (x3 : Vec F S1x1024x3072 .bf16)
    (x4 : Vec F S1x3x1024 .f32) (x5 : Vec F S1x1024x1024 .bf16) (o : Nat)
    (inb : ∀ a, ![o, 0] a + S256x1024.size a ≤ S1024x1024.size a) : FVec F S256x1024 .f32 :=
  k0_pay44
    (gated tail (rowsAt x0 o inb) (View.ld x1 (Rect.unit (s := S1x1024) ![0, 0] S1x1024.size inb_S1x1024_S1x1024_0_0))
      (View.ld x3 (Rect.unit (s := S1x1024x3072) ![0, 0, 0] S1x1024x1024.size inb_S1x1024x3072_S1x1024x1024_0_0_0))
      (View.ld x3 (Rect.unit (s := S1x1024x3072) ![0, 0, 1024] S1x1024x2048.size inb_S1x1024x3072_S1x1024x2048_0_0_1024))
      (View.ld x4 (Rect.unit (s := S1x3x1024) ![0, 2, 0] S1x1x1024.size inb_S1x3x1024_S1x1x1024_0_2_0))
      (View.ld x4 (Rect.unit (s := S1x3x1024) ![0, 1, 0] S1x1x1024.size inb_S1x3x1024_S1x1x1024_0_1_0))
      (View.ld x4 (Rect.unit (s := S1x3x1024) ![0, 0, 0] S1x1x1024.size inb_S1x3x1024_S1x1x1024_0_0_0)))
    (rowsAt x0 o inb)
    (View.ld x5 (Rect.unit (s := S1x1024x1024) ![0, 0, 0] S1x1024x1024.size inb_S1x1024x1024_S1x1024x1024_0_0_0))
    (View.ld x2 (Rect.unit (s := S1x1024) ![0, 0] S1x1024.size inb_S1x1024_S1x1024_0_0))

/-- The four stores of a grid point, last first. -/
def pieces (tail : Vec F S1x8x1024 .f32) (x0 : Vec F S1024x1024 .f32) (x1 x2 : Vec F S1x1024 .f32) (x3 : Vec F S1x1024x3072 .bf16)
    (x4 : Vec F S1x3x1024 .f32) (x5 : Vec F S1x1024x1024 .bf16) : List (View.Piece (Elt F) S1024x1024 .f32) :=
  [⟨Rect.unit (s := S1024x1024) ![768, 0] S256x1024.size inb_S1024x1024_S256x1024_768_0,
      groupAt (lastAt x0 x1 x3 512 inb_S1024x1024_S256x1024_512_0) x0 x1 x2 x3 x4 x5 768 inb_S1024x1024_S256x1024_768_0⟩,
    ⟨Rect.unit (s := S1024x1024) ![512, 0] S256x1024.size inb_S1024x1024_S256x1024_512_0,
      groupAt (lastAt x0 x1 x3 256 inb_S1024x1024_S256x1024_256_0) x0 x1 x2 x3 x4 x5 512 inb_S1024x1024_S256x1024_512_0⟩,
    ⟨Rect.unit (s := S1024x1024) ![256, 0] S256x1024.size inb_S1024x1024_S256x1024_256_0,
      groupAt (lastAt x0 x1 x3 0 inb_S1024x1024_S256x1024_0_0) x0 x1 x2 x3 x4 x5 256 inb_S1024x1024_S256x1024_256_0⟩,
    ⟨Rect.unit (s := S1024x1024) ![0, 0] S256x1024.size inb_S1024x1024_S256x1024_0_0,
      groupAt tail x0 x1 x2 x3 x4 x5 0 inb_S1024x1024_S256x1024_0_0⟩]

variable (m : (ℓ : Loc nD τ sig) → Buf (Elt Ideal) ℓ)

set_option maxRecDepth 16384 in
/-- What the first grid point of a sequence writes: nothing precedes its rows. -/
theorem out_first (c : Dev nD) (t : Fin cfg0.N) (h0 : t.val % 2 = 0) : (outsAt0 m c t.val t.isLt).1 =
    View.canon (pieces (k0_pay2 (F := Ideal)) (iblk m c 0 t) (iblk m c 1 t) (iblk m c 2 t) (iblk m c 3 t) (iblk m c 4 t) (iblk m c 5 t)) := by
  rw [outsAt0_A m c t h0]; dsimp only
  unfold out0_A_6
  rw [View.read_writes_eq_canon _ _ _ (cover0_A_6 c _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread]
  exact congrArg (fun z => View.canon (pieces z (iblk m c 0 t) (iblk m c 1 t) (iblk m c 2 t) (iblk m c 3 t) (iblk m c 4 t) (iblk m c 5 t)))
    (View.readCov_unit_lit' (Val := Elt Ideal) (View.whole cc0_scratch0) inb_S1x8x1024_S1x8x1024_0_0_0 _ (by decide))

set_option maxRecDepth 16384 in
/-- What the second grid point of a sequence writes: its rows follow what the point before kept. -/
theorem out_next (c : Dev nD) (t : Fin cfg0.N) (h0 : ¬ t.val % 2 = 0) : (outsAt0 m c t.val t.isLt).1 =
    View.canon (pieces (View.ld (outsAt0 m c (t.val - 1) (by omega)).2
        (Rect.unit (s := S1x8x1024) ![0, 0, 0] S1x8x1024.size inb_S1x8x1024_S1x8x1024_0_0_0))
      (iblk m c 0 t) (iblk m c 1 t) (iblk m c 2 t) (iblk m c 3 t) (iblk m c 4 t) (iblk m c 5 t)) := by
  rw [outsAt0_B m c t h0]; dsimp only
  unfold out0_B_6
  rw [View.read_writes_eq_canon _ _ _ (cover0_B_6 c _ _ _ _ _ _ _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread,
    (hs0_4 t).read_unread, (hs0_5 t).read_unread]
  erw [(Memref.isWhole_whole cc0_scratch0).read_unread]
  rfl

set_option maxRecDepth 16384 in
/-- What the first grid point of a sequence keeps: the last eight rows of its last group. -/
theorem kept_first (c : Dev nD) (t : Fin cfg0.N) (h0 : t.val % 2 = 0) : (outsAt0 m c t.val t.isLt).2 =
    k0_pay1 (lastAt (iblk m c 0 t) (iblk m c 1 t) (iblk m c 3 t) 768 inb_S1024x1024_S256x1024_768_0) := by
  rw [outsAt0_A m c t h0]; dsimp only
  unfold sout0_A_0
  rw [View.read_writes_eq_canon _ _ _ (scover0_A_0 c _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread]
  exact View.canon_cons_unit_lit' inb_S1x8x1024_S1x8x1024_0_0_0 _ _ (by decide)

/-! ## At an index -/

set_option maxRecDepth 16384 in
theorem gate_apply (x : Vec Ideal S256x1024 .f32) (gpre : Vec Ideal S1x1024 .f32) (wb : Vec Ideal S1x1024x1024 .bf16)
    (p : Fin 256) (c : Fin 1024) :
    k0_pay4 x gpre wb (ix2 p c) = ∑ k, rms (fun k => x (ix2 p k)) (fun k => gpre (ix2 0 k)) k * wb (ix3 0 k c) := by
  pointwise [k0_pay4, k0_pay3]
  rfl

set_option maxRecDepth 16384 in
theorem inner_apply (x : Vec Ideal S256x1024 .f32) (gpre : Vec Ideal S1x1024 .f32) (wc : Vec Ideal S1x1024x2048 .bf16)
    (p : Fin 256) (c : Fin 1024) :
    k0_pay5 x gpre wc (ix2 p c) =
      (∑ k, rms (fun k => x (ix2 p k)) (fun k => gpre (ix2 0 k)) k * wc (ix3 0 k ⟨c, by omega⟩)) *
        ∑ k, rms (fun k => x (ix2 p k)) (fun k => gpre (ix2 0 k)) k * wc (ix3 0 k ⟨1024 + c, by omega⟩) := by
  pointwise [k0_pay5, k0_pay3]
  rfl

/-- The value `k` rows before row `p` of a group that follows the eight rows `tail`. -/
def back (u : Fin 256 → EReal) (tail : Fin 8 → EReal) (k : Nat) (p : Fin 256) : EReal :=
  if h : k ≤ p then u ⟨p - k, by omega⟩ else tail ⟨(8 + p - k) % 8, by omega⟩

/-- Row `p` is row `p % 8` of its eight: the rotation stays within the eight, or takes the eight before. -/
theorem select_eq (u : FVec Ideal S256x1024 .f32) (z : FVec Ideal S32x8x1024 .f32) (tail : Vec Ideal S1x8x1024 .f32) (c : Fin 1024)
    (hz : ∀ (a : Fin 32) (b : Fin 8), z (ix3 a b c) = u (ix2 ⟨8 * a + b, by omega⟩ c)) (k : Nat) (hk : k ≤ 8) (p : Fin 256)
    (hs : ∀ s : Fin 8, IntOp.cmpi CmpIPredicate.sge (BitVec.ofNat 32 s) (BitVec.ofNat 32 k) = if k ≤ s.val then 1#1 else 0#1) :
    Scalar.select (IntOp.cmpi CmpIPredicate.sge (BitVec.ofNat 32 (p.val % 8)) (BitVec.ofNat 32 k))
        (z (ix3 ⟨p / 8, by omega⟩ ⟨(p % 8 + 8 - k) % 8, by omega⟩ c))
        (if h : p.val / 8 < 1 then tail (ix3 ⟨p / 8, h⟩ ⟨(p % 8 + 8 - k) % 8, by omega⟩ c)
          else z (ix3 ⟨p / 8 - 1, by omega⟩ ⟨(p % 8 + 8 - k) % 8, by omega⟩ c)) =
      back (fun p => u (ix2 p c)) (fun s => tail (ix3 0 s c)) k p := by
  rw [hs ⟨p.val % 8, by omega⟩, hz]
  unfold back
  by_cases h1 : k ≤ p.val % 8
  · have h3 : k ≤ p.val := by omega
    rw [if_pos h1, dif_pos h3]
    have e : 8 * (p.val / 8) + (p.val % 8 + 8 - k) % 8 = p.val - k := by omega
    simp only [Scalar.select, e]; rfl
  · rw [if_neg h1]
    by_cases h2 : p.val / 8 < 1
    · have h3 : ¬ k ≤ p.val := by omega
      rw [dif_pos h2, dif_neg h3]
      have e : (p.val % 8 + 8 - k) % 8 = (8 + p.val - k) % 8 := by omega
      have e' : (⟨p.val / 8, h2⟩ : Fin 1) = 0 := Subsingleton.elim _ _
      simp only [Scalar.select, e, e']; rfl
    · have h3 : k ≤ p.val := by omega
      rw [dif_neg h2, dif_pos h3, hz]
      have e : 8 * (p.val / 8 - 1) + (p.val % 8 + 8 - k) % 8 = p.val - k := by omega
      simp only [Scalar.select, e]; rfl

set_option maxRecDepth 16384 in
theorem eights (x : Vec Ideal S256x1024 .f32) (gpre : Vec Ideal S1x1024 .f32) (wc : Vec Ideal S1x1024x2048 .bf16)
    (c : Fin 1024) (a : Fin 32) (b : Fin 8) :
    k0_pay6 x gpre wc (ix3 a b c) = k0_pay5 x gpre wc (ix2 ⟨8 * a + b, by omega⟩ c) := by
  unfold k0_pay6
  generalize k0_pay5 x gpre wc = y
  simp only [Nat.mul_comm 8]
  pointwise []

set_option maxRecDepth 16384 in
theorem gated_apply (tail : Vec Ideal S1x8x1024 .f32) (x : Vec Ideal S256x1024 .f32) (gpre : Vec Ideal S1x1024 .f32)
    (wb : Vec Ideal S1x1024x1024 .bf16) (wc : Vec Ideal S1x1024x2048 .bf16) (c2 c1 c0 : Vec Ideal S1x1x1024 .f32) (p : Fin 256) (c : Fin 1024) :
    gated tail x gpre wb wc c2 c1 c0 (ix2 p c) =
      k0_pay4 x gpre wb (ix2 p c) * (c2 (ix3 0 0 c) * k0_pay5 x gpre wc (ix2 p c) +
        c1 (ix3 0 0 c) * back (fun p => k0_pay5 x gpre wc (ix2 p c)) (fun s => tail (ix3 0 s c)) 1 p +
        c0 (ix3 0 0 c) * back (fun p => k0_pay5 x gpre wc (ix2 p c)) (fun s => tail (ix3 0 s c)) 2 p) := by
  have hz := eights x gpre wc c
  unfold gated
  generalize k0_pay4 x gpre wb = g
  generalize k0_pay6 x gpre wc = z at hz ⊢
  generalize k0_pay5 x gpre wc = u at hz ⊢
  rw [← select_eq u z tail c hz 1 (by omega) p (by decide), ← select_eq u z tail c hz 2 (by omega) p (by decide)]
  pointwise [k0_pay9, k0_pay7]

set_option maxRecDepth 16384 in
theorem finish_apply (y : FVec Ideal S256x1024 .bf16) (x : Vec Ideal S256x1024 .f32) (wo : Vec Ideal S1x1024x1024 .bf16)
    (gpost : Vec Ideal S1x1024 .f32) (p : Fin 256) (c : Fin 1024) :
    k0_pay44 y x wo gpost (ix2 p c) =
      x (ix2 p c) + rms (fun c => ∑ j, y (ix2 p j) * wo (ix3 0 j c)) (fun k => gpost (ix2 0 k)) c := by
  pointwise [k0_pay44]
  rfl

/-- What is convolved at row `r` of a block. -/
def innerAt (x0 : Vec Ideal S1024x1024 .f32) (x1 : Vec Ideal S1x1024 .f32) (x3 : Vec Ideal S1x1024x3072 .bf16) (r c : Fin 1024) : EReal :=
  inner (fun k => x0 (ix2 r k)) (fun k => x1 (ix2 0 k)) (fun k j => x3 (ix3 0 k j)) c

theorem rows_apply (x0 : Vec Ideal S1024x1024 .f32) (o : Nat) (inb) (p : Fin 256) (k : Fin 1024) (r : Fin 1024) (h : r.val = o + p.val) :
    rowsAt x0 o inb (ix2 p k) = x0 (ix2 r k) :=
  View.ld_unit_apply_of x0 _ _ _ _ _ fun a => match a with | ⟨0, _⟩ => h | ⟨1, _⟩ => (Nat.zero_add _).symm

theorem vec_apply (x : Vec Ideal S1x1024 .f32) (k : Fin 1024) :
    View.ld x (Rect.unit (s := S1x1024) ![0, 0] S1x1024.size inb_S1x1024_S1x1024_0_0) (ix2 0 k) = x (ix2 0 k) :=
  View.ld_unit_apply_of x _ _ _ _ _ fun a => match a with | ⟨0, _⟩ => rfl | ⟨1, _⟩ => (Nat.zero_add _).symm

theorem first_third (x3 : Vec Ideal S1x1024x3072 .bf16) (k : Fin 1024) (j : Fin 1024) :
    View.ld x3 (Rect.unit (s := S1x1024x3072) ![0, 0, 0] S1x1024x1024.size inb_S1x1024x3072_S1x1024x1024_0_0_0) (ix3 0 k j) =
      x3 (ix3 0 k ⟨j, by omega⟩) :=
  View.ld_unit_apply_of x3 _ _ _ _ _ fun a => match a with
    | ⟨0, _⟩ => rfl | ⟨1, _⟩ => (Nat.zero_add _).symm | ⟨2, _⟩ => (Nat.zero_add _).symm

theorem other_thirds (x3 : Vec Ideal S1x1024x3072 .bf16) (k : Fin 1024) (j : Fin 2048) (j' : Fin 3072) (h : j'.val = 1024 + j.val) :
    View.ld x3 (Rect.unit (s := S1x1024x3072) ![0, 0, 1024] S1x1024x2048.size inb_S1x1024x3072_S1x1024x2048_0_0_1024) (ix3 0 k j) =
      x3 (ix3 0 k j') :=
  View.ld_unit_apply_of x3 _ _ _ _ _ fun a => match a with
    | ⟨0, _⟩ => rfl | ⟨1, _⟩ => (Nat.zero_add _).symm | ⟨2, _⟩ => h

theorem inner_row (x0 : Vec Ideal S1024x1024 .f32) (x1 : Vec Ideal S1x1024 .f32) (x3 : Vec Ideal S1x1024x3072 .bf16) (o : Nat) (inb)
    (p : Fin 256) (c : Fin 1024) (r : Fin 1024) (h : r.val = o + p.val) :
    k0_pay5 (rowsAt x0 o inb) (View.ld x1 (Rect.unit (s := S1x1024) ![0, 0] S1x1024.size inb_S1x1024_S1x1024_0_0))
      (View.ld x3 (Rect.unit (s := S1x1024x3072) ![0, 0, 1024] S1x1024x2048.size inb_S1x1024x3072_S1x1024x2048_0_0_1024)) (ix2 p c) =
    innerAt x0 x1 x3 r c := by
  rw [inner_apply]
  simp only [fun k => rows_apply x0 o inb p k r h, vec_apply x1]
  have a1 : ∀ k, _ = x3 (ix3 0 k ⟨1024 + c, by omega⟩) := fun k => other_thirds x3 k ⟨c, by omega⟩ ⟨1024 + c, by omega⟩ rfl
  have a2 : ∀ k, _ = x3 (ix3 0 k ⟨2048 + c, by omega⟩) := fun k =>
    other_thirds x3 k ⟨1024 + c, by omega⟩ ⟨2048 + c, by omega⟩ (by show 2048 + c.val = 1024 + (1024 + c.val); omega)
  simp only [a1, a2]
  rfl

set_option maxRecDepth 16384 in
theorem last_apply (x : Vec Ideal S256x1024 .f32) (gpre : Vec Ideal S1x1024 .f32) (wc : Vec Ideal S1x1024x2048 .bf16) (s : Fin 8) (c : Fin 1024) :
    last x gpre wc (ix3 0 s c) = k0_pay5 x gpre wc (ix2 ⟨248 + s, by omega⟩ c) := by
  have hz := eights x gpre wc c
  unfold last
  generalize k0_pay6 x gpre wc = z at hz ⊢
  pointwise [k0_pay8]
  exact hz _ _

theorem lastAt_apply (x0 : Vec Ideal S1024x1024 .f32) (x1 : Vec Ideal S1x1024 .f32) (x3 : Vec Ideal S1x1024x3072 .bf16) (o : Nat) (inb)
    (s : Fin 8) (c : Fin 1024) (r : Fin 1024) (h : r.val = o + 248 + s.val) :
    lastAt x0 x1 x3 o inb (ix3 0 s c) = innerAt x0 x1 x3 r c :=
  (last_apply _ _ _ s c).trans (inner_row x0 x1 x3 o inb ⟨248 + s, by omega⟩ c r (by show r.val = o + (248 + s.val); omega))

/-- The value `k` rows before row `r` of a block that follows the eight rows `tail`. -/
def prev (u : Fin 1024 → EReal) (tail : Fin 8 → EReal) (k : Nat) (r : Fin 1024) : EReal :=
  if h : k ≤ r then u ⟨r - k, by omega⟩ else tail ⟨(8 + r - k) % 8, by omega⟩

/-- Within the group at row `o`, whose own eight rows before it are the block's. -/
theorem back_eq (u : Fin 1024 → EReal) (T tail : Fin 8 → EReal) (o k : Nat) (ho : o ≤ 768) (hk : k ≤ 8)
    (ht : (o = 0 ∧ tail = T) ∨ (8 ≤ o ∧ ∀ (s : Fin 8) (r : Fin 1024), r.val + 8 = o + s.val → tail s = u r))
    (v : Fin 256 → EReal) (hv : ∀ (p : Fin 256) (r : Fin 1024), r.val = o + p.val → v p = u r)
    (p : Fin 256) (r : Fin 1024) (h : r.val = o + p.val) : back v tail k p = prev u T k r := by
  unfold back prev
  by_cases h1 : k ≤ p.val
  · rw [dif_pos h1, dif_pos (by omega)]
    exact hv _ _ (by show r.val - k = o + (p.val - k); omega)
  · rw [dif_neg h1]
    rcases ht with ⟨h0, rfl⟩ | ⟨h0, ht⟩
    · rw [dif_neg (by omega)]
      congr 2; omega
    · rw [dif_pos (by omega)]
      exact ht _ _ (by show r.val - k + 8 = o + (8 + p.val - k) % 8; omega)

/-- The layer on one row of a grid point's blocks. -/
def blockRow (tail : Vec Ideal S1x8x1024 .f32) (x0 : Vec Ideal S1024x1024 .f32) (x1 x2 : Vec Ideal S1x1024 .f32)
    (x3 : Vec Ideal S1x1024x3072 .bf16) (x4 : Vec Ideal S1x3x1024 .f32) (x5 : Vec Ideal S1x1024x1024 .bf16) (r : Fin 1024) :
    Fin 1024 → EReal :=
  row (fun k => x0 (ix2 r k)) (fun k => x2 (ix2 0 k)) (fun k c => x4 (ix3 0 k c)) (fun j c => x5 (ix3 0 j c))
    (gate (fun k => x0 (ix2 r k)) (fun k => x1 (ix2 0 k)) fun k j => x3 (ix3 0 k j)) (innerAt x0 x1 x3 r)
    (fun c => prev (fun r => innerAt x0 x1 x3 r c) (fun s => tail (ix3 0 s c)) 1 r)
    (fun c => prev (fun r => innerAt x0 x1 x3 r c) (fun s => tail (ix3 0 s c)) 2 r)

theorem group_row (T tail : Vec Ideal S1x8x1024 .f32) (x0 : Vec Ideal S1024x1024 .f32) (x1 x2 : Vec Ideal S1x1024 .f32)
    (x3 : Vec Ideal S1x1024x3072 .bf16) (x4 : Vec Ideal S1x3x1024 .f32) (x5 : Vec Ideal S1x1024x1024 .bf16) (o : Nat) (inb) (ho : o ≤ 768)
    (ht : ∀ c, (o = 0 ∧ (fun s => tail (ix3 0 s c)) = fun s => T (ix3 0 s c)) ∨
      (8 ≤ o ∧ ∀ (s : Fin 8) (r : Fin 1024), r.val + 8 = o + s.val → tail (ix3 0 s c) = innerAt x0 x1 x3 r c))
    (p : Fin 256) (c : Fin 1024) (r : Fin 1024) (h : r.val = o + p.val) :
    groupAt tail x0 x1 x2 x3 x4 x5 o inb (ix2 p c) = blockRow T x0 x1 x2 x3 x4 x5 r c := by
  have e2 : ∀ c, View.ld x4 (Rect.unit (s := S1x3x1024) ![0, 2, 0] S1x1x1024.size inb_S1x3x1024_S1x1x1024_0_2_0) (ix3 0 0 c) =
      x4 (ix3 0 2 c) := fun c => View.ld_unit_apply_of x4 _ _ _ _ _ fun a => match a with
    | ⟨0, _⟩ => rfl | ⟨1, _⟩ => rfl | ⟨2, _⟩ => (Nat.zero_add _).symm
  have e1 : ∀ c, View.ld x4 (Rect.unit (s := S1x3x1024) ![0, 1, 0] S1x1x1024.size inb_S1x3x1024_S1x1x1024_0_1_0) (ix3 0 0 c) =
      x4 (ix3 0 1 c) := fun c => View.ld_unit_apply_of x4 _ _ _ _ _ fun a => match a with
    | ⟨0, _⟩ => rfl | ⟨1, _⟩ => rfl | ⟨2, _⟩ => (Nat.zero_add _).symm
  have e0 : ∀ c, View.ld x4 (Rect.unit (s := S1x3x1024) ![0, 0, 0] S1x1x1024.size inb_S1x3x1024_S1x1x1024_0_0_0) (ix3 0 0 c) =
      x4 (ix3 0 0 c) := fun c => View.ld_unit_apply_of x4 _ _ _ _ _ fun a => match a with
    | ⟨0, _⟩ => rfl | ⟨1, _⟩ => rfl | ⟨2, _⟩ => (Nat.zero_add _).symm
  have e5 : ∀ j c, View.ld x5 (Rect.unit (s := S1x1024x1024) ![0, 0, 0] S1x1024x1024.size inb_S1x1024x1024_S1x1024x1024_0_0_0) (ix3 0 j c) =
      x5 (ix3 0 j c) := fun j c => View.ld_unit_apply_of x5 _ _ _ _ _ fun a => match a with
    | ⟨0, _⟩ => rfl | ⟨1, _⟩ => (Nat.zero_add _).symm | ⟨2, _⟩ => (Nat.zero_add _).symm
  rw [groupAt, finish_apply]
  simp only [gated_apply, gate_apply, fun k => rows_apply x0 o inb p k r h, vec_apply x1, vec_apply x2, e0, e1, e2, e5, first_third x3,
    fun c => inner_row x0 x1 x3 o inb p c r h,
    fun c k (hk : k ≤ 8) => back_eq (fun r => innerAt x0 x1 x3 r c) (fun s => T (ix3 0 s c)) (fun s => tail (ix3 0 s c)) o k ho hk (ht c) _
      (fun p r h => inner_row x0 x1 x3 o inb p c r h) p r h,
    (by decide : 1 ≤ 8), (by decide : 2 ≤ 8)]
  rfl

/-- A grid point's block at an index: the layer on that row. -/
theorem pieces_apply (tail : Vec Ideal S1x8x1024 .f32) (x0 : Vec Ideal S1024x1024 .f32) (x1 x2 : Vec Ideal S1x1024 .f32)
    (x3 : Vec Ideal S1x1024x3072 .bf16) (x4 : Vec Ideal S1x3x1024 .f32) (x5 : Vec Ideal S1x1024x1024 .bf16) (r c : Fin 1024) :
    View.canon (pieces tail x0 x1 x2 x3 x4 x5) (ix2 r c) = blockRow tail x0 x1 x2 x3 x4 x5 r c := by
  have tile (g : Vec Ideal S1x8x1024 .f32) (o : Nat) (inb) (ho : o ≤ 768)
      (ht : ∀ c, (o = 0 ∧ (fun s => g (ix3 0 s c)) = fun s => tail (ix3 0 s c)) ∨
        (8 ≤ o ∧ ∀ (s : Fin 8) (r : Fin 1024), r.val + 8 = o + s.val → g (ix3 0 s c) = innerAt x0 x1 x3 r c)) :
      View.TileAt (Val := Elt Ideal) (S := S1024x1024) (e := .f32) (ix2 r c) ![o, 0] S256x1024.size
      (groupAt g x0 x1 x2 x3 x4 x5 o inb) (blockRow tail x0 x1 x2 x3 x4 x5 r c) := by
    intro x hx
    rw [eq_ix2 x, show c = x 1 from Fin.ext ((hx 1).trans (Nat.zero_add _))]
    exact group_row tail g x0 x1 x2 x3 x4 x5 o inb ho ht (x 0) (x 1) r (hx 0)
  refine View.canon_eq_of_allAt _ _ _ (View.cover_of_tiledL (pieces tail x0 x1 x2 x3 x4 x5) S256x1024.size (by sl_kernel_rfl) _) <|
    View.allAt_cons_unit _ _ _ _ _ (tile _ _ _ (by omega) fun c => .inr ⟨by omega, ?_⟩) <|
    View.allAt_cons_unit _ _ _ _ _ (tile _ _ _ (by omega) fun c => .inr ⟨by omega, ?_⟩) <|
    View.allAt_cons_unit _ _ _ _ _ (tile _ _ _ (by omega) fun c => .inr ⟨by omega, ?_⟩) <|
    View.allAt_cons_unit _ _ _ _ _ (tile _ _ _ (by omega) fun c => .inl ⟨rfl, rfl⟩) <| View.allAt_nil _ _
  · exact fun s r h => lastAt_apply x0 x1 x3 512 _ s c r (by omega)
  · exact fun s r h => lastAt_apply x0 x1 x3 256 _ s c r (by omega)
  · exact fun s r h => lastAt_apply x0 x1 x3 0 _ s c r (by omega)

end Cert.SconvVal
end
-- ==== Proof.Sconv.Run.lean ====
module

public import proofs.«01_k».proof.Proof.Sconv.Block

@[expose] public section

noncomputable section

/-! The result array of the gated short convolution as one function of its argument arrays. -/

namespace Cert.SconvVal

open Cert.FfnVal (rms)
open Cert.SconvIdeal Cert.SconvIdeal.Gen Cert.SconvIdeal.Value Idealize.ShloMosaic Idealize.ShloMosaic.TcCoe Idealize.SL.Sem

variable (m : (ℓ : Loc nD τ sig) → Buf (Elt Ideal) ℓ)

/-- What is convolved at position `s` of sequence `b`. -/
def innerOf (x0 : Vec Ideal S16x2048x1024 .f32) (x1 : Vec Ideal S4x3x1024 .f32) (x3 : Vec Ideal S2x1024x3072 .f32)
    (b : Fin 16) (s : Fin 2048) (c : Fin 1024) : EReal :=
  inner (fun k => x0 (ix3 b s k)) (fun k => x1 (ix3 3 1 k)) (fun k j => x3 (ix3 1 k j)) c

/-- What is convolved `k` positions before, nothing before the first. -/
def before (x0 : Vec Ideal S16x2048x1024 .f32) (x1 : Vec Ideal S4x3x1024 .f32) (x3 : Vec Ideal S2x1024x3072 .f32)
    (b : Fin 16) (s : Fin 2048) (k : Nat) (c : Fin 1024) : EReal :=
  if h : k ≤ s then innerOf x0 x1 x3 b ⟨s - k, by omega⟩ c else 0

/-- The layer at position `s` of sequence `b`. -/
def resultAt (x0 : Vec Ideal S16x2048x1024 .f32) (x1 x2 : Vec Ideal S4x3x1024 .f32) (x3 : Vec Ideal S2x1024x3072 .f32)
    (x4 : Vec Ideal S2x3x1024 .f32) (x5 : Vec Ideal S2x1024x1024 .f32) (b : Fin 16) (s : Fin 2048) : Fin 1024 → EReal :=
  row (fun k => x0 (ix3 b s k)) (fun k => x2 (ix3 3 1 k)) (fun k c => x4 (ix3 1 k c)) (fun j c => x5 (ix3 1 j c))
    (gate (fun k => x0 (ix3 b s k)) (fun k => x1 (ix3 3 1 k)) fun k j => x3 (ix3 1 k j))
    (innerOf x0 x1 x3 b s) (before x0 x1 x3 b s 1) (before x0 x1 x3 b s 2)

/-! The arrays the windows stage, after the host's slices, reshapes and conversions. -/

set_option maxRecDepth 16384 in
theorem V_x (c : Dev nD) (r : Fin 32768) (k : Fin 1024) : V m c main_v0 (ix2 r k) =
    m ((c : Thread nD τ).loc main_arg0) (ix3 ⟨r / 2048, by omega⟩ ⟨r % 2048, by omega⟩ k) := by
  unfold V hostOps0; after_results_simp; pointwise []

set_option maxRecDepth 16384 in
theorem V_pre (c : Dev nD) (k : Fin 1024) : V m c main_v3 (ix2 0 k) = m ((c : Thread nD τ).loc main_arg1) (ix3 3 1 k) := by
  unfold V hostOps0; after_results_simp; pointwise []

set_option maxRecDepth 16384 in
theorem V_post (c : Dev nD) (k : Fin 1024) : V m c main_v6 (ix2 0 k) = m ((c : Thread nD τ).loc main_arg2) (ix3 3 1 k) := by
  unfold V hostOps0; after_results_simp; pointwise []

set_option maxRecDepth 16384 in
theorem V_in (c : Dev nD) : V m c main_v7 = (m ((c : Thread nD τ).loc main_arg3) : Vec Ideal S2x1024x3072 .f32) := by
  unfold V hostOps0; after_results_simp; rfl

set_option maxRecDepth 16384 in
theorem V_conv (c : Dev nD) : V m c main_arg4 = (m ((c : Thread nD τ).loc main_arg4) : Vec Ideal S2x3x1024 .f32) := by
  unfold V hostOps0; after_results_simp

set_option maxRecDepth 16384 in
theorem V_out (c : Dev nD) : V m c main_v8 = (m ((c : Thread nD τ).loc main_arg5) : Vec Ideal S2x1024x1024 .f32) := by
  unfold V hostOps0; after_results_simp; rfl

/-- The block indices at grid point `t`. -/
theorem idx_facts : ∀ t : Fin cfg0.N,
    (win0_0.index t (0 : Fin 2) = t ∧ win0_0.index t (1 : Fin 2) = 0) ∧ (win0_6.index t (0 : Fin 2) = t ∧ win0_6.index t (1 : Fin 2) = 0) ∧
    (∀ a, win0_1.index t a = 0) ∧ (∀ a, win0_2.index t a = 0) ∧
    (win0_3.index t (0 : Fin 3) = 1 ∧ win0_3.index t (1 : Fin 3) = 0 ∧ win0_3.index t (2 : Fin 3) = 0) ∧
    (win0_4.index t (0 : Fin 3) = 1 ∧ win0_4.index t (1 : Fin 3) = 0 ∧ win0_4.index t (2 : Fin 3) = 0) ∧
    (win0_5.index t (0 : Fin 3) = 1 ∧ win0_5.index t (1 : Fin 3) = 0 ∧ win0_5.index t (2 : Fin 3) = 0) :=
  (by decide +kernel : ∀ t : Fin grid0.N, _)

theorem covers : win0_6.Covers := by decide +kernel

theorem point_lt (t : Fin cfg0.N) : t.val < 32 := t.isLt

/-- A window whose block is `n` rows at row `n * t`: its index maps, as numbers. -/
theorem rows_at {t k n : Nat} (i : Nat) (h : i = t) : i * n + 1 * k = t * n + k := by subst h; omega

theorem here {k n : Nat} (i : Nat) (h : i = 0) : i * n + 1 * k = k := by subst h; omega

theorem emb_rows (t : Fin cfg0.N) (r : Fin 1024) (k : Fin 1024) : ((cfg0.win 0).blk t).view.emb (ix2 r k : S1024x1024.Idx) =
    (ix2 ⟨t.val * 1024 + r, by have := point_lt t; omega⟩ k : S32768x1024.Idx) := by
  obtain ⟨⟨e0, e1⟩, -⟩ := idx_facts t
  funext a; apply Fin.ext
  match a with
  | ⟨0, _⟩ => exact rows_at (k := r.val) (win0_0.index t (0 : Fin 2)) e0
  | ⟨1, _⟩ => exact here (k := k.val) (win0_0.index t (1 : Fin 2)) e1

theorem emb_res (t : Fin cfg0.N) (r : Fin 1024) (k : Fin 1024) : ((cfg0.win 6).blk t).view.emb (ix2 r k : S1024x1024.Idx) =
    (ix2 ⟨t.val * 1024 + r, by have := point_lt t; omega⟩ k : S32768x1024.Idx) := by
  obtain ⟨-, ⟨e0, e1⟩, -⟩ := idx_facts t
  funext a; apply Fin.ext
  match a with
  | ⟨0, _⟩ => exact rows_at (k := r.val) (win0_6.index t (0 : Fin 2)) e0
  | ⟨1, _⟩ => exact here (k := k.val) (win0_6.index t (1 : Fin 2)) e1

theorem emb_pre (t : Fin cfg0.N) (k : Fin 1024) : ((cfg0.win 1).blk t).view.emb (ix2 0 k : S1x1024.Idx) = (ix2 0 k : S1x1024.Idx) := by
  have e := (idx_facts t).2.2.1
  funext a; apply Fin.ext
  match a with
  | ⟨0, _⟩ => exact here (k := 0) (win0_1.index t (0 : Fin 2)) (e 0)
  | ⟨1, _⟩ => exact here (k := k.val) (win0_1.index t (1 : Fin 2)) (e 1)

theorem emb_post (t : Fin cfg0.N) (k : Fin 1024) : ((cfg0.win 2).blk t).view.emb (ix2 0 k : S1x1024.Idx) = (ix2 0 k : S1x1024.Idx) := by
  have e := (idx_facts t).2.2.2.1
  funext a; apply Fin.ext
  match a with
  | ⟨0, _⟩ => exact here (k := 0) (win0_2.index t (0 : Fin 2)) (e 0)
  | ⟨1, _⟩ => exact here (k := k.val) (win0_2.index t (1 : Fin 2)) (e 1)

theorem emb_in (t : Fin cfg0.N) (k : Fin 1024) (j : Fin 3072) :
    ((cfg0.win 3).blk t).view.emb (ix3 0 k j : S1x1024x3072.Idx) = (ix3 1 k j : S2x1024x3072.Idx) := by
  obtain ⟨e0, e1, e2⟩ := (idx_facts t).2.2.2.2.1
  funext a; apply Fin.ext
  match a with
  | ⟨0, _⟩ => exact rows_at (k := 0) (n := 1) (win0_3.index t (0 : Fin 3)) e0
  | ⟨1, _⟩ => exact here (k := k.val) (win0_3.index t (1 : Fin 3)) e1
  | ⟨2, _⟩ => exact here (k := j.val) (win0_3.index t (2 : Fin 3)) e2

theorem emb_conv (t : Fin cfg0.N) (k : Fin 3) (j : Fin 1024) :
    ((cfg0.win 4).blk t).view.emb (ix3 0 k j : S1x3x1024.Idx) = (ix3 1 k j : S2x3x1024.Idx) := by
  obtain ⟨e0, e1, e2⟩ := (idx_facts t).2.2.2.2.2.1
  funext a; apply Fin.ext
  match a with
  | ⟨0, _⟩ => exact rows_at (k := 0) (n := 1) (win0_4.index t (0 : Fin 3)) e0
  | ⟨1, _⟩ => exact here (k := k.val) (win0_4.index t (1 : Fin 3)) e1
  | ⟨2, _⟩ => exact here (k := j.val) (win0_4.index t (2 : Fin 3)) e2

theorem emb_out (t : Fin cfg0.N) (k : Fin 1024) (j : Fin 1024) :
    ((cfg0.win 5).blk t).view.emb (ix3 0 k j : S1x1024x1024.Idx) = (ix3 1 k j : S2x1024x1024.Idx) := by
  obtain ⟨e0, e1, e2⟩ := (idx_facts t).2.2.2.2.2.2
  funext a; apply Fin.ext
  match a with
  | ⟨0, _⟩ => exact rows_at (k := 0) (n := 1) (win0_5.index t (0 : Fin 3)) e0
  | ⟨1, _⟩ => exact here (k := k.val) (win0_5.index t (1 : Fin 3)) e1
  | ⟨2, _⟩ => exact here (k := j.val) (win0_5.index t (2 : Fin 3)) e2

/-! The blocks at an index. -/

theorem blk_x (c : Dev nD) (t : Fin cfg0.N) (r k : Fin 1024) (b : Fin 16) (s : Fin 2048) (h : t.val * 1024 + r.val = b.val * 2048 + s.val) :
    iblk m c 0 t (ix2 r k : S1024x1024.Idx) = m ((c : Thread nD τ).loc main_arg0) (ix3 b s k) := by
  refine (congrArg (V m c main_v0) (emb_rows t r k)).trans ((V_x m c _ _).trans ?_)
  have e0 : (⟨(t.val * 1024 + r.val) / 2048, by have := point_lt t; omega⟩ : Fin 16) = b := Fin.ext (by show _ / 2048 = _; omega)
  have e1 : (⟨(t.val * 1024 + r.val) % 2048, by omega⟩ : Fin 2048) = s := Fin.ext (by show _ % 2048 = _; omega)
  exact congrArg (m ((c : Thread nD τ).loc main_arg0)) (congrArg₂ (fun b s => (ix3 b s k : S16x2048x1024.Idx)) e0 e1)

theorem blk_pre (c : Dev nD) (t : Fin cfg0.N) (k : Fin 1024) :
    iblk m c 1 t (ix2 0 k : S1x1024.Idx) = m ((c : Thread nD τ).loc main_arg1) (ix3 3 1 k) :=
  (congrArg (V m c main_v3) (emb_pre t k)).trans (V_pre m c k)

theorem blk_post (c : Dev nD) (t : Fin cfg0.N) (k : Fin 1024) :
    iblk m c 2 t (ix2 0 k : S1x1024.Idx) = m ((c : Thread nD τ).loc main_arg2) (ix3 3 1 k) :=
  (congrArg (V m c main_v6) (emb_post t k)).trans (V_post m c k)

theorem blk_in (c : Dev nD) (t : Fin cfg0.N) (k : Fin 1024) (j : Fin 3072) :
    iblk m c 3 t (ix3 0 k j : S1x1024x3072.Idx) = (m ((c : Thread nD τ).loc main_arg3) : Vec Ideal S2x1024x3072 .f32) (ix3 1 k j) :=
  (congrArg (V m c main_v7) (emb_in t k j)).trans (congrFun (V_in m c) _)

theorem blk_conv (c : Dev nD) (t : Fin cfg0.N) (k : Fin 3) (j : Fin 1024) :
    iblk m c 4 t (ix3 0 k j : S1x3x1024.Idx) = (m ((c : Thread nD τ).loc main_arg4) : Vec Ideal S2x3x1024 .f32) (ix3 1 k j) :=
  (congrArg (V m c main_arg4) (emb_conv t k j)).trans (congrFun (V_conv m c) _)

theorem blk_out (c : Dev nD) (t : Fin cfg0.N) (k j : Fin 1024) :
    iblk m c 5 t (ix3 0 k j : S1x1024x1024.Idx) = (m ((c : Thread nD τ).loc main_arg5) : Vec Ideal S2x1024x1024 .f32) (ix3 1 k j) :=
  (congrArg (V m c main_v8) (emb_out t k j)).trans (congrFun (V_out m c) _)

/-- What is convolved at a row of grid point `t`. -/
theorem inner_blk (c : Dev nD) (t : Fin cfg0.N) (r k : Fin 1024) (b : Fin 16) (s : Fin 2048)
    (h : t.val * 1024 + r.val = b.val * 2048 + s.val) :
    innerAt (iblk m c 0 t) (iblk m c 1 t) (iblk m c 3 t) r k =
      innerOf (m ((c : Thread nD τ).loc main_arg0)) (m ((c : Thread nD τ).loc main_arg1)) (m ((c : Thread nD τ).loc main_arg3)) b s k := by
  unfold innerAt
  simp only [fun k => blk_x m c t r k b s h, blk_pre m c t, blk_in m c t]
  rfl

/-! What precedes a grid point's rows. -/

set_option maxRecDepth 16384 in
theorem zeros_apply (s : Fin 8) (c : Fin 1024) : k0_pay2 (F := Ideal) (ix3 0 s c) = 0 := by
  pointwise [k0_pay2]

set_option maxRecDepth 16384 in
theorem keep_apply (v : FVec Ideal S1x8x1024 .f32) (s : Fin 8) (c : Fin 1024) : k0_pay1 v (ix3 0 s c) = v (ix3 0 s c) := by
  pointwise [k0_pay1]

theorem ld_tail (v : Vec Ideal S1x8x1024 .f32) (s : Fin 8) (c : Fin 1024) :
    View.ld v (Rect.unit (s := S1x8x1024) ![0, 0, 0] S1x8x1024.size inb_S1x8x1024_S1x8x1024_0_0_0) (ix3 0 s c) = v (ix3 0 s c) :=
  View.ld_unit_apply_of v _ _ _ _ _ fun a => match a with
    | ⟨0, _⟩ => rfl | ⟨1, _⟩ => (Nat.zero_add _).symm | ⟨2, _⟩ => (Nat.zero_add _).symm

/-- The values one or two rows before a row of grid point `t`, when the eight rows before are the sequence's. -/
theorem prev_blk (c : Dev nD) (t : Fin cfg0.N) (r j : Fin 1024) (b : Fin 16) (s : Fin 2048)
    (h : t.val * 1024 + r.val = b.val * 2048 + s.val) (tail : Fin 8 → EReal) (k : Nat) (hk : k ≤ 8)
    (ht : (t.val % 2 = 0 ∧ ∀ a, tail a = 0) ∨ (¬ t.val % 2 = 0 ∧ ∀ a : Fin 8, tail a =
      innerOf (m ((c : Thread nD τ).loc main_arg0)) (m ((c : Thread nD τ).loc main_arg1)) (m ((c : Thread nD τ).loc main_arg3)) b
        ⟨1016 + a, by omega⟩ j)) :
    prev (fun r => innerAt (iblk m c 0 t) (iblk m c 1 t) (iblk m c 3 t) r j) tail k r =
      before (m ((c : Thread nD τ).loc main_arg0)) (m ((c : Thread nD τ).loc main_arg1)) (m ((c : Thread nD τ).loc main_arg3)) b s k j := by
  unfold prev before
  by_cases h1 : k ≤ r.val
  · have h2 : k ≤ s.val := by omega
    rw [dif_pos h1, dif_pos h2]
    exact inner_blk m c t _ j b _ (by show t.val * 1024 + (r.val - k) = b.val * 2048 + (s.val - k); omega)
  · rw [dif_neg h1]
    rcases ht with ⟨h0, ht⟩ | ⟨h0, ht⟩
    · have h2 : ¬ k ≤ s.val := by omega
      rw [dif_neg h2, ht]
    · have h2 : k ≤ s.val := by omega
      rw [dif_pos h2, ht]
      have e : (⟨1016 + (8 + r.val - k) % 8, by omega⟩ : Fin 2048) = ⟨s.val - k, by omega⟩ :=
        Fin.ext (by show 1016 + (8 + r.val - k) % 8 = s.val - k; omega)
      exact congrArg (fun s => innerOf _ _ _ b s j) e

/-- The result array after the run. -/
def out (c : Dev nD) : Vec Ideal S32768x1024 .f32 := fun i =>
  resultAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(i 0).val / 2048, by have : (i 0).val < 32768 := (i 0).isLt; omega⟩ ⟨(i 0).val % 2048, by omega⟩ (i 1)

theorem row_blk (c : Dev nD) (t : Fin cfg0.N) (tail : Vec Ideal S1x8x1024 .f32) (r j : Fin 1024) (b : Fin 16) (s : Fin 2048)
    (h : t.val * 1024 + r.val = b.val * 2048 + s.val)
    (ht : ∀ j, (t.val % 2 = 0 ∧ ∀ a, tail (ix3 0 a j) = 0) ∨ (¬ t.val % 2 = 0 ∧ ∀ a : Fin 8, tail (ix3 0 a j) =
      innerOf (m ((c : Thread nD τ).loc main_arg0)) (m ((c : Thread nD τ).loc main_arg1)) (m ((c : Thread nD τ).loc main_arg3)) b
        ⟨1016 + a, by omega⟩ j)) :
    blockRow tail (iblk m c 0 t) (iblk m c 1 t) (iblk m c 2 t) (iblk m c 3 t) (iblk m c 4 t) (iblk m c 5 t) r j =
      resultAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s j := by
  have e1 := fun j => prev_blk m c t r j b s h (fun a => tail (ix3 0 a j)) 1 (by omega) (ht j)
  have e2 := fun j => prev_blk m c t r j b s h (fun a => tail (ix3 0 a j)) 2 (by omega) (ht j)
  have e0 := fun j => inner_blk m c t r j b s h
  unfold blockRow
  rw [show innerAt (iblk m c 0 t) (iblk m c 1 t) (iblk m c 3 t) r = _ from funext e0]
  simp only [e1, e2, fun k => blk_x m c t r k b s h, blk_pre m c t, blk_post m c t, blk_in m c t, blk_conv m c t, blk_out m c t]
  rfl

/-- A grid point's block at an index is the layer at that row of the arguments. -/
theorem block_apply (c : Dev nD) (t : Fin cfg0.N) (r k : Fin 1024) :
    (outsAt0 m c t.val t.isLt).1 (ix2 r k) = out m c (((cfg0.win 6).blk t).view.emb (ix2 r k : S1024x1024.Idx)) := by
  have ht := point_lt t
  rw [emb_res]
  by_cases h0 : t.val % 2 = 0
  · rw [out_first m c t h0, pieces_apply]
    exact row_blk m c t _ r k _ _ (by show _ = (t.val * 1024 + r.val) / 2048 * 2048 + (t.val * 1024 + r.val) % 2048; omega)
      fun j => .inl ⟨h0, fun a => zeros_apply a j⟩
  · rw [out_next m c t h0, pieces_apply]
    refine row_blk m c t _ r k _ _ (by show _ = (t.val * 1024 + r.val) / 2048 * 2048 + (t.val * 1024 + r.val) % 2048; omega)
      fun j => .inr ⟨h0, fun a => ?_⟩
    rw [ld_tail, kept_first m c ⟨t.val - 1, by omega⟩ (by show (t.val - 1) % 2 = 0; omega), keep_apply]
    refine (lastAt_apply _ _ _ 768 _ a j ⟨1016 + a, by omega⟩ rfl).trans (inner_blk m c _ _ j _ _ ?_)
    show (t.val - 1) * 1024 + (1016 + a.val) = (t.val * 1024 + r.val) / 2048 * 2048 + (1016 + a.val)
    omega

/-- A block that agrees with an array at every row and column is the array's block. -/
theorem cut_eq (t : Fin cfg0.N) (f : Vec Ideal S1024x1024 .f32) (g : Vec Ideal S32768x1024 .f32)
    (h : ∀ r k : Fin 1024, f (ix2 r k) = g (((cfg0.win 6).blk t).view.emb (ix2 r k : S1024x1024.Idx))) :
    (cfg0.win 6).cut (grid0.coords t) f = ((cfg0.win 6).blk t).view.read (Elt Ideal) g := by
  funext j
  show f j = g (((cfg0.win 6).blk t).view.emb j)
  rw [eq_ix2 (n0 := 1024) (n1 := 1024) j]; exact h _ _

/-- The result array after the run is the layer on every row. -/
theorem final (c : Dev nD) : (dats m 0 c).arrAt 6 cfg0.N = out m c :=
  (dats m 0 c).arrAt_eq_of_cover 6 (out m c)
    (fun t _ => (flushed6 m c t).trans (cut_eq t _ (out m c) (block_apply m c t)))
    (Pipeline.Window.Covers.cover _ covers (Memref.isWhole_whole _))

end Cert.SconvVal
end
-- ==== Proof.Sconv.Ref.lean ====
module

public import proofs.«01_k».proof.Proof.Gen.SconvRefIdeal.Read
public import proofs.«01_k».proof.Proof.Sconv.Run
public import proofs.«01_k».proof.Defs

@[expose] public section

noncomputable section

namespace Cert.SconvVal

open Cert.FfnVal (rms)
open Cert.SconvRefIdeal Cert.SconvRefIdeal.Gen Cert.SconvRefIdeal.Read Idealize.ShloMosaic Idealize.SL.Sem

set_option maxRecDepth 16384 in
/-- The reference's input projection. -/
theorem ref_proj (x0 : Vec Ideal S16x2048x1024 .f32) (x1 : Vec Ideal S4x3x1024 .f32) (x3 : Vec Ideal S2x1024x3072 .f32)
    (b : Fin 16) (s : Fin 2048) (j : Fin 3072) :
    val_main_v17 (F := Ideal) x0 x1 x3 (ix3 b s j) =
      ∑ k, rms (fun k => x0 (ix3 b s k)) (fun k => x1 (ix3 3 1 k)) k * x3 (ix3 1 k j) := by
  unfold val_main_v17 val_main_v16 val_main_v15 val_main_v14 val_main_v13 val_main_v12 val_main_v11 val_main_v10 val_main_v9
    val_main_v8 val_main_v7 val_main_cst_1 val_main_v6 val_main_v5 val_main_cst_0 val_main_v4 val_main_v3 val_main_cst
    val_main_v2 val_main_v1 val_main_v0
  pointwise []
  rfl

set_option maxRecDepth 16384 in
/-- The reference's gate. -/
theorem ref_gate (x0 : Vec Ideal S16x2048x1024 .f32) (x1 : Vec Ideal S4x3x1024 .f32) (x3 : Vec Ideal S2x1024x3072 .f32)
    (b : Fin 16) (s : Fin 2048) (c : Fin 1024) :
    val_main_v18 (F := Ideal) x0 x1 x3 (ix3 b s c) =
      gate (fun k => x0 (ix3 b s k)) (fun k => x1 (ix3 3 1 k)) (fun k j => x3 (ix3 1 k j)) c := by
  have hh := ref_proj x0 x1 x3
  unfold val_main_v18
  generalize val_main_v17 (F := Ideal) x0 x1 x3 = y at hh ⊢
  pointwise []
  exact hh _ _ _

set_option maxRecDepth 16384 in
/-- What the reference convolves. -/
theorem ref_inner (x0 : Vec Ideal S16x2048x1024 .f32) (x1 : Vec Ideal S4x3x1024 .f32) (x3 : Vec Ideal S2x1024x3072 .f32)
    (b : Fin 16) (s : Fin 2048) (c : Fin 1024) :
    val_main_v21 (F := Ideal) x0 x1 x3 (ix3 b s c) = innerOf x0 x1 x3 b s c := by
  have hh := ref_proj x0 x1 x3
  unfold val_main_v21 val_main_v20 val_main_v19
  generalize val_main_v17 (F := Ideal) x0 x1 x3 = y at hh ⊢
  pointwise []
  exact congrArg₂ (· * ·) (hh _ _ _) (hh _ _ _)

set_option maxRecDepth 16384 in
/-- What the reference convolves, after two rows of zeros. -/
theorem ref_padded (x0 : Vec Ideal S16x2048x1024 .f32) (x1 : Vec Ideal S4x3x1024 .f32) (x3 : Vec Ideal S2x1024x3072 .f32)
    (b : Fin 16) (s : Fin 2048) (k : Nat) (hk : k ≤ 2) (c : Fin 1024) :
    val_main_v25 (F := Ideal) x0 x1 x3 (ix3 b ⟨s + (2 - k), by omega⟩ c) = before x0 x1 x3 b s k c := by
  have hh := ref_inner x0 x1 x3
  unfold val_main_v25 val_main_v24 val_main_cst_2 before
  generalize val_main_v21 (F := Ideal) x0 x1 x3 = y at hh ⊢
  pointwise []
  by_cases h : k ≤ s.val
  · have h2 : ¬ s.val + (2 - k) < 2 := by omega
    rw [dif_pos h, dif_neg h2, hh]
    exact congrArg (fun s => innerOf x0 x1 x3 b s c) (Fin.ext (by show s.val + (2 - k) - 2 = s.val - k; omega))
  · have h2 : s.val + (2 - k) < 2 := by omega
    rw [dif_neg h, dif_pos h2]

set_option maxRecDepth 16384 in
/-- The reference's gated convolution. -/
theorem ref_gated (x0 : Vec Ideal S16x2048x1024 .f32) (x1 : Vec Ideal S4x3x1024 .f32) (x3 : Vec Ideal S2x1024x3072 .f32)
    (x4 : Vec Ideal S2x3x1024 .f32) (b : Fin 16) (s : Fin 2048) (c : Fin 1024) :
    val_main_v48 (F := Ideal) x0 x1 x3 x4 (ix3 b s c) =
      gate (fun k => x0 (ix3 b s k)) (fun k => x1 (ix3 3 1 k)) (fun k j => x3 (ix3 1 k j)) c *
        (x4 (ix3 1 2 c) * innerOf x0 x1 x3 b s c + x4 (ix3 1 1 c) * before x0 x1 x3 b s 1 c + x4 (ix3 1 0 c) * before x0 x1 x3 b s 2 c) := by
  have hg := ref_gate x0 x1 x3 b s c
  have h0 : val_main_v25 (F := Ideal) x0 x1 x3 (ix3 b ⟨2 + s, by omega⟩ c) = innerOf x0 x1 x3 b s c := by
    refine Eq.trans (congrArg (fun s => val_main_v25 (F := Ideal) x0 x1 x3 (ix3 b s c)) (Fin.ext (Nat.add_comm 2 s.val)))
      ((ref_padded x0 x1 x3 b s 0 (by omega) c).trans (dif_pos (Nat.zero_le s.val)))
  have h1 : val_main_v25 (F := Ideal) x0 x1 x3 (ix3 b ⟨1 + s, by omega⟩ c) = before x0 x1 x3 b s 1 c :=
    Eq.trans (congrArg (fun s => val_main_v25 (F := Ideal) x0 x1 x3 (ix3 b s c)) (Fin.ext (Nat.add_comm 1 s.val)))
      (ref_padded x0 x1 x3 b s 1 (by omega) c)
  have h2 : val_main_v25 (F := Ideal) x0 x1 x3 (ix3 b ⟨s, by omega⟩ c) = before x0 x1 x3 b s 2 c :=
    ref_padded x0 x1 x3 b s 2 (by omega) c
  unfold val_main_v48 val_main_v47 val_main_v46 val_main_v45 val_main_v44 val_main_v43 val_main_v42 val_main_v41 val_main_v40
    val_main_v39 val_main_v38 val_main_v37 val_main_v36 val_main_v35 val_main_v34 val_main_v33 val_main_v32 val_main_cst_3
    val_main_v31 val_main_v30 val_main_v29 val_main_v28 val_main_v27 val_main_v26 val_main_v23 val_main_v22
  generalize val_main_v25 (F := Ideal) x0 x1 x3 = y at h0 h1 h2 ⊢
  generalize val_main_v18 (F := Ideal) x0 x1 x3 = z at hg ⊢
  pointwise []
  rw [hg, h0, h1, h2]
  exact congrArg _ (by rw [add_comm, add_comm (x4 (ix3 1 0 c) * _), add_assoc])

set_option maxRecDepth 16384 in
/-- The reference's result at an index: the layer at that position. -/
theorem ref_apply (x0 : Vec Ideal S16x2048x1024 .f32) (x1 x2 : Vec Ideal S4x3x1024 .f32) (x3 : Vec Ideal S2x1024x3072 .f32)
    (x4 : Vec Ideal S2x3x1024 .f32) (x5 : Vec Ideal S2x1024x1024 .f32) (r : Fin 32768) (c : Fin 1024) :
    val_main_v68 (F := Ideal) x0 x1 x2 x3 x4 x5 (ix2 r c) =
      resultAt x0 x1 x2 x3 x4 x5 ⟨r / 2048, by omega⟩ ⟨r % 2048, by omega⟩ c := by
  have hh := ref_gated x0 x1 x3 x4
  unfold val_main_v68 val_main_v67 val_main_v66 val_main_v65 val_main_v64 val_main_v63 val_main_v62 val_main_v61 val_main_v60
    val_main_v59 val_main_cst_6 val_main_v58 val_main_v57 val_main_cst_5 val_main_v56 val_main_v55 val_main_cst_4
    val_main_v54 val_main_v53 val_main_v52 val_main_v51 val_main_v50 val_main_v49
  generalize val_main_v48 (F := Ideal) x0 x1 x3 x4 = y at hh ⊢
  pointwise []
  simp only [hh]
  rfl

open Idealize.ShloMosaic.TcCoe

/-- From arguments that agree, the two runs end with one result array. -/
theorem algebraic : Cert.algebraic_SconvIdeal_SconvRefIdeal
    (hSconvIdeal := Cert.SconvIdeal.Gen.facts) (hSconvRefIdeal := Cert.SconvRefIdeal.Gen.facts) := by
  intro m g m' g' _ hagree
  refine ⟨fun c => out m c, ?_, ?_⟩
  · exact (θ_run _ _ _).mono (fun r h c => ⟨(h c).1.trans (final m c), (h c).2⟩) (Cert.SconvIdeal.Value.run_blocks m g)
  · refine (θ_run _ _ _).mono (fun r h c => ⟨(h c).1.trans ?_, (h c).2⟩) (Cert.SconvRefIdeal.Value.run m' g')
    obtain ⟨a0, a1, a2, a3, a4, a5⟩ := hagree c
    rw [val_main_v68_eq]
    funext i
    rw [a0, a1, a2, a3, a4, a5, eq_ix2 i]
    exact ref_apply _ _ _ _ _ _ _ _

end Cert.SconvVal
end
-- ==== Proof.ProjLru.Chain.lean ====
module

public import proofs.«01_k».proof.Proof.Gen.ProjLruIdeal.Value
public import Idealize.ShloMosaic.Lib.Pipeline.ValueKit

@[expose] public section

noncomputable section

/-! The queries, keys and values of one grid point: 1024 rows of one sequence, in four groups of 256. What one group computes
is written once. -/

namespace Cert.ProjLruVal

open Cert.ProjLruIdeal Cert.ProjLruIdeal.Gen Idealize.ShloMosaic Idealize.ShloMosaic.TcCoe Idealize.ShloMosaic.Tactic Idealize.SL.Sem

variable {F : FTy → Type} [FloatOps F]

/-! ## The rotary embedding -/

/-- The embedding on 128 lanes: each entry, and the entries eight lanes after and eight lanes before it, by the tables. -/
def turn (z : FVec F S256x128 .f32) (cos up dn : Vec F S256x128 .f32) : FVec F S256x128 .f32 :=
  addf (addf (mulf z (k0_pay12 cos)) (mulf (dynamicRotate 1 120#32 none z rotates_S256x128_d1) (k0_pay13 up)))
    (mulf (dynamicRotate 1 8#32 none z rotates_S256x128_d1) (k0_pay14 dn))

/-- The embedding on 512 lanes. -/
def rope (z : FVec F S256x512 .f32) (cos up dn : Vec F S256x128 .f32) : FVec F S256x512 .f32 :=
  concatenate S256x512 1
    [⟨S256x128, turn (extractStridedSlice S256x128 ![0, 0] z slices_S256x512_o0_0_S256x128) cos up dn⟩,
      ⟨S256x128, turn (extractStridedSlice S256x128 ![0, 128] z slices_S256x512_o0_128_S256x128) cos up dn⟩,
      ⟨S256x128, turn (extractStridedSlice S256x128 ![0, 256] z slices_S256x512_o0_256_S256x128) cos up dn⟩,
      ⟨S256x128, turn (extractStridedSlice S256x128 ![0, 384] z slices_S256x512_o0_384_S256x128) cos up dn⟩]
    concatenates_S256x128_S256x128_S256x128_S256x128_S256x512_d1

/-- The projection to queries, keys and values. -/
def qkv (x : Vec F S256x1024 .f32) (gpre : Vec F S1x1024 .f32) (w : Vec F S1x1024x1536 .bf16) : FVec F S256x1536 .f32 :=
  k0_pay11 (k0_pay7 gpre) (k0_pay8 x) w

def queries (p : FVec F S256x1536 .f32) (cos up dn : Vec F S256x128 .f32) : FVec F S256x512 .f32 :=
  rope (extractStridedSlice S256x512 ![0, 0] p slices_S256x1536_o0_0_S256x512) cos up dn

def keys (p : FVec F S256x1536 .f32) (cos up dn : Vec F S256x128 .f32) : FVec F S256x512 .f32 :=
  rope (extractStridedSlice S256x512 ![0, 512] p slices_S256x1536_o0_512_S256x512) cos up dn

/-! ## A grid point -/

/-- The windows' blocks at a grid point. -/
structure Ins (F : FTy → Type) where
  x : Vec F S1024x1024 .f32
  gpre : Vec F S1x1024 .f32
  win : Vec F S1x1024x2560 .bf16
  cos : Vec F S1024x128 .f32
  up : Vec F S1024x128 .f32
  dn : Vec F S1024x128 .f32
  cw : Vec F S1x4x512 .f32
  cb : Vec F S1x1x512 .f32
  wa : Vec F S1x512x512 .bf16
  wx : Vec F S1x512x512 .bf16
  ba : Vec F S1x1x512 .f32
  bx : Vec F S1x1x512 .f32
  lam : Vec F S1x1x512 .f32

/-- A table's rows from row `o` on. -/
def tab (v : Vec F S1024x128 .f32) (o : Nat) (inb : ∀ a, ![o, 0] a + S256x128.size a ≤ S1024x128.size a) : Vec F S256x128 .f32 :=
  View.ld v (Rect.unit (s := S1024x128) ![o, 0] S256x128.size inb)

variable (B : Ins F)

def gpreOf : Vec F S1x1024 .f32 := View.ld B.gpre (Rect.unit (s := S1x1024) ![0, 0] S1x1024.size inb_S1x1024_S1x1024_0_0)

def qkvAt (o : Nat) (inb : ∀ a, ![o, 0] a + S256x1024.size a ≤ S1024x1024.size a) : FVec F S256x1536 .f32 :=
  qkv (View.ld B.x (Rect.unit (s := S1024x1024) ![o, 0] S256x1024.size inb)) (gpreOf B)
    (View.ld B.win (Rect.unit (s := S1x1024x2560) ![0, 0, 0] S1x1024x1536.size inb_S1x1024x2560_S1x1024x1536_0_0_0))

def queriesAt (o : Nat) (inb : ∀ a, ![o, 0] a + S256x1024.size a ≤ S1024x1024.size a)
    (inb' : ∀ a, ![o, 0] a + S256x128.size a ≤ S1024x128.size a) : FVec F S256x512 .bf16 :=
  truncf .bf16 (queries (qkvAt B o inb) (tab B.cos o inb') (tab B.up o inb') (tab B.dn o inb')) bitsLt_bf16_f32

def keysAt (o : Nat) (inb : ∀ a, ![o, 0] a + S256x1024.size a ≤ S1024x1024.size a)
    (inb' : ∀ a, ![o, 0] a + S256x128.size a ≤ S1024x128.size a) : FVec F S256x512 .f32 :=
  keys (qkvAt B o inb) (tab B.cos o inb') (tab B.up o inb') (tab B.dn o inb')

/-! The stores of a grid point, last first. -/

def qPieces : List (View.Piece (Elt F) S1024x512 .bf16) :=
  [⟨Rect.unit (s := S1024x512) ![768, 0] S256x512.size inb_S1024x512_S256x512_768_0, queriesAt B 768 inb_S1024x1024_S256x1024_768_0 inb_S1024x128_S256x128_768_0⟩,
    ⟨Rect.unit (s := S1024x512) ![512, 0] S256x512.size inb_S1024x512_S256x512_512_0, queriesAt B 512 inb_S1024x1024_S256x1024_512_0 inb_S1024x128_S256x128_512_0⟩,
    ⟨Rect.unit (s := S1024x512) ![256, 0] S256x512.size inb_S1024x512_S256x512_256_0, queriesAt B 256 inb_S1024x1024_S256x1024_256_0 inb_S1024x128_S256x128_256_0⟩,
    ⟨Rect.unit (s := S1024x512) ![0, 0] S256x512.size inb_S1024x512_S256x512_0_0, queriesAt B 0 inb_S1024x1024_S256x1024_0_0 inb_S1024x128_S256x128_0_0⟩]

def kPieces : List (View.Piece (Elt F) S1024x512 .bf16) :=
  [⟨Rect.unit (s := S1024x512) ![768, 0] S256x512.size inb_S1024x512_S256x512_768_0,
      truncf .bf16 (keysAt B 768 inb_S1024x1024_S256x1024_768_0 inb_S1024x128_S256x128_768_0) bitsLt_bf16_f32⟩,
    ⟨Rect.unit (s := S1024x512) ![512, 0] S256x512.size inb_S1024x512_S256x512_512_0,
      truncf .bf16 (keysAt B 512 inb_S1024x1024_S256x1024_512_0 inb_S1024x128_S256x128_512_0) bitsLt_bf16_f32⟩,
    ⟨Rect.unit (s := S1024x512) ![256, 0] S256x512.size inb_S1024x512_S256x512_256_0,
      truncf .bf16 (keysAt B 256 inb_S1024x1024_S256x1024_256_0 inb_S1024x128_S256x128_256_0) bitsLt_bf16_f32⟩,
    ⟨Rect.unit (s := S1024x512) ![0, 0] S256x512.size inb_S1024x512_S256x512_0_0,
      truncf .bf16 (keysAt B 0 inb_S1024x1024_S256x1024_0_0 inb_S1024x128_S256x128_0_0) bitsLt_bf16_f32⟩]

def vPieces : List (View.Piece (Elt F) S1024x512 .bf16) :=
  [⟨Rect.unit (s := S1024x512) ![768, 0] S256x512.size inb_S1024x512_S256x512_768_0, k0_pay22 (qkvAt B 768 inb_S1024x1024_S256x1024_768_0)⟩,
    ⟨Rect.unit (s := S1024x512) ![512, 0] S256x512.size inb_S1024x512_S256x512_512_0, k0_pay22 (qkvAt B 512 inb_S1024x1024_S256x1024_512_0)⟩,
    ⟨Rect.unit (s := S1024x512) ![256, 0] S256x512.size inb_S1024x512_S256x512_256_0, k0_pay22 (qkvAt B 256 inb_S1024x1024_S256x1024_256_0)⟩,
    ⟨Rect.unit (s := S1024x512) ![0, 0] S256x512.size inb_S1024x512_S256x512_0_0, k0_pay22 (qkvAt B 0 inb_S1024x1024_S256x1024_0_0)⟩]

def mPieces : List (View.Piece (Elt F) S4x1x512 .f32) :=
  [⟨Rect.unit (s := S4x1x512) ![3, 0, 0] S1x1x512.size inb_S4x1x512_S1x1x512_3_0_0,
      k0_pay23 (keysAt B 768 inb_S1024x1024_S256x1024_768_0 inb_S1024x128_S256x128_768_0)⟩,
    ⟨Rect.unit (s := S4x1x512) ![2, 0, 0] S1x1x512.size inb_S4x1x512_S1x1x512_2_0_0,
      k0_pay23 (keysAt B 512 inb_S1024x1024_S256x1024_512_0 inb_S1024x128_S256x128_512_0)⟩,
    ⟨Rect.unit (s := S4x1x512) ![1, 0, 0] S1x1x512.size inb_S4x1x512_S1x1x512_1_0_0,
      k0_pay23 (keysAt B 256 inb_S1024x1024_S256x1024_256_0 inb_S1024x128_S256x128_256_0)⟩,
    ⟨Rect.unit (s := S4x1x512) ![0, 0, 0] S1x1x512.size inb_S4x1x512_S1x1x512_0_0_0,
      k0_pay23 (keysAt B 0 inb_S1024x1024_S256x1024_0_0 inb_S1024x128_S256x128_0_0)⟩]

end Cert.ProjLruVal
end
-- ==== Proof.ProjLru.Row.lean ====
module

public import proofs.«01_k».proof.Proof.Ffn.Row

@[expose] public section

noncomputable section

/-! The queries, keys and values of one position, over the extended reals: what the kernel and the reference both compute. -/

namespace Cert.ProjLruVal

open Cert.FfnVal (rms)
open Idealize.ShloMosaic

/-- The projection of a normalised row. -/
def proj (x g : Fin 1024 → EReal) (w : Fin 1024 → Fin 2560 → EReal) (j : Fin 2560) : EReal := ∑ k, rms x g k * w k j

/-- The angle of position `s` at frequency `e`. -/
def ang (s e : Nat) : EReal :=
  FloatOps.sitofp (F := Ideal) FTy.f32 (BitVec.ofNat 32 s) *
    Ideal.pow (Ideal.ofBits FTy.f32 1223959552#32)
      (Ideal.div (-(Ideal.ofBits FTy.f32 1073741824#32 * FloatOps.sitofp (F := Ideal) FTy.f32 (BitVec.ofNat 32 e)))
        (Ideal.ofBits FTy.f32 1098907648#32))

/-- The rotary embedding of eight heads of 64 lanes: in each, lane `e` below 8 and lane `e + 8` turn by the angle `e`, and the lanes
from 16 on stay. -/
def embed (p : Fin 512 → EReal) (s : Nat) (c : Fin 512) : EReal :=
  if c.val % 64 < 8 then
    p c * Ideal.cos (ang s (c.val % 64)) - p ⟨(c.val + 8) % 512, by omega⟩ * Ideal.sin (ang s (c.val % 64))
  else if c.val % 64 < 16 then
    p c * Ideal.cos (ang s (c.val % 64 - 8)) + p ⟨c.val - 8, by omega⟩ * Ideal.sin (ang s (c.val % 64 - 8))
  else p c

/-! The tables the kernel reads: a factor for the lane itself, for the lane eight after, and for the lane eight before. -/

def cosTab (s l : Nat) : EReal :=
  if l % 64 < 8 then Ideal.cos (ang s (l % 64)) else if l % 64 - 8 < 8 then Ideal.cos (ang s (l % 64 - 8)) else 1

def upTab (s l : Nat) : EReal := if l % 64 < 8 then -Ideal.sin (ang s (l % 64)) else 0

def dnTab (s l : Nat) : EReal :=
  if l % 64 < 8 then 0 else if l % 64 - 8 < 8 then Ideal.sin (ang s (l % 64 - 8)) else 0

/-- The embedding by the tables is the embedding. -/
theorem embed_tables (p : Fin 512 → EReal) (s : Nat) (c : Fin 512) :
    p c * cosTab s (c.val % 128) + p ⟨c.val / 128 * 128 + (c.val % 128 + 8) % 128, by omega⟩ * upTab s (c.val % 128) +
      p ⟨c.val / 128 * 128 + (c.val % 128 + 120) % 128, by omega⟩ * dnTab s (c.val % 128) = embed p s c := by
  have e : c.val % 128 % 64 = c.val % 64 := by omega
  unfold cosTab upTab dnTab embed
  rw [e]
  by_cases h1 : c.val % 64 < 8
  · simp only [if_pos h1]
    have e1 : (⟨c.val / 128 * 128 + (c.val % 128 + 8) % 128, by omega⟩ : Fin 512) = ⟨(c.val + 8) % 512, by omega⟩ :=
      Fin.ext (by show c.val / 128 * 128 + (c.val % 128 + 8) % 128 = (c.val + 8) % 512; omega)
    rw [e1, mul_zero, add_zero, mul_neg, ← sub_eq_add_neg]
  · simp only [if_neg h1]
    by_cases h2 : c.val % 64 < 16
    · have h3 : c.val % 64 - 8 < 8 := by omega
      have e1 : (⟨c.val / 128 * 128 + (c.val % 128 + 120) % 128, by omega⟩ : Fin 512) = ⟨c.val - 8, by omega⟩ :=
        Fin.ext (by show c.val / 128 * 128 + (c.val % 128 + 120) % 128 = c.val - 8; omega)
      simp only [if_pos h2, if_pos h3]
      rw [e1, mul_zero, add_zero]
    · have h3 : ¬ c.val % 64 - 8 < 8 := by omega
      simp only [if_neg h2, if_neg h3]
      rw [mul_zero, add_zero, mul_zero, add_zero, mul_one]

/-- The mean of 256 values. -/
def mean (f : Fin 256 → EReal) : EReal := Ideal.div (∑ r, f r) (Ideal.ofBits .f32 0x43800000#32)

end Cert.ProjLruVal
end
-- ==== Proof.ProjLru.Eval.lean ====
module

public import proofs.«01_k».proof.Proof.ProjLru.Chain
public import proofs.«01_k».proof.Proof.ProjLru.Row

@[expose] public section

noncomputable section

/-! A group's queries, keys and values at an index. -/

namespace Cert.ProjLruVal

open Cert.FfnVal (rms)
open Cert.ProjLruIdeal Cert.ProjLruIdeal.Gen Idealize.ShloMosaic Idealize.ShloMosaic.TcCoe Idealize.ShloMosaic.Tactic Idealize.SL.Sem

set_option maxRecDepth 16384 in
theorem qkv_apply (x : Vec Ideal S256x1024 .f32) (gpre : Vec Ideal S1x1024 .f32) (w : Vec Ideal S1x1024x1536 .bf16)
    (p : Fin 256) (j : Fin 1536) :
    qkv x gpre w (ix2 p j) = ∑ k, rms (fun k => x (ix2 p k)) (fun k => gpre (ix2 0 k)) k * w (ix3 0 k j) := by
  pointwise [qkv, k0_pay11, k0_pay9, k0_pay8, k0_pay7]
  rfl

set_option maxRecDepth 16384 in
theorem turn_apply (z : FVec Ideal S256x128 .f32) (cos up dn : Vec Ideal S256x128 .f32) (p : Fin 256) (l : Fin 128) :
    turn z cos up dn (ix2 p l) = z (ix2 p l) * cos (ix2 p l) + z (ix2 p ⟨(l + 8) % 128, by omega⟩) * up (ix2 p l) +
      z (ix2 p ⟨(l + 120) % 128, by omega⟩) * dn (ix2 p l) := by
  pointwise [turn, k0_pay12, k0_pay13, k0_pay14]
  rfl

/-- The embedding on the 128 lanes from `o` on, by the lanes' own numbers. -/
theorem turn_at (z : FVec Ideal S256x512 .f32) (u : FVec Ideal S256x128 .f32) (cos up dn : Vec Ideal S256x128 .f32) (p : Fin 256)
    (c : Fin 512) (l : Fin 128) (q : Nat) (hq : q < 4) (hc : c.val = q * 128 + l.val)
    (hu : ∀ l : Fin 128, u (ix2 p l) = z (ix2 p ⟨q * 128 + l, by omega⟩)) :
    turn u cos up dn (ix2 p l) = z (ix2 p c) * cos (ix2 p ⟨c % 128, by omega⟩) +
      z (ix2 p ⟨c / 128 * 128 + (c % 128 + 8) % 128, by omega⟩) * up (ix2 p ⟨c % 128, by omega⟩) +
      z (ix2 p ⟨c / 128 * 128 + (c % 128 + 120) % 128, by omega⟩) * dn (ix2 p ⟨c % 128, by omega⟩) := by
  have e0 : (⟨c % 128, by omega⟩ : Fin 128) = l := Fin.ext (by show c.val % 128 = l.val; omega)
  have e1 : c = ⟨q * 128 + l, by omega⟩ := Fin.ext hc
  have e2 : (⟨c / 128 * 128 + (c % 128 + 8) % 128, by omega⟩ : Fin 512) = ⟨q * 128 + (l + 8) % 128, by omega⟩ :=
    Fin.ext (by show c.val / 128 * 128 + (c.val % 128 + 8) % 128 = q * 128 + (l.val + 8) % 128; omega)
  have e3 : (⟨c / 128 * 128 + (c % 128 + 120) % 128, by omega⟩ : Fin 512) = ⟨q * 128 + (l + 120) % 128, by omega⟩ :=
    Fin.ext (by show c.val / 128 * 128 + (c.val % 128 + 120) % 128 = q * 128 + (l.val + 120) % 128; omega)
  rw [turn_apply, e0, e2, e3, hu, hu, hu, ← e1]

set_option maxRecDepth 16384 in
theorem rope_apply (z : FVec Ideal S256x512 .f32) (cos up dn : Vec Ideal S256x128 .f32) (p : Fin 256) (c : Fin 512) :
    rope z cos up dn (ix2 p c) = z (ix2 p c) * cos (ix2 p ⟨c % 128, by omega⟩) +
      z (ix2 p ⟨c / 128 * 128 + (c % 128 + 8) % 128, by omega⟩) * up (ix2 p ⟨c % 128, by omega⟩) +
      z (ix2 p ⟨c / 128 * 128 + (c % 128 + 120) % 128, by omega⟩) * dn (ix2 p ⟨c % 128, by omega⟩) := by
  have hs (q : Nat) (hq : q < 4) (l : Fin 128) (hc : c.val = q * 128 + l.val) (u : FVec Ideal S256x128 .f32)
      (hu : ∀ l : Fin 128, u (ix2 p l) = z (ix2 p ⟨q * 128 + l, by omega⟩)) :=
    turn_at z u cos up dn p c l q hq hc hu
  unfold rope
  pointwise []
  by_cases h0 : c.val < 128
  · rw [dif_pos h0]
    exact hs 0 (by omega) _ (by show c.val = 0 * 128 + c.val; omega) _ fun l => by
      pointwise []
  · rw [dif_neg h0]
    by_cases h1 : c.val - 128 < 128
    · rw [dif_pos h1]
      exact hs 1 (by omega) _ (by show c.val = 1 * 128 + (c.val - 128); omega) _ fun l => by
        pointwise []
    · rw [dif_neg h1]
      by_cases h2 : c.val - 128 - 128 < 128
      · rw [dif_pos h2]
        exact hs 2 (by omega) _ (by show c.val = 2 * 128 + (c.val - 128 - 128); omega) _ fun l => by
          pointwise []
      · rw [dif_neg h2]
        exact hs 3 (by omega) _ (by show c.val = 3 * 128 + (c.val - 128 - 128 - 128); omega) _ fun l => by
          pointwise []

set_option maxRecDepth 16384 in
theorem queries_apply (y : FVec Ideal S256x1536 .f32) (cos up dn : Vec Ideal S256x128 .f32) (p : Fin 256) (s : Nat)
    (hcos : ∀ l : Fin 128, cos (ix2 p l) = cosTab s l) (hup : ∀ l : Fin 128, up (ix2 p l) = upTab s l)
    (hdn : ∀ l : Fin 128, dn (ix2 p l) = dnTab s l) (c : Fin 512) :
    queries y cos up dn (ix2 p c) = embed (fun c => y (ix2 p ⟨c, by omega⟩)) s c := by
  unfold queries
  rw [rope_apply, hcos, hup, hdn]
  refine Eq.trans ?_ (embed_tables (fun c => y (ix2 p ⟨c, by omega⟩)) s c)
  pointwise []

set_option maxRecDepth 16384 in
theorem keys_apply (y : FVec Ideal S256x1536 .f32) (cos up dn : Vec Ideal S256x128 .f32) (p : Fin 256) (s : Nat)
    (hcos : ∀ l : Fin 128, cos (ix2 p l) = cosTab s l) (hup : ∀ l : Fin 128, up (ix2 p l) = upTab s l)
    (hdn : ∀ l : Fin 128, dn (ix2 p l) = dnTab s l) (c : Fin 512) :
    keys y cos up dn (ix2 p c) = embed (fun c => y (ix2 p ⟨512 + c, by omega⟩)) s c := by
  unfold keys
  rw [rope_apply, hcos, hup, hdn]
  refine Eq.trans ?_ (embed_tables (fun c => y (ix2 p ⟨512 + c, by omega⟩)) s c)
  pointwise []

set_option maxRecDepth 16384 in
theorem values_apply (y : FVec Ideal S256x1536 .f32) (p : Fin 256) (c : Fin 512) :
    k0_pay22 y (ix2 p c) = y (ix2 p ⟨1024 + c, by omega⟩) := by
  pointwise [k0_pay22]

set_option maxRecDepth 16384 in
theorem means_apply (y : FVec Ideal S256x512 .f32) (c : Fin 512) :
    k0_pay23 y (ix3 0 0 c) = mean fun r => y (ix2 r c) := by
  pointwise [k0_pay23]
  rfl

end Cert.ProjLruVal
end
-- ==== Proof.ProjLru.RunAQ.lean ====
module

public import proofs.«01_k».proof.Proof.ProjLru.Chain

@[expose] public section

noncomputable section

/-! What the first half of a sequence stores of the queries, keys and values. -/

namespace Cert.ProjLruVal

open Cert.ProjLruIdeal Cert.ProjLruIdeal.Gen Idealize.ShloMosaic Idealize.ShloMosaic.TcCoe Idealize.ShloMosaic.Tactic Idealize.SL.Sem

variable {F : FTy → Type} [FloatOps F]

set_option maxHeartbeats 4000000 in
set_option maxRecDepth 65536 in
theorem q_runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).1 =
      qPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

set_option maxHeartbeats 4000000 in
set_option maxRecDepth 65536 in
theorem k_runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.1 =
      kPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

set_option maxHeartbeats 4000000 in
set_option maxRecDepth 65536 in
theorem v_runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.1 =
      vPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

set_option maxHeartbeats 4000000 in
set_option maxRecDepth 65536 in
theorem m_runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.1 =
      mPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

end Cert.ProjLruVal
end
-- ==== Proof.ProjLru.RunBQ.lean ====
module

public import proofs.«01_k».proof.Proof.ProjLru.Chain

@[expose] public section

noncomputable section

/-! What the second half of a sequence stores of the queries, keys and values. -/

namespace Cert.ProjLruVal

open Cert.ProjLruIdeal Cert.ProjLruIdeal.Gen Idealize.ShloMosaic Idealize.ShloMosaic.TcCoe Idealize.ShloMosaic.Tactic Idealize.SL.Sem

variable {F : FTy → Type} [FloatOps F]

set_option maxHeartbeats 4000000 in
set_option maxRecDepth 65536 in
theorem q_runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : ¬cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) (xs0 : Vec F S1x8x512 .f32) (xs1 : Vec F S1x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 xs1).1 =
      qPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

set_option maxHeartbeats 4000000 in
set_option maxRecDepth 65536 in
theorem k_runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : ¬cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) (xs0 : Vec F S1x8x512 .f32) (xs1 : Vec F S1x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 xs1).2.1 =
      kPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

set_option maxHeartbeats 4000000 in
set_option maxRecDepth 65536 in
theorem v_runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : ¬cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) (xs0 : Vec F S1x8x512 .f32) (xs1 : Vec F S1x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 xs1).2.2.1 =
      vPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

set_option maxHeartbeats 4000000 in
set_option maxRecDepth 65536 in
theorem m_runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S4x1x512 .f32) (harg18 : arg18.IsWhole) (arg19 : Memref sig .tc .vmem S1024x512 .bf16) (harg19 : arg19.IsWhole) (arg20 : Memref sig .tc .vmem S1x8x512 .f32) (harg20 : arg20.IsWhole) (arg21 : Memref sig .tc .vmem S1x512 .f32) (harg21 : arg21.IsWhole) (hc0 : ¬cond0_0 i)
    (x0 : Vec F S1024x1024 .f32) (x1 : Vec F S1x1024 .f32) (x2 : Vec F S1x1024x2560 .bf16) (x3 : Vec F S1024x128 .f32) (x4 : Vec F S1024x128 .f32) (x5 : Vec F S1024x128 .f32) (x6 : Vec F S1x4x512 .f32) (x7 : Vec F S1x1x512 .f32) (x8 : Vec F S1x512x512 .bf16) (x9 : Vec F S1x512x512 .bf16) (x10 : Vec F S1x1x512 .f32) (x11 : Vec F S1x1x512 .f32) (x12 : Vec F S1x1x512 .f32) (xs0 : Vec F S1x8x512 .f32) (xs1 : Vec F S1x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 xs1).2.2.2.1 =
      mPieces ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12)⟩ := by
  rfl

end Cert.ProjLruVal
end
-- ==== Proof.ProjLru.Block.lean ====
module

public import proofs.«01_k».proof.Proof.ProjLru.Eval
public import proofs.«01_k».proof.Proof.ProjLru.RunAQ
public import proofs.«01_k».proof.Proof.ProjLru.RunBQ

@[expose] public section

noncomputable section

/-! What one grid point writes of the queries, keys, values and block means, at an index. -/

namespace Cert.ProjLruVal

open Cert.FfnVal (rms)
open Cert.ProjLruIdeal Cert.ProjLruIdeal.Gen Cert.ProjLruIdeal.Value Idealize.ShloMosaic Idealize.ShloMosaic.TcCoe Idealize.ShloMosaic.Tactic Idealize.SL.Sem

/-! ## The stores at an index -/

section
variable (B : Ins Ideal)

/-- The projection of row `r` of the block. -/
def blkProj (r : Fin 1024) (j : Fin 2560) : EReal :=
  proj (fun k => B.x (ix2 r k)) (fun k => B.gpre (ix2 0 k)) (fun k j => B.win (ix3 0 k j)) j

theorem ld_x (o : Nat) (inb : ∀ a, ![o, 0] a + S256x1024.size a ≤ S1024x1024.size a) (p : Fin 256) (k r : Fin 1024)
    (h : r.val = o + p.val) : View.ld B.x (Rect.unit (s := S1024x1024) ![o, 0] S256x1024.size inb) (ix2 p k) = B.x (ix2 r k) :=
  View.ld_unit_apply_of B.x _ _ _ _ _ fun a => match a with
    | ⟨0, _⟩ => h | ⟨1, _⟩ => (Nat.zero_add _).symm

theorem tab_apply (v : Vec Ideal S1024x128 .f32) (o : Nat) (inb : ∀ a, ![o, 0] a + S256x128.size a ≤ S1024x128.size a) (p : Fin 256)
    (l : Fin 128) (r : Fin 1024) (h : r.val = o + p.val) : tab v o inb (ix2 p l) = v (ix2 r l) :=
  View.ld_unit_apply_of v _ _ _ _ _ fun a => match a with
    | ⟨0, _⟩ => h | ⟨1, _⟩ => (Nat.zero_add _).symm

theorem gpreOf_apply (k : Fin 1024) : gpreOf B (ix2 0 k) = B.gpre (ix2 0 k) :=
  View.ld_unit_apply_of B.gpre _ _ _ _ _ fun a => match a with
    | ⟨0, _⟩ => rfl | ⟨1, _⟩ => (Nat.zero_add _).symm

theorem ld_win (k : Fin 1024) (j : Fin 1536) :
    View.ld B.win (Rect.unit (s := S1x1024x2560) ![0, 0, 0] S1x1024x1536.size inb_S1x1024x2560_S1x1024x1536_0_0_0) (ix3 0 k j) =
      B.win (ix3 0 k ⟨j, by omega⟩) :=
  View.ld_unit_apply_of B.win _ _ _ _ _ fun a => match a with
    | ⟨0, _⟩ => rfl | ⟨1, _⟩ => (Nat.zero_add _).symm | ⟨2, _⟩ => (Nat.zero_add _).symm

theorem qkvAt_apply (o : Nat) (inb : ∀ a, ![o, 0] a + S256x1024.size a ≤ S1024x1024.size a) (p : Fin 256) (j : Fin 1536)
    (r : Fin 1024) (h : r.val = o + p.val) : qkvAt B o inb (ix2 p j) = blkProj B r ⟨j, by omega⟩ := by
  unfold qkvAt blkProj proj
  rw [qkv_apply]
  simp only [fun k => ld_x B o inb p k r h, gpreOf_apply]
  exact Finset.sum_congr rfl fun k _ => congrArg _ (ld_win B k j)

/-- The tables hold the rows of the positions from `s` on. -/
def Tables (s : Nat) : Prop := ∀ (r : Fin 1024) (l : Fin 128),
  B.cos (ix2 r l) = cosTab (s + r) l ∧ B.up (ix2 r l) = upTab (s + r) l ∧ B.dn (ix2 r l) = dnTab (s + r) l

variable {B} {s : Nat} (ht : Tables B s)
include ht

theorem queriesAt_apply (o : Nat) (inb : ∀ a, ![o, 0] a + S256x1024.size a ≤ S1024x1024.size a)
    (inb' : ∀ a, ![o, 0] a + S256x128.size a ≤ S1024x128.size a) (p : Fin 256) (c : Fin 512) (r : Fin 1024)
    (h : r.val = o + p.val) :
    queriesAt B o inb inb' (ix2 p c) = embed (fun c => blkProj B r ⟨c, by omega⟩) (s + r) c := by
  refine (queries_apply (qkvAt B o inb) (tab B.cos o inb') (tab B.up o inb') (tab B.dn o inb') p (s + r)
    (fun l => (tab_apply _ _ _ _ _ r h).trans (ht r l).1) (fun l => (tab_apply _ _ _ _ _ r h).trans (ht r l).2.1)
    (fun l => (tab_apply _ _ _ _ _ r h).trans (ht r l).2.2) c).trans ?_
  exact congrArg (fun f => embed f (s + r) c) (funext fun c => qkvAt_apply B o inb p _ r h)

theorem keysAt_apply (o : Nat) (inb : ∀ a, ![o, 0] a + S256x1024.size a ≤ S1024x1024.size a)
    (inb' : ∀ a, ![o, 0] a + S256x128.size a ≤ S1024x128.size a) (p : Fin 256) (c : Fin 512) (r : Fin 1024)
    (h : r.val = o + p.val) :
    keysAt B o inb inb' (ix2 p c) = embed (fun c => blkProj B r ⟨512 + c, by omega⟩) (s + r) c := by
  refine (keys_apply (qkvAt B o inb) (tab B.cos o inb') (tab B.up o inb') (tab B.dn o inb') p (s + r)
    (fun l => (tab_apply _ _ _ _ _ r h).trans (ht r l).1) (fun l => (tab_apply _ _ _ _ _ r h).trans (ht r l).2.1)
    (fun l => (tab_apply _ _ _ _ _ r h).trans (ht r l).2.2) c).trans ?_
  exact congrArg (fun f => embed f (s + r) c) (funext fun c => qkvAt_apply B o inb p _ r h)

theorem qPieces_apply (r : Fin 1024) (c : Fin 512) :
    View.canon (qPieces B) (ix2 r c) = embed (fun c => blkProj B r ⟨c, by omega⟩) (s + r) c := by
  have tile (o : Nat) (inb inb') :
      View.TileAt (Val := Elt Ideal) (S := S1024x512) (e := .bf16) (ix2 r c) ![o, 0] S256x512.size
      (queriesAt B o inb inb') (embed (fun c => blkProj B r ⟨c, by omega⟩) (s + r) c) := by
    intro x hx
    rw [eq_ix2 x, show c = x 1 from Fin.ext ((hx 1).trans (Nat.zero_add _))]
    exact queriesAt_apply ht o inb inb' (x 0) (x 1) r (hx 0)
  exact View.canon_eq_of_allAt _ _ _ (View.cover_of_tiledL (qPieces B) S256x512.size (by sl_kernel_rfl) _) <|
    View.allAt_cons_unit _ _ _ _ _ (tile _ _ _) <| View.allAt_cons_unit _ _ _ _ _ (tile _ _ _) <|
    View.allAt_cons_unit _ _ _ _ _ (tile _ _ _) <| View.allAt_cons_unit _ _ _ _ _ (tile _ _ _) <| View.allAt_nil _ _

theorem kPieces_apply (r : Fin 1024) (c : Fin 512) :
    View.canon (kPieces B) (ix2 r c) = embed (fun c => blkProj B r ⟨512 + c, by omega⟩) (s + r) c := by
  have tile (o : Nat) (inb inb') :
      View.TileAt (Val := Elt Ideal) (S := S1024x512) (e := .bf16) (ix2 r c) ![o, 0] S256x512.size
      (truncf .bf16 (keysAt B o inb inb') bitsLt_bf16_f32) (embed (fun c => blkProj B r ⟨512 + c, by omega⟩) (s + r) c) := by
    intro x hx
    rw [eq_ix2 x, show c = x 1 from Fin.ext ((hx 1).trans (Nat.zero_add _))]
    exact keysAt_apply ht o inb inb' (x 0) (x 1) r (hx 0)
  exact View.canon_eq_of_allAt _ _ _ (View.cover_of_tiledL (kPieces B) S256x512.size (by sl_kernel_rfl) _) <|
    View.allAt_cons_unit _ _ _ _ _ (tile _ _ _) <| View.allAt_cons_unit _ _ _ _ _ (tile _ _ _) <|
    View.allAt_cons_unit _ _ _ _ _ (tile _ _ _) <| View.allAt_cons_unit _ _ _ _ _ (tile _ _ _) <| View.allAt_nil _ _

theorem mPieces_apply (a : Fin 4) (c : Fin 512) :
    View.canon (mPieces B) (ix3 a 0 c) = mean fun p : Fin 256 =>
      embed (fun c => blkProj B ⟨a * 256 + p, by omega⟩ ⟨512 + c, by omega⟩) (s + (a * 256 + p)) c := by
  have tile (q : Nat) (o : Nat) (inb inb') (ho : o = q * 256) :
      View.TileAt (Val := Elt Ideal) (S := S4x1x512) (e := .f32) (ix3 a 0 c) ![q, 0, 0] S1x1x512.size
      (k0_pay23 (keysAt B o inb inb')) (mean fun p : Fin 256 =>
        embed (fun c => blkProj B ⟨a * 256 + p, by omega⟩ ⟨512 + c, by omega⟩) (s + (a * 256 + p)) c) := by
    intro x hx
    have h0 : x 0 = (0 : Fin 1) := Subsingleton.elim (α := Fin 1) _ _
    have h1 : x 1 = (0 : Fin 1) := Subsingleton.elim (α := Fin 1) _ _
    have ha : a.val = q := by
      have h := hx 0; rw [h0] at h; exact h
    rw [eq_ix3 x, h0, h1, show c = x 2 from Fin.ext ((hx 2).trans (Nat.zero_add _))]
    refine (means_apply _ (x 2)).trans (congrArg mean (funext fun p => ?_))
    exact keysAt_apply ht o inb inb' p (x 2) ⟨a * 256 + p, by omega⟩ (by show a.val * 256 + p.val = o + p.val; rw [ho, ha])
  exact View.canon_eq_of_allAt _ _ _ (View.cover_of_tiledL (mPieces B) S1x1x512.size (by sl_kernel_rfl) _) <|
    View.allAt_cons_unit _ _ _ _ _ (tile _ _ _ _ rfl) <| View.allAt_cons_unit _ _ _ _ _ (tile _ _ _ _ rfl) <|
    View.allAt_cons_unit _ _ _ _ _ (tile _ _ _ _ rfl) <| View.allAt_cons_unit _ _ _ _ _ (tile _ _ _ _ rfl) <| View.allAt_nil _ _

end

theorem vPieces_apply (B : Ins Ideal) (r : Fin 1024) (c : Fin 512) :
    View.canon (vPieces B) (ix2 r c) = blkProj B r ⟨1024 + c, by omega⟩ := by
  have tile (o : Nat) (inb) :
      View.TileAt (Val := Elt Ideal) (S := S1024x512) (e := .bf16) (ix2 r c) ![o, 0] S256x512.size
      (k0_pay22 (qkvAt B o inb)) (blkProj B r ⟨1024 + c, by omega⟩) := by
    intro x hx
    rw [eq_ix2 x, show c = x 1 from Fin.ext ((hx 1).trans (Nat.zero_add _))]
    exact (values_apply _ (x 0) (x 1)).trans (qkvAt_apply B o inb (x 0) _ r (hx 0))
  exact View.canon_eq_of_allAt _ _ _ (View.cover_of_tiledL (vPieces B) S256x512.size (by sl_kernel_rfl) _) <|
    View.allAt_cons_unit _ _ _ _ _ (tile _ _) <| View.allAt_cons_unit _ _ _ _ _ (tile _ _) <|
    View.allAt_cons_unit _ _ _ _ _ (tile _ _) <| View.allAt_cons_unit _ _ _ _ _ (tile _ _) <| View.allAt_nil _ _

/-! ## What a grid point writes -/

variable (m : (ℓ : Loc nD τ sig) → Buf (Elt Ideal) ℓ)

/-- The blocks grid point `t` reads. -/
def ins (c : Dev nD) (t : Fin cfg0.N) : Ins Ideal :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, iblk m c 12 t⟩

/-- The queries a grid point writes. -/
theorem out_q (c : Dev nD) (t : Fin cfg0.N) : (outsAt0 m c t.val t.isLt).1 = View.canon (qPieces (ins m c t)) := by
  by_cases h0 : t.val % 2 = 0
  · rw [outsAt0_A m c t h0]; dsimp only
    unfold out0_A_13
    rw [View.read_writes_eq_canon _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _), q_runA]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl
  · rw [outsAt0_B m c t h0]; dsimp only
    unfold out0_B_13
    rw [View.read_writes_eq_canon _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _), q_runB]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl

/-- The keys a grid point writes. -/
theorem out_k (c : Dev nD) (t : Fin cfg0.N) : (outsAt0 m c t.val t.isLt).2.1 = View.canon (kPieces (ins m c t)) := by
  by_cases h0 : t.val % 2 = 0
  · rw [outsAt0_A m c t h0]; dsimp only
    unfold out0_A_14
    rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _), k_runA]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl
  · rw [outsAt0_B m c t h0]; dsimp only
    unfold out0_B_14
    rw [View.read_writes_eq_canon _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _), k_runB]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl

/-- The values a grid point writes. -/
theorem out_v (c : Dev nD) (t : Fin cfg0.N) : (outsAt0 m c t.val t.isLt).2.2.1 = View.canon (vPieces (ins m c t)) := by
  by_cases h0 : t.val % 2 = 0
  · rw [outsAt0_A m c t h0]; dsimp only
    unfold out0_A_15
    rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _), v_runA]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl
  · rw [outsAt0_B m c t h0]; dsimp only
    unfold out0_B_15
    rw [View.read_writes_eq_canon _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _), v_runB]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl

/-- The block means a grid point writes. -/
theorem out_m (c : Dev nD) (t : Fin cfg0.N) : (outsAt0 m c t.val t.isLt).2.2.2.1 = View.canon (mPieces (ins m c t)) := by
  by_cases h0 : t.val % 2 = 0
  · rw [outsAt0_A m c t h0]; dsimp only
    unfold out0_A_16
    rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _), m_runA]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl
  · rw [outsAt0_B m c t h0]; dsimp only
    unfold out0_B_16
    rw [View.read_writes_eq_canon _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _), m_runB]
    simp only [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    rfl

end Cert.ProjLruVal
end
-- ==== Proof.ProjLru.Run.lean ====
module

public import proofs.«01_k».proof.Proof.ProjLru.Block
public import proofs.«01_k».proof.Proof.Ffn.Row

@[expose] public section

noncomputable section

/-! The first four result arrays of the recurrence layer's projections as functions of the argument arrays. -/

namespace Cert.ProjLruVal

open Cert.FfnVal (rms)
open Cert.ProjLruIdeal Cert.ProjLruIdeal.Gen Cert.ProjLruIdeal.Value Idealize.ShloMosaic Idealize.ShloMosaic.TcCoe Idealize.SL.Sem

variable (m : (ℓ : Loc nD τ sig) → Buf (Elt Ideal) ℓ)

set_option maxRecDepth 16384 in
theorem V_x (c : Dev nD) (r : Fin 32768) (k : Fin 1024) : V m c main_v34 (ix2 r k) =
    m ((c : Thread nD τ).loc main_arg0) (ix3 ⟨r / 2048, by omega⟩ ⟨r % 2048, by omega⟩ k) := by
  unfold V hostOps0; after_results_simp; pointwise []

set_option maxRecDepth 16384 in
theorem V_pre (c : Dev nD) (k : Fin 1024) : V m c main_v37 (ix2 0 k) = m ((c : Thread nD τ).loc main_arg1) (ix3 0 1 k) := by
  unfold V hostOps0; after_results_simp; pointwise []

set_option maxRecDepth 16384 in
theorem V_in (c : Dev nD) : V m c main_v38 = (m ((c : Thread nD τ).loc main_arg2) : Vec Ideal S2x1024x2560 .f32) := by
  unfold V hostOps0; after_results_simp; rfl

set_option maxRecDepth 16384 in
theorem V_cos (c : Dev nD) (s : Fin 2048) (l : Fin 128) :
    V m c main_v27 (ix2 s l) = cosTab s l := by
  unfold V hostOps0; after_results_simp; pointwise []
  after_results_simp; pointwise []
  rfl

set_option maxRecDepth 16384 in
theorem V_up (c : Dev nD) (s : Fin 2048) (l : Fin 128) :
    V m c main_v30 (ix2 s l) = upTab s l := by
  unfold V hostOps0; after_results_simp; pointwise []
  after_results_simp; pointwise []
  unfold upTab
  by_cases h : l.val % 64 < 8
  · rw [dif_pos h, if_pos h]; rfl
  · rw [dif_neg h, if_neg h]; exact dite_eq_right_iff.2 fun _ => rfl

set_option maxRecDepth 16384 in
theorem V_dn (c : Dev nD) (s : Fin 2048) (l : Fin 128) :
    V m c main_v33 (ix2 s l) = dnTab s l := by
  unfold V hostOps0; after_results_simp; pointwise []
  after_results_simp; pointwise []
  rfl

/-- The block indices at grid point `t`. -/
theorem idx_facts : ∀ t : Fin cfg0.N,
    (win0_0.index t (0 : Fin 2) = t ∧ win0_0.index t (1 : Fin 2) = 0) ∧ (∀ a, win0_1.index t a = 0) ∧
    (∀ a, win0_2.index t a = 0) ∧
    (win0_3.index t (0 : Fin 2) = t.val % 2 ∧ win0_3.index t (1 : Fin 2) = 0) ∧
    (win0_4.index t (0 : Fin 2) = t.val % 2 ∧ win0_4.index t (1 : Fin 2) = 0) ∧
    (win0_5.index t (0 : Fin 2) = t.val % 2 ∧ win0_5.index t (1 : Fin 2) = 0) ∧
    (win0_13.index t (0 : Fin 2) = t ∧ win0_13.index t (1 : Fin 2) = 0) ∧
    (win0_14.index t (0 : Fin 2) = t ∧ win0_14.index t (1 : Fin 2) = 0) ∧
    (win0_15.index t (0 : Fin 2) = t ∧ win0_15.index t (1 : Fin 2) = 0) ∧
    (win0_16.index t (0 : Fin 3) = t ∧ win0_16.index t (1 : Fin 3) = 0 ∧ win0_16.index t (2 : Fin 3) = 0) :=
  (by decide +kernel : ∀ t : Fin grid0.N, _)

theorem covers13 : win0_13.Covers := by decide +kernel

theorem covers14 : win0_14.Covers := by decide +kernel

theorem covers15 : win0_15.Covers := by decide +kernel

theorem covers16 : win0_16.Covers := by decide +kernel

theorem point_lt (t : Fin cfg0.N) : t.val < 32 := t.isLt

/-- A window whose block is `n` rows at row `n * t`: its index maps, as numbers. -/
theorem rows_at {t k n : Nat} (i : Nat) (h : i = t) : i * n + 1 * k = t * n + k := by subst h; omega

theorem here {k n : Nat} (i : Nat) (h : i = 0) : i * n + 1 * k = k := by subst h; omega

theorem emb_x (t : Fin cfg0.N) (r : Fin 1024) (k : Fin 1024) : ((cfg0.win 0).blk t).view.emb (ix2 r k : S1024x1024.Idx) =
    (ix2 ⟨t.val * 1024 + r, by have := point_lt t; omega⟩ k : S32768x1024.Idx) := by
  obtain ⟨⟨e0, e1⟩, -⟩ := idx_facts t
  funext a; apply Fin.ext
  match a with
  | ⟨0, _⟩ => exact rows_at (k := r.val) (win0_0.index t (0 : Fin 2)) e0
  | ⟨1, _⟩ => exact here (k := k.val) (win0_0.index t (1 : Fin 2)) e1

theorem emb_pre (t : Fin cfg0.N) (k : Fin 1024) : ((cfg0.win 1).blk t).view.emb (ix2 0 k : S1x1024.Idx) = (ix2 0 k : S1x1024.Idx) := by
  have e := (idx_facts t).2.1
  funext a; apply Fin.ext
  match a with
  | ⟨0, _⟩ => exact here (k := 0) (win0_1.index t (0 : Fin 2)) (e 0)
  | ⟨1, _⟩ => exact here (k := k.val) (win0_1.index t (1 : Fin 2)) (e 1)

theorem emb_in (t : Fin cfg0.N) (k : Fin 1024) (j : Fin 2560) :
    ((cfg0.win 2).blk t).view.emb (ix3 0 k j : S1x1024x2560.Idx) = (ix3 0 k j : S2x1024x2560.Idx) := by
  have e := (idx_facts t).2.2.1
  funext a; apply Fin.ext
  match a with
  | ⟨0, _⟩ => exact here (k := 0) (win0_2.index t (0 : Fin 3)) (e 0)
  | ⟨1, _⟩ => exact here (k := k.val) (win0_2.index t (1 : Fin 3)) (e 1)
  | ⟨2, _⟩ => exact here (k := j.val) (win0_2.index t (2 : Fin 3)) (e 2)

theorem emb_cos (t : Fin cfg0.N) (r : Fin 1024) (l : Fin 128) : ((cfg0.win 3).blk t).view.emb (ix2 r l : S1024x128.Idx) =
    (ix2 ⟨t.val % 2 * 1024 + r, by omega⟩ l : S2048x128.Idx) := by
  obtain ⟨-, -, -, ⟨e0, e1⟩, -⟩ := idx_facts t
  funext a; apply Fin.ext
  match a with
  | ⟨0, _⟩ => exact rows_at (k := r.val) (win0_3.index t (0 : Fin 2)) e0
  | ⟨1, _⟩ => exact here (k := l.val) (win0_3.index t (1 : Fin 2)) e1

theorem emb_up (t : Fin cfg0.N) (r : Fin 1024) (l : Fin 128) : ((cfg0.win 4).blk t).view.emb (ix2 r l : S1024x128.Idx) =
    (ix2 ⟨t.val % 2 * 1024 + r, by omega⟩ l : S2048x128.Idx) := by
  obtain ⟨-, -, -, -, ⟨e0, e1⟩, -⟩ := idx_facts t
  funext a; apply Fin.ext
  match a with
  | ⟨0, _⟩ => exact rows_at (k := r.val) (win0_4.index t (0 : Fin 2)) e0
  | ⟨1, _⟩ => exact here (k := l.val) (win0_4.index t (1 : Fin 2)) e1

theorem emb_dn (t : Fin cfg0.N) (r : Fin 1024) (l : Fin 128) : ((cfg0.win 5).blk t).view.emb (ix2 r l : S1024x128.Idx) =
    (ix2 ⟨t.val % 2 * 1024 + r, by omega⟩ l : S2048x128.Idx) := by
  obtain ⟨-, -, -, -, -, ⟨e0, e1⟩, -⟩ := idx_facts t
  funext a; apply Fin.ext
  match a with
  | ⟨0, _⟩ => exact rows_at (k := r.val) (win0_5.index t (0 : Fin 2)) e0
  | ⟨1, _⟩ => exact here (k := l.val) (win0_5.index t (1 : Fin 2)) e1

theorem emb_q (t : Fin cfg0.N) (r : Fin 1024) (k : Fin 512) : ((cfg0.win 13).blk t).view.emb (ix2 r k : S1024x512.Idx) =
    (ix2 ⟨t.val * 1024 + r, by have := point_lt t; omega⟩ k : S32768x512.Idx) := by
  obtain ⟨-, -, -, -, -, -, ⟨e0, e1⟩, -⟩ := idx_facts t
  funext a; apply Fin.ext
  match a with
  | ⟨0, _⟩ => exact rows_at (k := r.val) (win0_13.index t (0 : Fin 2)) e0
  | ⟨1, _⟩ => exact here (k := k.val) (win0_13.index t (1 : Fin 2)) e1

theorem emb_k (t : Fin cfg0.N) (r : Fin 1024) (k : Fin 512) : ((cfg0.win 14).blk t).view.emb (ix2 r k : S1024x512.Idx) =
    (ix2 ⟨t.val * 1024 + r, by have := point_lt t; omega⟩ k : S32768x512.Idx) := by
  obtain ⟨-, -, -, -, -, -, -, ⟨e0, e1⟩, -⟩ := idx_facts t
  funext a; apply Fin.ext
  match a with
  | ⟨0, _⟩ => exact rows_at (k := r.val) (win0_14.index t (0 : Fin 2)) e0
  | ⟨1, _⟩ => exact here (k := k.val) (win0_14.index t (1 : Fin 2)) e1

theorem emb_v (t : Fin cfg0.N) (r : Fin 1024) (k : Fin 512) : ((cfg0.win 15).blk t).view.emb (ix2 r k : S1024x512.Idx) =
    (ix2 ⟨t.val * 1024 + r, by have := point_lt t; omega⟩ k : S32768x512.Idx) := by
  obtain ⟨-, -, -, -, -, -, -, -, ⟨e0, e1⟩, -⟩ := idx_facts t
  funext a; apply Fin.ext
  match a with
  | ⟨0, _⟩ => exact rows_at (k := r.val) (win0_15.index t (0 : Fin 2)) e0
  | ⟨1, _⟩ => exact here (k := k.val) (win0_15.index t (1 : Fin 2)) e1

theorem emb_m (t : Fin cfg0.N) (a : Fin 4) (k : Fin 512) : ((cfg0.win 16).blk t).view.emb (ix3 a 0 k : S4x1x512.Idx) =
    (ix3 ⟨t.val * 4 + a, by have := point_lt t; omega⟩ 0 k : S128x1x512.Idx) := by
  obtain ⟨-, -, -, -, -, -, -, -, -, ⟨e0, e1, e2⟩⟩ := idx_facts t
  funext b; apply Fin.ext
  match b with
  | ⟨0, _⟩ => exact rows_at (k := a.val) (win0_16.index t (0 : Fin 3)) e0
  | ⟨1, _⟩ => exact here (k := 0) (win0_16.index t (1 : Fin 3)) e1
  | ⟨2, _⟩ => exact here (k := k.val) (win0_16.index t (2 : Fin 3)) e2

/-! The blocks at an index. -/

theorem blk_x (c : Dev nD) (t : Fin cfg0.N) (r k : Fin 1024) : iblk m c 0 t (ix2 r k : S1024x1024.Idx) =
    m ((c : Thread nD τ).loc main_arg0) (ix3 ⟨(t.val * 1024 + r) / 2048, by have := point_lt t; omega⟩ ⟨(t.val * 1024 + r) % 2048, by omega⟩ k) :=
  (congrArg (V m c main_v34) (emb_x t r k)).trans (V_x m c _ _)

theorem blk_pre (c : Dev nD) (t : Fin cfg0.N) (k : Fin 1024) :
    iblk m c 1 t (ix2 0 k : S1x1024.Idx) = m ((c : Thread nD τ).loc main_arg1) (ix3 0 1 k) :=
  (congrArg (V m c main_v37) (emb_pre t k)).trans (V_pre m c k)

theorem blk_in (c : Dev nD) (t : Fin cfg0.N) (k : Fin 1024) (j : Fin 2560) :
    iblk m c 2 t (ix3 0 k j : S1x1024x2560.Idx) = (m ((c : Thread nD τ).loc main_arg2) : Vec Ideal S2x1024x2560 .f32) (ix3 0 k j) :=
  (congrArg (V m c main_v38) (emb_in t k j)).trans (congrFun (V_in m c) _)

theorem blk_cos (c : Dev nD) (t : Fin cfg0.N) (r : Fin 1024) (l : Fin 128) :
    iblk m c 3 t (ix2 r l : S1024x128.Idx) = cosTab (t.val % 2 * 1024 + r) l :=
  (congrArg (V m c main_v27) (emb_cos t r l)).trans (V_cos m c ⟨t.val % 2 * 1024 + r, by omega⟩ l)

theorem blk_up (c : Dev nD) (t : Fin cfg0.N) (r : Fin 1024) (l : Fin 128) :
    iblk m c 4 t (ix2 r l : S1024x128.Idx) = upTab (t.val % 2 * 1024 + r) l :=
  (congrArg (V m c main_v30) (emb_up t r l)).trans (V_up m c ⟨t.val % 2 * 1024 + r, by omega⟩ l)

theorem blk_dn (c : Dev nD) (t : Fin cfg0.N) (r : Fin 1024) (l : Fin 128) :
    iblk m c 5 t (ix2 r l : S1024x128.Idx) = dnTab (t.val % 2 * 1024 + r) l :=
  (congrArg (V m c main_v33) (emb_dn t r l)).trans (V_dn m c ⟨t.val % 2 * 1024 + r, by omega⟩ l)

theorem ins_x (c : Dev nD) (t : Fin cfg0.N) : (ins m c t).x = iblk m c 0 t := rfl

theorem ins_gpre (c : Dev nD) (t : Fin cfg0.N) : (ins m c t).gpre = iblk m c 1 t := rfl

theorem ins_win (c : Dev nD) (t : Fin cfg0.N) : (ins m c t).win = iblk m c 2 t := rfl

theorem ins_cos (c : Dev nD) (t : Fin cfg0.N) : (ins m c t).cos = iblk m c 3 t := rfl

theorem ins_up (c : Dev nD) (t : Fin cfg0.N) : (ins m c t).up = iblk m c 4 t := rfl

theorem ins_dn (c : Dev nD) (t : Fin cfg0.N) : (ins m c t).dn = iblk m c 5 t := rfl

theorem tables (c : Dev nD) (t : Fin cfg0.N) : Tables (ins m c t) (t.val % 2 * 1024) := by
  unfold Tables
  intro r l
  rw [ins_cos, ins_up, ins_dn]
  exact ⟨blk_cos m c t r l, blk_up m c t r l, blk_dn m c t r l⟩

/-- The projection of row `r` of the activations. -/
def projOf (x0 : Vec Ideal S16x2048x1024 .f32) (x1 : Vec Ideal S4x3x1024 .f32) (x2 : Vec Ideal S2x1024x2560 .f32) (r : Fin 32768)
    (j : Fin 2560) : EReal :=
  proj (fun k => x0 (ix3 ⟨r / 2048, by omega⟩ ⟨r % 2048, by omega⟩ k)) (fun k => x1 (ix3 0 1 k)) (fun k j => x2 (ix3 0 k j)) j

/-- The queries of row `r`. -/
def queryOf (x0 : Vec Ideal S16x2048x1024 .f32) (x1 : Vec Ideal S4x3x1024 .f32) (x2 : Vec Ideal S2x1024x2560 .f32) (r : Fin 32768) :
    Fin 512 → EReal :=
  embed (fun c => projOf x0 x1 x2 r ⟨c, by omega⟩) (r.val % 2048)

/-- The keys of row `r`. -/
def keyOf (x0 : Vec Ideal S16x2048x1024 .f32) (x1 : Vec Ideal S4x3x1024 .f32) (x2 : Vec Ideal S2x1024x2560 .f32) (r : Fin 32768) :
    Fin 512 → EReal :=
  embed (fun c => projOf x0 x1 x2 r ⟨512 + c, by omega⟩) (r.val % 2048)

theorem blkProj_eq (c : Dev nD) (t : Fin cfg0.N) (r : Fin 1024) (j : Fin 2560) : blkProj (ins m c t) r j =
    projOf (m ((c : Thread nD τ).loc main_arg0)) (m ((c : Thread nD τ).loc main_arg1)) (m ((c : Thread nD τ).loc main_arg2))
      ⟨t.val * 1024 + r, by have := point_lt t; omega⟩ j := by
  unfold blkProj
  rw [ins_x, ins_gpre, ins_win]
  simp only [fun k => blk_x m c t r k, blk_pre m c t, blk_in m c t]
  rfl

theorem pos_eq (t r : Nat) (h : r < 1024) : t % 2 * 1024 + r = (t * 1024 + r) % 2048 := by omega

/-! The result arrays after the run. -/

def outQ (c : Dev nD) : Vec Ideal S32768x512 .bf16 := fun i =>
  queryOf (m ((c : Thread nD τ).loc main_arg0)) (m ((c : Thread nD τ).loc main_arg1)) (m ((c : Thread nD τ).loc main_arg2)) (i 0) (i 1)

def outK (c : Dev nD) : Vec Ideal S32768x512 .bf16 := fun i =>
  keyOf (m ((c : Thread nD τ).loc main_arg0)) (m ((c : Thread nD τ).loc main_arg1)) (m ((c : Thread nD τ).loc main_arg2)) (i 0) (i 1)

def outV (c : Dev nD) : Vec Ideal S32768x512 .bf16 := fun i =>
  projOf (m ((c : Thread nD τ).loc main_arg0)) (m ((c : Thread nD τ).loc main_arg1)) (m ((c : Thread nD τ).loc main_arg2)) (i 0)
    ⟨1024 + (i 1).val, by have : (i 1).val < 512 := (i 1).isLt; omega⟩

/-- The mean of the keys of block `b` of 256 rows. -/
def meanOf (x0 : Vec Ideal S16x2048x1024 .f32) (x1 : Vec Ideal S4x3x1024 .f32) (x2 : Vec Ideal S2x1024x2560 .f32) (b : Fin 128)
    (c : Fin 512) : EReal :=
  mean fun p => keyOf x0 x1 x2 ⟨b * 256 + p, by omega⟩ c

def outM (c : Dev nD) : Vec Ideal S128x1x512 .f32 := fun i =>
  meanOf (m ((c : Thread nD τ).loc main_arg0)) (m ((c : Thread nD τ).loc main_arg1)) (m ((c : Thread nD τ).loc main_arg2)) (i 0) (i 2)

theorem q_apply (c : Dev nD) (t : Fin cfg0.N) (r : Fin 1024) (k : Fin 512) :
    (outsAt0 m c t.val t.isLt).1 (ix2 r k) = outQ m c (((cfg0.win 13).blk t).view.emb (ix2 r k : S1024x512.Idx)) := by
  rw [emb_q, out_q, qPieces_apply (tables m c t), pos_eq _ _ r.isLt]
  exact congrArg (fun f => embed f _ k) (funext fun j => blkProj_eq m c t r _)

theorem k_apply (c : Dev nD) (t : Fin cfg0.N) (r : Fin 1024) (k : Fin 512) :
    (outsAt0 m c t.val t.isLt).2.1 (ix2 r k) = outK m c (((cfg0.win 14).blk t).view.emb (ix2 r k : S1024x512.Idx)) := by
  rw [emb_k, out_k, kPieces_apply (tables m c t), pos_eq _ _ r.isLt]
  exact congrArg (fun f => embed f _ k) (funext fun j => blkProj_eq m c t r _)

theorem v_apply (c : Dev nD) (t : Fin cfg0.N) (r : Fin 1024) (k : Fin 512) :
    (outsAt0 m c t.val t.isLt).2.2.1 (ix2 r k) = outV m c (((cfg0.win 15).blk t).view.emb (ix2 r k : S1024x512.Idx)) := by
  rw [emb_v, out_v, vPieces_apply]
  exact blkProj_eq m c t r _

theorem m_apply (c : Dev nD) (t : Fin cfg0.N) (a : Fin 4) (k : Fin 512) :
    (outsAt0 m c t.val t.isLt).2.2.2.1 (ix3 a 0 k) = outM m c (((cfg0.win 16).blk t).view.emb (ix3 a 0 k : S4x1x512.Idx)) := by
  have ht := point_lt t
  rw [emb_m, out_m, mPieces_apply (tables m c t)]
  refine congrArg mean (funext fun p => ?_)
  rw [pos_eq _ _ (by omega)]
  have e (h1) : (⟨t.val * 1024 + (a.val * 256 + p.val), h1⟩ : Fin 32768) = ⟨(t.val * 4 + a.val) * 256 + p.val, by omega⟩ :=
    Fin.ext (by show t.val * 1024 + (a.val * 256 + p.val) = (t.val * 4 + a.val) * 256 + p.val; omega)
  refine (congrArg (fun f => embed f _ k) (funext fun j => blkProj_eq m c t ⟨a * 256 + p, by omega⟩ _)).trans ?_
  exact congrArg (fun r => keyOf (m ((c : Thread nD τ).loc main_arg0)) (m ((c : Thread nD τ).loc main_arg1))
    (m ((c : Thread nD τ).loc main_arg2)) r k) (e (by omega))

/-! A block that agrees with an array at every row and column is the array's block. -/

theorem cut_q (t : Fin cfg0.N) (f : Vec Ideal S1024x512 .bf16) (g : Vec Ideal S32768x512 .bf16)
    (h : ∀ (r : Fin 1024) (k : Fin 512), f (ix2 r k) = g (((cfg0.win 13).blk t).view.emb (ix2 r k : S1024x512.Idx))) :
    (cfg0.win 13).cut (grid0.coords t) f = ((cfg0.win 13).blk t).view.read (Elt Ideal) g := by
  funext j
  show f j = g (((cfg0.win 13).blk t).view.emb j)
  rw [eq_ix2 (n0 := 1024) (n1 := 512) j]; exact h _ _

theorem cut_k (t : Fin cfg0.N) (f : Vec Ideal S1024x512 .bf16) (g : Vec Ideal S32768x512 .bf16)
    (h : ∀ (r : Fin 1024) (k : Fin 512), f (ix2 r k) = g (((cfg0.win 14).blk t).view.emb (ix2 r k : S1024x512.Idx))) :
    (cfg0.win 14).cut (grid0.coords t) f = ((cfg0.win 14).blk t).view.read (Elt Ideal) g := by
  funext j
  show f j = g (((cfg0.win 14).blk t).view.emb j)
  rw [eq_ix2 (n0 := 1024) (n1 := 512) j]; exact h _ _

theorem cut_v (t : Fin cfg0.N) (f : Vec Ideal S1024x512 .bf16) (g : Vec Ideal S32768x512 .bf16)
    (h : ∀ (r : Fin 1024) (k : Fin 512), f (ix2 r k) = g (((cfg0.win 15).blk t).view.emb (ix2 r k : S1024x512.Idx))) :
    (cfg0.win 15).cut (grid0.coords t) f = ((cfg0.win 15).blk t).view.read (Elt Ideal) g := by
  funext j
  show f j = g (((cfg0.win 15).blk t).view.emb j)
  rw [eq_ix2 (n0 := 1024) (n1 := 512) j]; exact h _ _

theorem cut_m (t : Fin cfg0.N) (f : Vec Ideal S4x1x512 .f32) (g : Vec Ideal S128x1x512 .f32)
    (h : ∀ (a : Fin 4) (k : Fin 512), f (ix3 a 0 k) = g (((cfg0.win 16).blk t).view.emb (ix3 a 0 k : S4x1x512.Idx))) :
    (cfg0.win 16).cut (grid0.coords t) f = ((cfg0.win 16).blk t).view.read (Elt Ideal) g := by
  funext j
  show f j = g (((cfg0.win 16).blk t).view.emb j)
  have h1 : j 1 = (0 : Fin 1) := Subsingleton.elim (α := Fin 1) _ _
  rw [eq_ix3 (n0 := 4) (n1 := 1) (n2 := 512) j, h1]; exact h _ _

theorem final_q (c : Dev nD) : (dats m 0 c).arrAt 13 cfg0.N = outQ m c :=
  (dats m 0 c).arrAt_eq_of_cover 13 (outQ m c)
    (fun t _ => (flushed13 m c t).trans (cut_q t _ (outQ m c) (q_apply m c t)))
    (Pipeline.Window.Covers.cover _ covers13 (Memref.isWhole_whole _))

theorem final_k (c : Dev nD) : (dats m 0 c).arrAt 14 cfg0.N = outK m c :=
  (dats m 0 c).arrAt_eq_of_cover 14 (outK m c)
    (fun t _ => (flushed14 m c t).trans (cut_k t _ (outK m c) (k_apply m c t)))
    (Pipeline.Window.Covers.cover _ covers14 (Memref.isWhole_whole _))

theorem final_v (c : Dev nD) : (dats m 0 c).arrAt 15 cfg0.N = outV m c :=
  (dats m 0 c).arrAt_eq_of_cover 15 (outV m c)
    (fun t _ => (flushed15 m c t).trans (cut_v t _ (outV m c) (v_apply m c t)))
    (Pipeline.Window.Covers.cover _ covers15 (Memref.isWhole_whole _))

theorem final_m (c : Dev nD) : (dats m 0 c).arrAt 16 cfg0.N = outM m c :=
  (dats m 0 c).arrAt_eq_of_cover 16 (outM m c)
    (fun t _ => (flushed16 m c t).trans (cut_m t _ (outM m c) (m_apply m c t)))
    (Pipeline.Window.Covers.cover _ covers16 (Memref.isWhole_whole _))

end Cert.ProjLruVal
end
-- ==== Proof.ProjLru.Ref.lean ====
module

public import proofs.«01_k».proof.Proof.Gen.ProjLruRefIdeal.Read
public import proofs.«01_k».proof.Proof.ProjLru.Run
public import proofs.«01_k».proof.Defs

@[expose] public section

noncomputable section

namespace Cert.ProjLruVal

open Cert.FfnVal (rms)
open Cert.ProjLruRefIdeal Cert.ProjLruRefIdeal.Gen Cert.ProjLruRefIdeal.Read Idealize.ShloMosaic Idealize.SL.Sem

set_option maxRecDepth 16384 in
/-- The reference's projection. -/
theorem ref_proj (x0 : Vec Ideal S16x2048x1024 .f32) (x1 : Vec Ideal S4x3x1024 .f32) (x2 : Vec Ideal S2x1024x2560 .f32)
    (b : Fin 16) (s : Fin 2048) (j : Fin 2560) :
    val_main_v17 (F := Ideal) x0 x1 x2 (ix3 b s j) =
      proj (fun k => x0 (ix3 b s k)) (fun k => x1 (ix3 0 1 k)) (fun k j => x2 (ix3 0 k j)) j := by
  unfold val_main_v17 val_main_v16 val_main_v15 val_main_v14 val_main_v13 val_main_v12 val_main_v11 val_main_v10 val_main_v9
    val_main_v8 val_main_v7 val_main_cst_1 val_main_v6 val_main_v5 val_main_cst_0 val_main_v4 val_main_v3 val_main_cst
    val_main_v2 val_main_v1 val_main_v0
  pointwise []
  rfl

set_option maxRecDepth 16384 in
/-- The reference's angles, for the queries and for the keys. -/
theorem ref_ang (s : Fin 2048) (e : Fin 8) : val_main_v35 (F := Ideal) (ix2 s e) = ang s e := by
  unfold val_main_v35 val_main_v34 val_main_v33 val_main_v32 val_main_v31 val_main_v30 val_main_v29 val_main_v28 val_main_cst_5
    val_main_v27 val_main_v26 val_main_cst_4 val_main_v25 val_main_v24 val_main_v23 val_main_cst_3 val_main_v22 val_main_v21
    val_main_cst_2 val_main_v20
  pointwise []
  rfl

theorem ref_ang_keys : val_main_v72 (F := Ideal) = val_main_v35 := rfl

theorem at_eq (f : Fin 2560 → EReal) {a b : Fin 2560} (h : a.val = b.val) : f a = f b := congrArg f (Fin.ext h)

/-- The reference's three parts of a head, joined, are the embedding: queries. -/
theorem split_q (f : Fin 2560 → EReal) (s : Nat) (c : Fin 512) :
    (if h : c.val % 64 < 8 then
      f ⟨c.val, by omega⟩ * Ideal.cos (ang s (c.val % 64)) - f ⟨c.val / 64 * 64 + (8 + c.val % 64), by omega⟩ * Ideal.sin (ang s (c.val % 64))
    else if h : c.val % 64 - 8 < 8 then
      f ⟨c.val / 64 * 64 + (8 + (c.val % 64 - 8)), by omega⟩ * Ideal.cos (ang s (c.val % 64 - 8)) +
        f ⟨c.val / 64 * 64 + (c.val % 64 - 8), by omega⟩ * Ideal.sin (ang s (c.val % 64 - 8))
    else f ⟨c.val / 64 * 64 + (16 + (c.val % 64 - 8 - 8)), by omega⟩) =
      embed (fun c => f ⟨c, by omega⟩) s c := by
  unfold embed
  by_cases h1 : c.val % 64 < 8
  · rw [dif_pos h1, if_pos h1]
    exact congrArg₂ (· - ·) rfl (congrArg (· * _) (at_eq f (by dsimp only; omega)))
  · rw [dif_neg h1, if_neg h1]
    by_cases h2 : c.val % 64 < 16
    · have h3 : c.val % 64 - 8 < 8 := by omega
      rw [dif_pos h3, if_pos h2]
      exact congrArg₂ (· + ·) (congrArg (· * _) (at_eq f (by dsimp only; omega))) (congrArg (· * _) (at_eq f (by dsimp only; omega)))
    · have h3 : ¬ c.val % 64 - 8 < 8 := by omega
      rw [dif_neg h3, if_neg h2]
      exact at_eq f (by dsimp only; omega)

/-- The reference's three parts of a head, joined, are the embedding: keys. -/
theorem split_k (f : Fin 2560 → EReal) (s : Nat) (c : Fin 512) :
    (if h : c.val % 64 < 8 then
      f ⟨512 + c.val, by omega⟩ * Ideal.cos (ang s (c.val % 64)) - f ⟨512 + (c.val / 64 * 64 + (8 + c.val % 64)), by omega⟩ * Ideal.sin (ang s (c.val % 64))
    else if h : c.val % 64 - 8 < 8 then
      f ⟨512 + (c.val / 64 * 64 + (8 + (c.val % 64 - 8))), by omega⟩ * Ideal.cos (ang s (c.val % 64 - 8)) +
        f ⟨512 + (c.val / 64 * 64 + (c.val % 64 - 8)), by omega⟩ * Ideal.sin (ang s (c.val % 64 - 8))
    else f ⟨512 + (c.val / 64 * 64 + (16 + (c.val % 64 - 8 - 8))), by omega⟩) =
      embed (fun c => f ⟨512 + c, by omega⟩) s c := by
  unfold embed
  by_cases h1 : c.val % 64 < 8
  · rw [dif_pos h1, if_pos h1]
    exact congrArg₂ (· - ·) rfl (congrArg (· * _) (at_eq f (by dsimp only; omega)))
  · rw [dif_neg h1, if_neg h1]
    by_cases h2 : c.val % 64 < 16
    · have h3 : c.val % 64 - 8 < 8 := by omega
      rw [dif_pos h3, if_pos h2]
      exact congrArg₂ (· + ·) (congrArg (· * _) (at_eq f (by dsimp only; omega))) (congrArg (· * _) (at_eq f (by dsimp only; omega)))
    · have h3 : ¬ c.val % 64 - 8 < 8 := by omega
      rw [dif_neg h3, if_neg h2]
      exact at_eq f (by dsimp only; omega)

set_option maxRecDepth 16384 in
/-- The reference's embedding of the queries. -/
theorem ref_q (x0 : Vec Ideal S16x2048x1024 .f32) (x1 : Vec Ideal S4x3x1024 .f32) (x2 : Vec Ideal S2x1024x2560 .f32)
    (r : Fin 32768) (c : Fin 512) :
    val_main_v54 (F := Ideal) x0 x1 x2 (ix2 r c) = queryOf x0 x1 x2 r c := by
  have hh := ref_proj x0 x1 x2
  have ha := ref_ang
  unfold val_main_v54 val_main_v53 val_main_v52 val_main_v51 val_main_v50 val_main_v49 val_main_v48 val_main_v47 val_main_v46
    val_main_v45 val_main_v44 val_main_v43 val_main_v42 val_main_v41 val_main_v40 val_main_v39 val_main_v38 val_main_v37
    val_main_v36 val_main_v19 val_main_v18
  generalize val_main_v17 (F := Ideal) x0 x1 x2 = y at hh ⊢
  generalize val_main_v35 (F := Ideal) = z at ha ⊢
  pointwise []
  simp only [hh, ha]
  exact split_q (projOf x0 x1 x2 r) (r.val % 2048) c

set_option maxRecDepth 16384 in
/-- The reference's embedding of the keys. -/
theorem ref_k (x0 : Vec Ideal S16x2048x1024 .f32) (x1 : Vec Ideal S4x3x1024 .f32) (x2 : Vec Ideal S2x1024x2560 .f32)
    (r : Fin 32768) (c : Fin 512) :
    val_main_v91 (F := Ideal) x0 x1 x2 (ix2 r c) = keyOf x0 x1 x2 r c := by
  have hh := ref_proj x0 x1 x2
  have ha := ref_ang
  unfold val_main_v91 val_main_v90 val_main_v89 val_main_v88 val_main_v87 val_main_v86 val_main_v85 val_main_v84 val_main_v83
    val_main_v82 val_main_v81 val_main_v80 val_main_v79 val_main_v78 val_main_v77 val_main_v76 val_main_v75 val_main_v74
    val_main_v73 val_main_v56 val_main_v55
  rw [ref_ang_keys]
  generalize val_main_v17 (F := Ideal) x0 x1 x2 = y at hh ⊢
  generalize val_main_v35 (F := Ideal) = z at ha ⊢
  pointwise []
  simp only [hh, ha]
  exact split_k (projOf x0 x1 x2 r) (r.val % 2048) c

set_option maxRecDepth 16384 in
theorem ref_queries (x0 : Vec Ideal S16x2048x1024 .f32) (x1 : Vec Ideal S4x3x1024 .f32) (x2 : Vec Ideal S2x1024x2560 .f32)
    (r : Fin 32768) (c : Fin 512) :
    val_main_v99 (F := Ideal) x0 x1 x2 (ix2 r c) = queryOf x0 x1 x2 r c := by
  have h := ref_q x0 x1 x2 r c
  unfold val_main_v99
  generalize val_main_v54 (F := Ideal) x0 x1 x2 = y at h ⊢
  pointwise []
  exact h

set_option maxRecDepth 16384 in
theorem ref_keys (x0 : Vec Ideal S16x2048x1024 .f32) (x1 : Vec Ideal S4x3x1024 .f32) (x2 : Vec Ideal S2x1024x2560 .f32)
    (r : Fin 32768) (c : Fin 512) :
    val_main_v100 (F := Ideal) x0 x1 x2 (ix2 r c) = keyOf x0 x1 x2 r c := by
  have h := ref_k x0 x1 x2 r c
  unfold val_main_v100
  generalize val_main_v91 (F := Ideal) x0 x1 x2 = y at h ⊢
  pointwise []
  exact h

set_option maxRecDepth 16384 in
theorem ref_values (x0 : Vec Ideal S16x2048x1024 .f32) (x1 : Vec Ideal S4x3x1024 .f32) (x2 : Vec Ideal S2x1024x2560 .f32)
    (r : Fin 32768) (c : Fin 512) :
    val_main_v101 (F := Ideal) x0 x1 x2 (ix2 r c) = projOf x0 x1 x2 r ⟨1024 + c, by omega⟩ := by
  have hh := ref_proj x0 x1 x2
  unfold val_main_v101 val_main_v93 val_main_v92
  generalize val_main_v17 (F := Ideal) x0 x1 x2 = y at hh ⊢
  pointwise []
  exact hh _ _ _

set_option maxRecDepth 16384 in
/-- The reference's block means of the keys. -/
theorem ref_means (x0 : Vec Ideal S16x2048x1024 .f32) (x1 : Vec Ideal S4x3x1024 .f32) (x2 : Vec Ideal S2x1024x2560 .f32)
    (b : Fin 128) (c : Fin 512) :
    val_main_v98 (F := Ideal) x0 x1 x2 (ix3 b 0 c) = meanOf x0 x1 x2 b c := by
  have hh := ref_k x0 x1 x2
  unfold val_main_v98 val_main_v97 val_main_cst_11 val_main_v96 val_main_v95 val_main_cst_10 val_main_v94
  generalize val_main_v91 (F := Ideal) x0 x1 x2 = y at hh ⊢
  pointwise []
  simp only [hh]
  rfl

open Idealize.ShloMosaic.TcCoe

/-- From arguments that agree, the two runs end with the same queries, keys, values and block means. -/
theorem algebraic : Cert.algebraic_ProjLruIdeal_ProjLruRefIdeal
    (hProjLruIdeal := Cert.ProjLruIdeal.Gen.facts) (hProjLruRefIdeal := Cert.ProjLruRefIdeal.Gen.facts) := by
  intro m g m' g' _ hagree
  refine ⟨fun c => outQ m c, fun c => outK m c, fun c => outV m c, fun c => outM m c, ?_, ?_⟩
  · exact (θ_run _ _ _).mono (fun r h c => ⟨(h c).1.trans (final_q m c), (h c).2.1.trans (final_k m c), (h c).2.2.1.trans (final_v m c),
      (h c).2.2.2.1.trans (final_m m c), (h c).2.2.2.2.2⟩) (Cert.ProjLruIdeal.Value.run_blocks m g)
  · refine (θ_run _ _ _).mono (fun r h c => ⟨(h c).1.trans ?_, (h c).2.1.trans ?_, (h c).2.2.1.trans ?_, (h c).2.2.2.1.trans ?_,
      (h c).2.2.2.2⟩) (Cert.ProjLruRefIdeal.Value.run m' g')
    · obtain ⟨a0, a1, a2, -⟩ := hagree c
      rw [val_main_v99_eq]
      funext i
      rw [a0, a1, a2, eq_ix2 i]
      exact ref_queries _ _ _ _ _
    · obtain ⟨a0, a1, a2, -⟩ := hagree c
      rw [val_main_v100_eq]
      funext i
      rw [a0, a1, a2, eq_ix2 i]
      exact ref_keys _ _ _ _ _
    · obtain ⟨a0, a1, a2, -⟩ := hagree c
      refine (val_main_v101_eq _ _ _).trans ?_
      funext i
      rw [a0, a1, a2, eq_ix2 i]
      exact ref_values _ _ _ _ _
    · obtain ⟨a0, a1, a2, -⟩ := hagree c
      rw [val_main_v98_eq]
      funext i
      have h1 : i 1 = (0 : Fin 1) := Subsingleton.elim (α := Fin 1) _ _
      rw [a0, a1, a2, eq_ix3 i, h1]
      exact ref_means _ _ _ _ _

end Cert.ProjLruVal
end
-- ==== Proof.Moba.Chain.lean ====
module

public import proofs.«01_k».proof.Proof.Gen.MobaIdeal.Value
public import Idealize.ShloMosaic.Lib.Pipeline.ValueKit

@[expose] public section

noncomputable section

/-! One grid point of the block-sparse attention: four query blocks of 256 rows, each in four groups of two heads. What one
group of one query block computes is written once, with the number `n` of earlier key blocks a parameter. -/

namespace Cert.MobaVal

open Cert.MobaIdeal Cert.MobaIdeal.Gen Idealize.ShloMosaic Idealize.ShloMosaic.TcCoe Idealize.ShloMosaic.Tactic Idealize.SL.Sem

/-! ## Shapes of the keys a query block sees -/

/-- Keys by lanes, over the query's own block and the `n` before it. -/
abbrev SK (n : Nat) : Shape := ⟨2, ![(n + 1) * 256, 128]⟩
/-- The same, with the leading batch axis. -/
abbrev SK1 (n : Nat) : Shape := ⟨3, ![1, (n + 1) * 256, 128]⟩
/-- Keys by queries. -/
abbrev SP (n : Nat) : Shape := ⟨2, ![(n + 1) * 256, 512]⟩

theorem casts_SK (n : Nat) : (SK1 n).ShapeCasts (SK n) := by
  simp [Shape.ShapeCasts, Shape.numel, Fin.prod_univ_succ]

theorem slices_row (j : Nat) (h : j < 8) : S8x512.Slices ![j, 0] S1x512 :=
  ⟨rfl, fun a => by match a with | ⟨0, _⟩ => exact h | ⟨1, _⟩ => exact Nat.le_refl 512⟩

theorem slices_block (n j : Nat) (h : j ≤ n) : (SP n).Slices ![j * 256, 0] S256x512 :=
  ⟨rfl, fun a => by
    match a with
    | ⟨0, _⟩ => show j * 256 + 256 ≤ (n + 1) * 256; omega
    | ⟨1, _⟩ => exact Nat.le_refl 512⟩

theorem reduces_SP (n : Nat) : (SP n).Reduces [0] S512 :=
  ⟨rfl, Nat.one_pos, fun b => by match b with | ⟨0, _⟩ => rfl⟩

/-- The product of keys by queries with keys by lanes, over the keys. -/
def overKeys (n : Nat) : DotDims (SK n) (SP n) S128x512 where
  lhsContracting := [0]
  rhsContracting := [0]
  lhsNonContracting := [1]
  rhsNonContracting := [1]
  lhsBatch := []
  rhsBatch := []
  wf := ⟨rfl, by simp, rfl, by simp, by simp, by simp,
    (by decide : ([] ++ [1] ++ [0] : List (Fin 2)).Perm (List.finRange 2)), (by decide : ([] ++ [1] ++ [0] : List (Fin 2)).Perm (List.finRange 2)),
    rfl, Nat.two_pos, fun b => by fin_cases b <;> rfl⟩

variable {F : FTy → Type} [FloatOps F] [Named F]

/-! ## One group of one query block -/

/-- The lane numbers. -/
def lane : IVec S1x128 32 := iota .tc S1x128 32 [1] iota_S1x128_d1_w32

/-- The two heads' scaled queries stacked, each zero off its own 64 lanes. -/
def queries (x : Vec F S1x256x128 .f32) : FVec F S512x128 .bf16 :=
  k0_pay39 lane (k0_pay34 x) (k0_pay35 (F := F)) (k0_pay36 lane) (k0_pay37 lane) k0_pay38

/-- The keys' scores. -/
def scores (n : Nat) (q : FVec F S512x128 .bf16) (k : Vec F (SK1 n) .bf16) : FVec F (SP n) .f32 :=
  matmul (DotDims.transposedRhs ((n + 1) * 256) 128 512) none (shapeCast (SK n) k (casts_SK n)) q (constant (SP n) .f32 0x00000000#32)

/-- The gate of the eight key blocks, the ones not before the query's masked. -/
def gates (n : Nat) (q : FVec F S512x128 .bf16) (km : Vec F S1x8x128 .f32) : FVec F S8x512 .f32 :=
  have g3 := matmul dot_S24x128_S512x128_S24x512_1_1_0_0_n_n none
    (truncf .bf16 (concatenate S24x128 0 [⟨S8x128, k0_pay41 km⟩, ⟨S8x128, k0_pay42 km⟩, ⟨S8x128, k0_pay43 km⟩]
      concatenates_S8x128_S8x128_S8x128_S24x128_d0) bitsLt_bf16_f32) q (constant S24x512 .f32 0x00000000#32)
  select (cmpi .slt (iota .tc S8x512 32 [0] iota_S8x512_d0_w32) (broadcast S8x512 (BitVec.ofNat 32 n)))
    (addf (addf (extractStridedSlice S8x512 ![0, 0] g3 slices_S24x512_o0_0_S8x512)
      (extractStridedSlice S8x512 ![8, 0] g3 slices_S24x512_o8_0_S8x512))
      (extractStridedSlice S8x512 ![16, 0] g3 slices_S24x512_o16_0_S8x512))
    (broadcast S8x512 (Named.named κ "mask" 0xF149F2CA#32))

/-- How many blocks' gates are ahead of block `j`'s. -/
def ranks (g : FVec F S8x512 .f32) (j : Nat) (h : j < 8) : IVec S1x512 32 :=
  have gj := broadcastTo S8x512 (extractStridedSlice S1x512 ![j, 0] g (slices_row j h)) broadcasts_S1x512_S8x512
  shapeCast S1x512 (multiReductionI .add [0] S512 (extui 32 (ori (cmpf .ogt g gj)
    (andi (cmpf .oeq g gj) (cmpi .slt (iota .tc S8x512 32 [0] iota_S8x512_d0_w32) (broadcast S8x512 (BitVec.ofNat 32 j))))) natLt_1_32)
    0#32 reduces_S8x512_S512 rfl) shapeCasts_S512_S1x512

/-- The masks of the blocks, the first `j` decided: zero where fewer than three gates are ahead. -/
def masks (g : FVec F S8x512 .f32) : (j : Nat) → j ≤ 8 → FVec F S8x512 .f32
  | 0, _ => broadcast S8x512 (Named.named κ "mask" 0xF149F2CA#32)
  | j + 1, h => select (andi (cmpi .eq (iota .tc S8x512 32 [0] iota_S8x512_d0_w32) (broadcast S8x512 (BitVec.ofNat 32 j)))
      (broadcastTo S8x512 (cmpi .slt (ranks g j h) (broadcast S1x512 3#32)) broadcasts_S1x512_S8x512))
      (broadcast S8x512 (Scalar.ofBits .f32 0x00000000#32)) (masks g j (Nat.le_of_succ_le h))

/-- The scores of the query's own block. -/
def ownRows (n : Nat) : FVec F (SP n) .f32 → FVec F S256x512 .f32 :=
  Nat.casesOn (motive := fun n => FVec F (SP n) .f32 → FVec F S256x512 .f32) n (fun s => s)
    fun n s => extractStridedSlice S256x512 ![(n + 1) * 256, 0] s (slices_block (n + 1) (n + 1) (Nat.le_refl _))

/-- The scores of the query's own block, later keys masked. -/
def own (n : Nat) (s : FVec F (SP n) .f32) : FVec F S256x512 .f32 :=
  select k0_pay1 (ownRows n s) (broadcast S256x512 (Named.named κ "mask" 0xF149F2CA#32))

/-- The greatest entry of each column of a block. -/
def colMax (s : FVec F S256x512 .f32) : FVec F S1x512 .f32 :=
  shapeCast S1x512 (multiReduction .maximumf [0] S512 s 0xFF800000#32 reduces_S256x512_S512 (.inl rfl) rfl) shapeCasts_S512_S1x512

/-- Block `j`'s mask. -/
def maskRow (b : FVec F S8x512 .f32) (j : Nat) (h : j < 8) : FVec F S1x512 .f32 :=
  extractStridedSlice S1x512 ![j, 0] b (slices_row j h)

/-- Block `j`'s scores. -/
def block (n : Nat) (s : FVec F (SP n) .f32) (j : Nat) (h : j ≤ n) : FVec F S256x512 .f32 :=
  extractStridedSlice S256x512 ![j * 256, 0] s (slices_block n j h)

/-- Block `j`'s greatest masked score. -/
def blockTop (n : Nat) (hn : n < 8) (s : FVec F (SP n) .f32) (b : FVec F S8x512 .f32) (j : Nat) (h : j ≤ n) : FVec F S1x512 .f32 :=
  addf (colMax (block n s j h)) (maskRow b j (by omega))

/-- The greatest of the first `j + 1` blocks' masked scores. -/
def topsUpTo (n : Nat) (hn : n < 8) (s : FVec F (SP n) .f32) (b : FVec F S8x512 .f32) : (j : Nat) → j ≤ n → FVec F S1x512 .f32
  | 0, h => blockTop n hn s b 0 h
  | j + 1, h => maximumf (topsUpTo n hn s b j (Nat.le_of_succ_le h)) (blockTop n hn s b (j + 1) h)

/-- The greatest masked score. -/
def top (n : Nat) : n < 8 → FVec F (SP n) .f32 → FVec F S8x512 .f32 → FVec F S1x512 .f32 :=
  Nat.casesOn (motive := fun n => n < 8 → FVec F (SP n) .f32 → FVec F S8x512 .f32 → FVec F S1x512 .f32) n
    (fun _ s _ => colMax (own 0 s))
    fun n hn s b => maximumf (topsUpTo (n + 1) hn s b n (Nat.le_succ n)) (colMax (own (n + 1) s))

/-- Block `j`'s weights before they are normalised. -/
def part (n : Nat) (hn : n < 8) (s : FVec F (SP n) .f32) (b : FVec F S8x512 .f32) (m : FVec F S1x512 .f32) (j : Fin (n + 1)) :
    FVec F S256x512 .f32 :=
  if h : j.val < n then
    exp2 (subf (block n s j.val (Nat.le_of_lt h))
      (broadcastTo S256x512 (subf m (maskRow b j.val (by omega))) broadcasts_S1x512_S256x512))
  else exp2 (subf (own n s) (broadcastTo S256x512 m broadcasts_S1x512_S256x512))

theorem concats_SP (n : Nat) (f : Fin (n + 2) → (S256x512.Idx → F .f32)) : Shape.Concatenates
    ((List.ofFn fun j : Fin (n + 2) => (⟨S256x512, f j⟩ : (s : Shape) × (s.Idx → F .f32))).map (·.1)) (SP (n + 1)) 0 := by
  have e : (List.ofFn fun j : Fin (n + 2) => (⟨S256x512, f j⟩ : (s : Shape) × (s.Idx → F .f32))).map (·.1) =
      List.replicate (n + 2) S256x512 := by
    rw [List.map_ofFn]; exact List.ofFn_const _ _
  rw [e]
  refine ⟨by simp, fun s hs => ?_, ?_⟩
  · obtain rfl := (List.mem_replicate.1 hs).2
    exact ⟨rfl, fun b hb => by
      match b with
      | ⟨0, _⟩ => exact absurd rfl hb
      | ⟨1, _⟩ => rfl⟩
  · simp

/-- The weights before they are normalised. -/
def weights (n : Nat) : n < 8 → FVec F (SP n) .f32 → FVec F S8x512 .f32 → FVec F S1x512 .f32 → FVec F (SP n) .f32 :=
  Nat.casesOn (motive := fun n => n < 8 → FVec F (SP n) .f32 → FVec F S8x512 .f32 → FVec F S1x512 .f32 → FVec F (SP n) .f32) n
    (fun hn s b m => part 0 hn s b m 0)
    fun n hn s b m => concatenate (SP (n + 1)) 0 (List.ofFn fun j : Fin (n + 2) => ⟨S256x512, part (n + 1) hn s b m j⟩)
      (concats_SP n _)

/-- The weighted values over the weights' sum, by lane and query. -/
def mixed (n : Nat) (p : FVec F (SP n) .f32) (v : Vec F (SK1 n) .bf16) : FVec F S128x512 .f32 :=
  divf (matmul (overKeys n) none (shapeCast (SK n) v (casts_SK n)) (truncf .bf16 p bitsLt_bf16_f32) (constant S128x512 .f32 0x00000000#32))
    (broadcastTo S128x512 (shapeCast S1x512 (multiReduction .add [0] S512 p 0x00000000#32 (reduces_SP n) (.inl rfl) rfl)
      shapeCasts_S512_S1x512) broadcasts_S1x512_S128x512)

/-- Each head's own lanes and queries, by query and lane. -/
def unstack (o : FVec F S128x512 .f32) : FVec F S1x256x128 .bf16 :=
  shapeCast S1x256x128 (truncf .bf16 (transpose S256x128 [1, 0] (concatenate S128x256 0
    [⟨S64x256, extractStridedSlice S64x256 ![0, 0] o slices_S128x512_o0_0_S64x256⟩,
      ⟨S64x256, extractStridedSlice S64x256 ![64, 256] o slices_S128x512_o64_256_S64x256⟩]
    concatenates_S64x256_S64x256_S128x256_d0) transposes_S128x256_p1_0_S256x128) bitsLt_bf16_f32) shapeCasts_S256x128_S1x256x128

/-- What one group of one query block stores. -/
def group (n : Nat) (hn : n < 8) (x : Vec F S1x256x128 .f32) (k v : Vec F (SK1 n) .bf16) (km : Vec F S1x8x128 .f32) :
    FVec F S1x256x128 .bf16 :=
  have q := queries x
  have s := scores n q k
  have b := masks (gates n q km) n (Nat.le_of_lt hn)
  unstack (mixed n (weights n hn s b (top n hn s b)) v)

/-! ## One grid point -/

theorem inb_x (t c : Nat) (ht : t < 4) (hc : c < 4) : ∀ a, (![0, t * 256, c * 128] : Fin 3 → Nat) a + S1x256x128.size a ≤ S1x1024x512.size a := by
  intro a
  match a with
  | ⟨0, _⟩ => exact Nat.le_refl 1
  | ⟨1, _⟩ => show t * 256 + 256 ≤ 1024; omega
  | ⟨2, _⟩ => show c * 128 + 128 ≤ 512; omega

theorem inb_k (n c : Nat) (hn : n < 8) (hc : c < 4) : ∀ a, (![0, 0, c * 128] : Fin 3 → Nat) a + (SK1 n).size a ≤ S1x2048x512.size a := by
  intro a
  match a with
  | ⟨0, _⟩ => exact Nat.le_refl 1
  | ⟨1, _⟩ => show 0 + (n + 1) * 256 ≤ 2048; omega
  | ⟨2, _⟩ => show c * 128 + 128 ≤ 512; omega

theorem inb_km (c : Nat) (hc : c < 4) : ∀ a, (![0, 0, c * 128] : Fin 3 → Nat) a + S1x8x128.size a ≤ S1x8x512.size a := by
  intro a
  match a with
  | ⟨0, _⟩ => exact Nat.le_refl 1
  | ⟨1, _⟩ => exact Nat.le_refl 8
  | ⟨2, _⟩ => show c * 128 + 128 ≤ 512; omega

/-- What is stored for the query block `t` of half `i` and the head group `c`, from the windows' blocks. -/
def groupAt (i t c : Nat) (hi : i < 2) (ht : t < 4) (hc : c < 4) (x0 : Vec F S1x1024x512 .f32) (x1 x2 : Vec F S1x2048x512 .bf16) (x3 : Vec F S1x8x512 .f32) :
    FVec F S1x256x128 .bf16 :=
  group (4 * i + t) (by omega)
    (View.ld x0 (Rect.unit (s := S1x1024x512) ![0, t * 256, c * 128] S1x256x128.size (inb_x t c ht hc)))
    (View.ld x1 (Rect.unit (s := S1x2048x512) ![0, 0, c * 128] (SK1 (4 * i + t)).size (inb_k (4 * i + t) c (by omega) hc)))
    (View.ld x2 (Rect.unit (s := S1x2048x512) ![0, 0, c * 128] (SK1 (4 * i + t)).size (inb_k (4 * i + t) c (by omega) hc)))
    (View.ld x3 (Rect.unit (s := S1x8x512) ![0, 0, c * 128] S1x8x128.size (inb_km c hc)))

/-- One store. -/
def piece (i t c : Nat) (hi : i < 2) (ht : t < 4) (hc : c < 4) (x0 : Vec F S1x1024x512 .f32) (x1 x2 : Vec F S1x2048x512 .bf16) (x3 : Vec F S1x8x512 .f32) :
    View.Piece (Elt F) S1x1024x512 .bf16 :=
  ⟨Rect.unit (s := S1x1024x512) ![0, t * 256, c * 128] S1x256x128.size (inb_x t c ht hc), groupAt i t c hi ht hc x0 x1 x2 x3⟩

/-- The sixteen stores of a grid point, last first. -/
def pieces (i : Nat) (hi : i < 2) (x0 : Vec F S1x1024x512 .f32) (x1 x2 : Vec F S1x2048x512 .bf16) (x3 : Vec F S1x8x512 .f32) :
    List (View.Piece (Elt F) S1x1024x512 .bf16) :=
  [piece i 3 3 hi (by omega) (by omega) x0 x1 x2 x3,
    piece i 3 2 hi (by omega) (by omega) x0 x1 x2 x3,
    piece i 3 1 hi (by omega) (by omega) x0 x1 x2 x3,
    piece i 3 0 hi (by omega) (by omega) x0 x1 x2 x3,
    piece i 2 3 hi (by omega) (by omega) x0 x1 x2 x3,
    piece i 2 2 hi (by omega) (by omega) x0 x1 x2 x3,
    piece i 2 1 hi (by omega) (by omega) x0 x1 x2 x3,
    piece i 2 0 hi (by omega) (by omega) x0 x1 x2 x3,
    piece i 1 3 hi (by omega) (by omega) x0 x1 x2 x3,
    piece i 1 2 hi (by omega) (by omega) x0 x1 x2 x3,
    piece i 1 1 hi (by omega) (by omega) x0 x1 x2 x3,
    piece i 1 0 hi (by omega) (by omega) x0 x1 x2 x3,
    piece i 0 3 hi (by omega) (by omega) x0 x1 x2 x3,
    piece i 0 2 hi (by omega) (by omega) x0 x1 x2 x3,
    piece i 0 1 hi (by omega) (by omega) x0 x1 x2 x3,
    piece i 0 0 hi (by omega) (by omega) x0 x1 x2 x3]

end Cert.MobaVal
-- ==== Proof.Moba.Block.lean ====
module

public import proofs.«01_k».proof.Proof.Moba.Chain

@[expose] public section

noncomputable section

namespace Cert.MobaVal

open Cert.MobaIdeal Cert.MobaIdeal.Gen Idealize.ShloMosaic Idealize.ShloMosaic.TcCoe Idealize.ShloMosaic.Tactic Idealize.SL.Sem

variable {F : FTy → Type} [FloatOps F] [Named F]

set_option maxHeartbeats 4000000 in
set_option maxRecDepth 65536 in
/-- What a grid point of the first half of a sequence writes. -/
theorem run_first  (c : Dev nD) (i : grid0.Coords)
    (arg3 : Memref sig .tc .vmem S1x1024x512 .f32) (harg3 : arg3.IsWhole)
    (arg4 : Memref sig .tc .vmem S1x2048x512 .bf16) (harg4 : arg4.IsWhole)
    (arg5 : Memref sig .tc .vmem S1x2048x512 .bf16) (harg5 : arg5.IsWhole)
    (arg6 : Memref sig .tc .vmem S1x8x512 .f32) (harg6 : arg6.IsWhole)
    (arg7 : Memref sig .tc .vmem S1x1024x512 .bf16) (harg7 : arg7.IsWhole) (hc0 : cond0_0 i) (hc1 : ¬cond0_1 i)
    (x0 : Vec F S1x1024x512 .f32) (x1 : Vec F S1x2048x512 .bf16) (x2 : Vec F S1x2048x512 .bf16) (x3 : Vec F S1x8x512 .f32) :
    (kernelRun0_A c i arg3 harg3 arg4 harg4 arg5 harg5 arg6 harg6 arg7 harg7 hc0 hc1 x0 x1 x2 x3).1 =
      pieces 0 (by omega) x0 x1 x2 x3 := by
  unfold kernelRun0_A; dsimp only; sl_unfold_words
  simp only [View.readAt_eq_ld]
  generalize e0 : View.read (Elt F) arg3.view (harg3.unread x0) = y0
  obtain rfl : x0 = y0 := (harg3.read_unread x0).symm.trans e0
  generalize e1 : View.read (Elt F) arg4.view (harg4.unread x1) = y1
  obtain rfl : x1 = y1 := (harg4.read_unread x1).symm.trans e1
  generalize e2 : View.read (Elt F) arg5.view (harg5.unread x2) = y2
  obtain rfl : x2 = y2 := (harg5.read_unread x2).symm.trans e2
  generalize e3 : View.read (Elt F) arg6.view (harg6.unread x3) = y3
  obtain rfl : x3 = y3 := (harg6.read_unread x3).symm.trans e3
  clear e0 e1 e2 e3
  unfold pieces
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl)))))))))))))))
  all_goals (unfold piece; refine congrArg (Sigma.mk _) ?_; unfold groupAt group; dsimp only; rfl)

set_option maxHeartbeats 4000000 in
set_option maxRecDepth 65536 in
/-- What a grid point of the second half of a sequence writes. -/
theorem run_second  (c : Dev nD) (i : grid0.Coords)
    (arg3 : Memref sig .tc .vmem S1x1024x512 .f32) (harg3 : arg3.IsWhole)
    (arg4 : Memref sig .tc .vmem S1x2048x512 .bf16) (harg4 : arg4.IsWhole)
    (arg5 : Memref sig .tc .vmem S1x2048x512 .bf16) (harg5 : arg5.IsWhole)
    (arg6 : Memref sig .tc .vmem S1x8x512 .f32) (harg6 : arg6.IsWhole)
    (arg7 : Memref sig .tc .vmem S1x1024x512 .bf16) (harg7 : arg7.IsWhole) (hc0 : ¬cond0_0 i) (hc1 : cond0_1 i)
    (x0 : Vec F S1x1024x512 .f32) (x1 : Vec F S1x2048x512 .bf16) (x2 : Vec F S1x2048x512 .bf16) (x3 : Vec F S1x8x512 .f32) :
    (kernelRun0_B c i arg3 harg3 arg4 harg4 arg5 harg5 arg6 harg6 arg7 harg7 hc0 hc1 x0 x1 x2 x3).1 =
      pieces 1 (by omega) x0 x1 x2 x3 := by
  unfold kernelRun0_B; dsimp only; sl_unfold_words
  simp only [View.readAt_eq_ld]
  generalize e0 : View.read (Elt F) arg3.view (harg3.unread x0) = y0
  obtain rfl : x0 = y0 := (harg3.read_unread x0).symm.trans e0
  generalize e1 : View.read (Elt F) arg4.view (harg4.unread x1) = y1
  obtain rfl : x1 = y1 := (harg4.read_unread x1).symm.trans e1
  generalize e2 : View.read (Elt F) arg5.view (harg5.unread x2) = y2
  obtain rfl : x2 = y2 := (harg5.read_unread x2).symm.trans e2
  generalize e3 : View.read (Elt F) arg6.view (harg6.unread x3) = y3
  obtain rfl : x3 = y3 := (harg6.read_unread x3).symm.trans e3
  clear e0 e1 e2 e3
  unfold pieces
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl)))))))))))))))
  all_goals (unfold piece; refine congrArg (Sigma.mk _) ?_; unfold groupAt group; dsimp only; rfl)

variable (m : (ℓ : Loc nD τ sig) → Buf (Elt Ideal) ℓ)

/-- What a grid point leaves in the first half of a sequence. -/
theorem out_first (c : Dev nD) (t : Fin cfg0.N) (h0 : t.val % 2 = 0) : outsAt0 m c t.val t.isLt =
    View.canon (pieces 0 (by omega) (iblk m c 0 t) (iblk m c 1 t) (iblk m c 2 t) (iblk m c 3 t)) := by
  rw [outsAt0_A m c t h0 (by omega)]
  unfold out0_A_4
  rw [View.read_writes_eq_canon _ _ _ (cover0_A_4 c _ _ _ _ _ _ _ _ _ _ _ _ _ _ _ _ _), run_first]

/-- What a grid point leaves in the second half of a sequence. -/
theorem out_second (c : Dev nD) (t : Fin cfg0.N) (h0 : ¬ t.val % 2 = 0) : outsAt0 m c t.val t.isLt =
    View.canon (pieces 1 (by omega) (iblk m c 0 t) (iblk m c 1 t) (iblk m c 2 t) (iblk m c 3 t)) := by
  rw [outsAt0_B m c t h0 (by omega)]
  unfold out0_B_4
  rw [View.read_writes_eq_canon _ _ _ (cover0_B_4 c _ _ _ _ _ _ _ _ _ _ _ _ _ _ _ _ _), run_second]

end Cert.MobaVal
-- ==== Proof.Moba.Eval.lean ====
module

public import proofs.«01_k».proof.Proof.Moba.Chain
public import Idealize.ShloMosaic.Lib.MatmulPlain

@[expose] public section

/-! The stages of one group read at an index. -/

noncomputable section

namespace Cert.MobaVal

open Cert.MobaIdeal Cert.MobaIdeal.Gen Idealize.ShloMosaic Idealize.ShloMosaic.TcCoe Idealize.SL.Sem

theorem mask_named : (Named.named κ "mask" 4048155338#32 : Ideal .f32) = ⊥ := rfl

/-- The real factor the queries are scaled by. -/
def factor : ℝ := 8⁻¹ * (Real.log 2)⁻¹

theorem scale_named : (Named.named κ "scale" 1043900987#32 : Ideal .f32) = ((factor : ℝ) : EReal) := rfl

theorem select_ofBool {α : Type} (p : Prop) [Decidable p] (x y : α) :
    Scalar.select (BitVec.ofBool (decide p)) x y = if p then x else y := by
  by_cases h : p <;> simp [h, Scalar.select]

/-- The number of a lane's head. -/
theorem head_bits (l : Fin 128) : Scalar.select
            (IntOp.andi
              (IntOp.cmpi CmpIPredicate.ne
                (IntOp.subi (BitVec.setWidth 32 (IntOp.cmpi CmpIPredicate.sgt (BitVec.ofNat 32 ↑l) 0#32))
                  (BitVec.setWidth 32 (IntOp.cmpi CmpIPredicate.slt (BitVec.ofNat 32 ↑l) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 ↑l) 64#32) 0#32))
            (IntOp.subi (IntOp.divsi ArithUnit.vector (BitVec.ofNat 32 ↑l) 64#32) 1#32)
            (IntOp.divsi ArithUnit.vector (BitVec.ofNat 32 ↑l) 64#32) = BitVec.ofNat 32 (l.val / 64) := by
  revert l; decide +kernel

theorem eq_bits (l : Fin 128) :
    IntOp.cmpi CmpIPredicate.eq (BitVec.ofNat 32 (l.val / 64)) 0#32 = BitVec.ofBool (decide (l.val / 64 = 0)) ∧
    IntOp.cmpi CmpIPredicate.eq (BitVec.ofNat 32 (l.val / 64)) 1#32 = BitVec.ofBool (decide (l.val / 64 = 1)) := by
  revert l; decide +kernel

set_option maxRecDepth 16384 in
theorem queries_apply (x : Vec Ideal S1x256x128 .f32) (a : Fin 512) (l : Fin 128) :
    queries x (ix2 a l) =
      if l.val / 64 = a.val / 256 then x (ix3 0 ⟨a.val % 256, Nat.mod_lt _ (by omega)⟩ l) * (factor : EReal) else (0 : EReal) := by
  have e0 := (eq_bits l).1
  have e1 := (eq_bits l).2
  pointwise [queries, lane, k0_pay39, k0_pay34, k0_pay35, k0_pay36, k0_pay37, k0_pay38]
  rw [head_bits, e0, e1]
  have ha := a.isLt
  by_cases h : a.val < 256
  · have e : (⟨a.val % 256, Nat.mod_lt _ (by omega)⟩ : Fin 256) = ⟨a.val, h⟩ := Fin.ext (Nat.mod_eq_of_lt h)
    rw [dif_pos h, Nat.div_eq_of_lt h, e]
    exact select_ofBool _ _ _
  · have e : (⟨a.val % 256, Nat.mod_lt _ (by omega)⟩ : Fin 256) = ⟨a.val - 256, by omega⟩ := Fin.ext (by show a.val % 256 = a.val - 256; omega)
    rw [dif_neg h, show a.val / 256 = 1 by omega, e]
    exact select_ofBool _ _ _

/-- The place in its block of a stacked query. -/
theorem row_bits (b : Fin 512) : (Scalar.select
        (IntOp.andi
          (IntOp.xori
            (IntOp.cmpi CmpIPredicate.slt
              (IntOp.remsi ArithUnit.vector (BitVec.ofNat 32 ↑b)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 ↑b)
              (Scalar.select (Scalar.cmpi CmpIPredicate.eq 256#32 0#32) 1#32 256#32))
            0#32))
        (IntOp.addi
          (IntOp.remsi ArithUnit.vector (BitVec.ofNat 32 ↑b)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 ↑b)
          (Scalar.select (Scalar.cmpi CmpIPredicate.eq 256#32 0#32) 1#32 256#32))) = BitVec.ofNat 32 (b.val % 256) := by
  revert b; decide +kernel

theorem toInt_small (a : Nat) (h : a < 2 ^ 31) : (BitVec.ofNat 32 a).toInt = a := by
  rw [BitVec.toInt_eq_toNat_cond, BitVec.toNat_ofNat, Nat.mod_eq_of_lt (by omega), if_pos (by omega)]

theorem sle_small (a b : Nat) (ha : a < 2 ^ 31) (hb : b < 2 ^ 31) :
    IntOp.cmpi CmpIPredicate.sle (BitVec.ofNat 32 a) (BitVec.ofNat 32 b) = BitVec.ofBool (decide (a ≤ b)) := by
  simp [IntOp.cmpi, BitVec.sle, toInt_small a ha, toInt_small b hb]

theorem slt_small (a b : Nat) (ha : a < 2 ^ 31) (hb : b < 2 ^ 31) :
    IntOp.cmpi CmpIPredicate.slt (BitVec.ofNat 32 a) (BitVec.ofNat 32 b) = BitVec.ofBool (decide (a < b)) := by
  simp [IntOp.cmpi, BitVec.slt, toInt_small a ha, toInt_small b hb]

theorem eq_small (a b : Nat) (ha : a < 2 ^ 31) (hb : b < 2 ^ 31) :
    IntOp.cmpi CmpIPredicate.eq (BitVec.ofNat 32 a) (BitVec.ofNat 32 b) = BitVec.ofBool (decide (a = b)) := by
  have : (BitVec.ofNat 32 a = BitVec.ofNat 32 b) ↔ a = b := by
    rw [← BitVec.toInt_inj, toInt_small a ha, toInt_small b hb]; omega
  simp only [IntOp.cmpi]
  by_cases h : a = b
  · simp [h]
  · have h' := mt this.1 h
    rw [decide_eq_false h, beq_false_of_ne h']

set_option maxRecDepth 16384 in
theorem causal_apply (a : Fin 256) (b : Fin 512) :
    k0_pay1 (ix2 a b) = BitVec.ofBool (decide (a.val ≤ b.val % 256)) := by
  pointwise [k0_pay1]
  rw [row_bits, sle_small _ _ (by omega) (by omega)]

open Idealize.ShloMosaic.ValueIdx in
theorem scores_read (n : Nat) (q : FVec Ideal S512x128 .bf16) (k : FVec Ideal (SK n) .bf16) (a : Fin ((n+1)*256)) (b : Fin 512) :
    FloatOps.matmul (DotDims.transposedRhs ((n + 1) * 256) 128 512) none k q (constant (SP n) .f32 0x00000000#32) (ValueIdx.ix2 a b) =
      ∑ l : Fin 128, k (ValueIdx.ix2 a l) * q (ValueIdx.ix2 b l) := by
  rw [Ideal.matmul_transposedRhs_apply]
  pointwise []

theorem scores_apply (n : Nat) (q : FVec Ideal S512x128 .bf16) (k : Vec Ideal (SK1 n) .bf16) (a : Fin ((n+1)*256)) (b : Fin 512) :
    scores n q k (ix2 a b) = ∑ l : Fin 128, k (ix3 0 a l) * q (ix2 b l) := by
  refine (scores_read n q _ a b).trans (Finset.sum_congr rfl fun l _ => ?_)
  refine congrArg (· * _) ?_
  exact (shapeCast_dropUnit_apply ![(n + 1) * 256, 128] k (casts_SK n) (ix2 a l)).trans (congrArg k (by funext i; match i with | 0 => rfl | 1 => rfl | 2 => rfl))

set_option maxRecDepth 16384 in
theorem gates_apply (n : Nat) (hn : n < 8) (q : FVec Ideal S512x128 .bf16) (km : Vec Ideal S1x8x128 .f32) (a : Fin 8) (b : Fin 512) :
    gates n q km (ix2 a b) = if a.val < n then
      ∑ x : Fin 128, km (ix3 0 a x) * q (ix2 b x) + ∑ x : Fin 128, (km (ix3 0 a x) - km (ix3 0 a x)) * q (ix2 b x) +
        ∑ x : Fin 128, (km (ix3 0 a x) - km (ix3 0 a x) - (km (ix3 0 a x) - km (ix3 0 a x))) * q (ix2 b x) else (⊥ : EReal) := by
  pointwise [gates, k0_pay40, k0_pay41, k0_pay42, k0_pay43]
  rw [slt_small _ _ (by omega) (by omega), select_ofBool, mask_named]
  congr 2
  refine Finset.sum_congr rfl fun x _ => ?_
  rw [dif_neg (by omega), dif_neg (by omega)]
  have : (⟨16 + a.val - 8 - 8, by omega⟩ : Fin 8) = a := Fin.ext (by show 16 + a.val - 8 - 8 = a.val; omega)
  rw [this]

/-- How many columns' entries are ahead of row `a`'s: greater, or the same and earlier. -/
def rank {m : Nat} (g : Fin m → EReal) (a : Fin m) : Nat :=
  (Finset.univ.filter fun x : Fin m => g a < g x ∨ (g x = g a ∧ x.val < a.val)).card

theorem fold_count {m : Nat} (p : Fin m → Prop) [DecidablePred p] (s : Finset (Fin m)) :
    Finset.fold IntOp.addi (0#32) (fun x => BitVec.setWidth 32 (BitVec.ofBool (decide (p x)))) s = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (by simp [ha])]
      simp [h, IntOp.addi, BitVec.ofNat_add, BitVec.add_comm]
    · simp [h, IntOp.addi]

set_option maxRecDepth 16384 in
theorem ranks_apply (g : FVec Ideal S8x512 .f32) (j : Nat) (h : j < 8) (b : Fin 512) :
    ranks g j h (ix2 0 b) = BitVec.ofNat 32 (rank (fun x : Fin 8 => (g (ix2 x b) : EReal)) ⟨j, h⟩) := by
  unfold rank
  rw [← fold_count]
  pointwise [ranks]
  refine Finset.fold_congr fun x _ => ?_
  rw [slt_small _ _ (by omega) (by omega)]
  congr 1
  by_cases h1 : (g (ix2 ⟨j, h⟩ b) : EReal) < g (ix2 x b) <;> by_cases h2 : (g (ix2 x b) : EReal) = g (ix2 ⟨j, h⟩ b) <;>
    by_cases h3 : x.val < j <;> simp [h1, h2, h3, IntOp.ori, IntOp.andi]

theorem rank_le (g : Fin 8 → EReal) (a : Fin 8) : rank g a ≤ 8 := (Finset.card_le_univ _).trans (by simp)

set_option maxRecDepth 16384 in
theorem masks_apply (g : FVec Ideal S8x512 .f32) (j : Nat) (h : j ≤ 8) (a : Fin 8) (b : Fin 512) :
    masks g j h (ix2 a b) = if a.val < j ∧ rank (fun x : Fin 8 => (g (ix2 x b) : EReal)) a < 3 then (0 : EReal) else ⊥ := by
  induction j with
  | zero =>
    rw [if_neg (by omega)]
    pointwise [masks]
    exact mask_named
  | succ j ih =>
    have hr := ranks_apply g j h b
    have hle := rank_le (fun x : Fin 8 => (g (ix2 x b) : EReal)) ⟨j, h⟩
    have ih := ih (Nat.le_of_succ_le h)
    unfold masks
    generalize masks g j (Nat.le_of_succ_le h) = mm at ih ⊢
    generalize ranks g j h = rr at hr ⊢
    pointwise []
    rw [hr, ih, eq_small _ _ (by omega) (by omega), slt_small _ 3 (by omega) (by omega)]
    have e : IntOp.andi (BitVec.ofBool (decide (a.val = j))) (BitVec.ofBool (decide (rank (fun x : Fin 8 => (g (ix2 x b) : EReal)) ⟨j, h⟩ < 3))) =
        BitVec.ofBool (decide (a.val = j ∧ rank (fun x : Fin 8 => (g (ix2 x b) : EReal)) ⟨j, h⟩ < 3)) := by
      by_cases h1 : a.val = j <;> by_cases h2 : rank (fun x : Fin 8 => (g (ix2 x b) : EReal)) ⟨j, h⟩ < 3 <;> simp [h1, h2, IntOp.andi]
    rw [e, select_ofBool]
    by_cases h1 : a.val = j
    · obtain rfl : a = ⟨j, h⟩ := Fin.ext h1
      by_cases h2 : rank (fun x : Fin 8 => (g (ix2 x b) : EReal)) ⟨j, h⟩ < 3 <;> simp [h2]
    · have : a.val < j + 1 ↔ a.val < j := by omega
      simp [h1, this]

theorem negInf_bits : Ideal.ofBits FTy.f32 4286578688#32 = ⊥ := by simp [Ideal.ofBits, Ideal.ieee]

theorem fold_max {m : Nat} (f : Fin m → EReal) : Finset.fold max ⊥ f Finset.univ = Finset.univ.sup f := rfl

set_option maxRecDepth 16384 in
theorem colMax_apply (s : FVec Ideal S256x512 .f32) (b : Fin 512) :
    colMax s (ix2 0 b) = Finset.univ.sup fun x : Fin 256 => (s (ix2 x b) : EReal) := by
  pointwise [colMax]
  rw [negInf_bits]
  rfl

set_option maxRecDepth 16384 in
theorem maskRow_apply (b : FVec Ideal S8x512 .f32) (j : Nat) (h : j < 8) (c : Fin 512) :
    maskRow b j h (ix2 0 c) = b (ix2 ⟨j, h⟩ c) := by
  pointwise [maskRow]

theorem block_apply (n : Nat) (s : FVec Ideal (SP n) .f32) (j : Nat) (h : j ≤ n) (a : Fin 256) (c : Fin 512)
    (ha : j * 256 + a.val < (n + 1) * 256) :
    block n s j h (ix2 a c) = s (ix2 ⟨j * 256 + a.val, ha⟩ c) := by
  unfold block
  rw [Pointwise.extractStridedSlice_apply]
  refine congrArg s ?_
  funext i
  match i with
  | 0 => exact Fin.ext rfl
  | 1 => exact Fin.ext (Nat.zero_add _)

theorem ownRows_apply (n : Nat) (s : FVec Ideal (SP n) .f32) (a : Fin 256) (c : Fin 512)
    (ha : n * 256 + a.val < (n + 1) * 256) :
    ownRows n s (ix2 a c) = s (ix2 ⟨n * 256 + a.val, ha⟩ c) := by
  cases n with
  | zero =>
    refine congrArg s ?_
    funext i
    match i with
    | 0 => exact Fin.ext (by show a.val = 0 * 256 + a.val; omega)
    | 1 => rfl
  | succ n => exact block_apply (n + 1) s (n + 1) (Nat.le_refl _) a c ha

theorem own_apply (n : Nat) (s : FVec Ideal (SP n) .f32) (a : Fin 256) (c : Fin 512)
    (ha : n * 256 + a.val < (n + 1) * 256) :
    own n s (ix2 a c) = if a.val ≤ c.val % 256 then s (ix2 ⟨n * 256 + a.val, ha⟩ c) else (⊥ : EReal) := by
  have h1 := ownRows_apply n s a c ha
  have h2 := causal_apply a c
  unfold own
  generalize ownRows n s = o at h1 ⊢
  generalize k0_pay1 = p at h2 ⊢
  pointwise []
  rw [h2, h1, mask_named]
  exact select_ofBool _ _ _

theorem maximumf_ix {s : Shape} (x y : FVec Ideal s .f32) (i : s.Idx) : maximumf x y i = max (x i : EReal) (y i) := rfl

/-- Block `j`'s greatest masked score is at most `z` when each of its masked scores is. -/
theorem blockTop_le (n : Nat) (hn : n < 8) (s : FVec Ideal (SP n) .f32) (b : FVec Ideal S8x512 .f32) (c : Fin 512)
    (hb : ∀ j : Fin 8, (b (ix2 j c) : EReal) = 0 ∨ (b (ix2 j c) : EReal) = ⊥) (j : Nat) (h : j ≤ n) (z : EReal) :
    (blockTop n hn s b j h (ix2 0 c) : EReal) ≤ z ↔
      ∀ a : Fin 256, (s (ix2 ⟨j * 256 + a.val, by have := a.isLt; omega⟩ c) : EReal) + b (ix2 ⟨j, by omega⟩ c) ≤ z := by
  have e : (blockTop n hn s b j h (ix2 0 c) : EReal) =
      (colMax (block n s j h) (ix2 0 c) : EReal) + maskRow b j (by omega) (ix2 0 c) := rfl
  rw [e, maskRow_apply, colMax_apply]
  rcases hb ⟨j, by omega⟩ with hz | hz
  · rw [hz, add_zero, Finset.sup_le_iff]
    refine ⟨fun H a => ?_, fun H a _ => ?_⟩
    · rw [add_zero, ← block_apply n s j h a c]; exact H a (Finset.mem_univ a)
    · rw [block_apply n s j h a c (by have := a.isLt; omega)]
      have := H a
      rwa [add_zero] at this
  · rw [hz, EReal.add_bot]
    exact ⟨fun _ a => by rw [EReal.add_bot]; exact bot_le, fun _ => bot_le⟩

theorem topsUpTo_le (n : Nat) (hn : n < 8) (s : FVec Ideal (SP n) .f32) (b : FVec Ideal S8x512 .f32) (c : Fin 512)
    (hb : ∀ j : Fin 8, (b (ix2 j c) : EReal) = 0 ∨ (b (ix2 j c) : EReal) = ⊥) (z : EReal) (j : Nat) (h : j ≤ n) :
    (topsUpTo n hn s b j h (ix2 0 c) : EReal) ≤ z ↔ ∀ j' : Nat, ∀ hj : j' ≤ j,
      ∀ a : Fin 256, (s (ix2 ⟨j' * 256 + a.val, by have := a.isLt; omega⟩ c) : EReal) + b (ix2 ⟨j', by omega⟩ c) ≤ z := by
  induction j with
  | zero =>
    refine (blockTop_le n hn s b c hb 0 h z).trans ⟨fun H j' hj a => ?_, fun H a => H 0 (Nat.le_refl 0) a⟩
    obtain rfl : j' = 0 := by omega
    exact H a
  | succ j ih =>
    show max (topsUpTo n hn s b j (Nat.le_of_succ_le h) (ix2 0 c) : EReal) (blockTop n hn s b (j + 1) h (ix2 0 c)) ≤ z ↔ _
    rw [max_le_iff, ih, blockTop_le n hn s b c hb]
    refine ⟨fun H j' hj a => ?_, fun H => ⟨fun j' hj a => H j' (by omega) a, fun a => H (j + 1) (Nat.le_refl _) a⟩⟩
    by_cases e : j' = j + 1
    · subst e; exact H.2 a
    · exact H.1 j' (by omega) a

/-- A key's masked score: its block's mask added, or nothing where it is after the query. -/
def masked (n : Nat) (hn : n < 8) (s : FVec Ideal (SP n) .f32) (b : FVec Ideal S8x512 .f32) (c : Fin 512) (k : Fin ((n + 1) * 256)) : EReal :=
  if h : k.val / 256 < n then (s (ix2 k c) : EReal) + b (ix2 ⟨k.val / 256, by omega⟩ c)
  else if k.val % 256 ≤ c.val % 256 then s (ix2 k c) else ⊥

theorem ownTop_le (n : Nat) (s : FVec Ideal (SP n) .f32) (c : Fin 512) (z : EReal) :
    (colMax (own n s) (ix2 0 c) : EReal) ≤ z ↔
      ∀ a : Fin 256, a.val ≤ c.val % 256 → (s (ix2 ⟨n * 256 + a.val, by have := a.isLt; omega⟩ c) : EReal) ≤ z := by
  rw [colMax_apply, Finset.sup_le_iff]
  refine ⟨fun H a ha => ?_, fun H a _ => ?_⟩
  · have := H a (Finset.mem_univ a)
    rwa [own_apply n s a c (by have := a.isLt; omega), if_pos ha] at this
  · rw [own_apply n s a c (by have := a.isLt; omega)]
    split
    · exact H a ‹_›
    · exact bot_le

theorem top_apply (n : Nat) (hn : n < 8) (s : FVec Ideal (SP n) .f32) (b : FVec Ideal S8x512 .f32) (c : Fin 512)
    (hb : ∀ j : Fin 8, (b (ix2 j c) : EReal) = 0 ∨ (b (ix2 j c) : EReal) = ⊥) :
    (top n hn s b (ix2 0 c) : EReal) = Finset.univ.sup (masked n hn s b c) := by
  refine eq_of_forall_ge_iff fun z => ?_
  have key : (top n hn s b (ix2 0 c) : EReal) ≤ z ↔
      (∀ j' : Nat, ∀ hj : j' < n, ∀ a : Fin 256,
        (s (ix2 ⟨j' * 256 + a.val, by have := a.isLt; omega⟩ c) : EReal) + b (ix2 ⟨j', by omega⟩ c) ≤ z) ∧
      ∀ a : Fin 256, a.val ≤ c.val % 256 → (s (ix2 ⟨n * 256 + a.val, by have := a.isLt; omega⟩ c) : EReal) ≤ z := by
    cases n with
    | zero => exact (ownTop_le 0 s c z).trans ⟨fun H => ⟨fun j' hj => absurd hj (Nat.not_lt_zero _), H⟩, fun H => H.2⟩
    | succ n =>
      show max (topsUpTo (n + 1) hn s b n (Nat.le_succ n) (ix2 0 c) : EReal) (colMax (own (n + 1) s) (ix2 0 c)) ≤ z ↔ _
      rw [max_le_iff, ownTop_le, topsUpTo_le (n + 1) hn s b c hb]
      exact ⟨fun H => ⟨fun j' hj => H.1 j' (by omega), H.2⟩, fun H => ⟨fun j' hj => H.1 j' (by omega), H.2⟩⟩
  rw [key, Finset.sup_le_iff]
  refine ⟨fun H k _ => ?_, fun H => ⟨fun j' hj a => ?_, fun a ha => ?_⟩⟩
  · unfold masked
    have hk := k.isLt
    split
    · rename_i h
      have := H.1 (k.val / 256) h ⟨k.val % 256, Nat.mod_lt _ (by omega)⟩
      have e : (⟨k.val / 256 * 256 + k.val % 256, by omega⟩ : Fin ((n + 1) * 256)) = k := Fin.ext (by show k.val / 256 * 256 + k.val % 256 = k.val; omega)
      rwa [e] at this
    · split
      · rename_i h h'
        have := H.2 ⟨k.val % 256, Nat.mod_lt _ (by omega)⟩ h'
        have e : (⟨n * 256 + k.val % 256, by omega⟩ : Fin ((n + 1) * 256)) = k := Fin.ext (by show n * 256 + k.val % 256 = k.val; omega)
        rwa [e] at this
      · exact bot_le
  · have ha := a.isLt
    have := H ⟨j' * 256 + a.val, by omega⟩ (Finset.mem_univ _)
    have e : (j' * 256 + a.val) / 256 = j' := by omega
    unfold masked at this
    rw [dif_pos (show (j' * 256 + a.val) / 256 < n by omega)] at this
    simp only [e] at this
    exact this
  · have hl := a.isLt
    have := H ⟨n * 256 + a.val, by omega⟩ (Finset.mem_univ _)
    unfold masked at this
    rwa [dif_neg (show ¬ (n * 256 + a.val) / 256 < n by omega), if_pos (show (n * 256 + a.val) % 256 ≤ c.val % 256 by omega)] at this

/-- A key's weight before the weights are normalised. -/
def weight (n : Nat) (hn : n < 8) (s : FVec Ideal (SP n) .f32) (b : FVec Ideal S8x512 .f32) (m : EReal) (c : Fin 512) (k : Fin ((n + 1) * 256)) : EReal :=
  if h : k.val / 256 < n then Ideal.exp2 ((s (ix2 k c) : EReal) - (m - b (ix2 ⟨k.val / 256, by omega⟩ c)))
  else Ideal.exp2 ((if k.val % 256 ≤ c.val % 256 then (s (ix2 k c) : EReal) else ⊥) - m)

set_option maxRecDepth 16384 in
theorem shifted_apply (x : FVec Ideal S256x512 .f32) (m r : FVec Ideal S1x512 .f32) (a : Fin 256) (c : Fin 512) :
    (exp2 (subf x (broadcastTo S256x512 (subf m r) broadcasts_S1x512_S256x512)) (ix2 a c) : EReal) =
      Ideal.exp2 ((x (ix2 a c) : EReal) - ((m (ix2 0 c) : EReal) - r (ix2 0 c))) := by
  pointwise []
  rfl

set_option maxRecDepth 16384 in
theorem shifted_apply' (x : FVec Ideal S256x512 .f32) (m : FVec Ideal S1x512 .f32) (a : Fin 256) (c : Fin 512) :
    (exp2 (subf x (broadcastTo S256x512 m broadcasts_S1x512_S256x512)) (ix2 a c) : EReal) =
      Ideal.exp2 ((x (ix2 a c) : EReal) - (m (ix2 0 c) : EReal)) := by
  pointwise []
  rfl

theorem part_apply (n : Nat) (hn : n < 8) (s : FVec Ideal (SP n) .f32) (b : FVec Ideal S8x512 .f32) (m : FVec Ideal S1x512 .f32)
    (k : Fin ((n + 1) * 256)) (c : Fin 512) (j : Fin (n + 1)) (hj : j.val = k.val / 256) :
    (part n hn s b m j (ix2 ⟨k.val % 256, Nat.mod_lt _ (by omega)⟩ c) : EReal) = weight n hn s b (m (ix2 0 c)) c k := by
  have hk := k.isLt
  obtain ⟨j, hjl⟩ := j
  obtain rfl : j = k.val / 256 := hj
  unfold part weight
  by_cases h : k.val / 256 < n
  · rw [dif_pos h, dif_pos h, shifted_apply, maskRow_apply, block_apply n s _ _ _ c (by show k.val / 256 * 256 + k.val % 256 < _; omega)]
    have e : (⟨k.val / 256 * 256 + k.val % 256, by omega⟩ : Fin ((n + 1) * 256)) = k := Fin.ext (by show k.val / 256 * 256 + k.val % 256 = k.val; omega)
    show Ideal.exp2 ((s (ix2 (⟨k.val / 256 * 256 + k.val % 256, by omega⟩ : Fin ((n + 1) * 256)) c) : EReal) - _) = _
    rw [e]
  · rw [dif_neg h, dif_neg h, shifted_apply', own_apply n s _ c (by show n * 256 + k.val % 256 < _; omega)]
    have e : (⟨n * 256 + k.val % 256, by omega⟩ : Fin ((n + 1) * 256)) = k := Fin.ext (by show n * 256 + k.val % 256 = k.val; omega)
    show Ideal.exp2 ((if k.val % 256 ≤ c.val % 256 then (s (ix2 (⟨n * 256 + k.val % 256, by omega⟩ : Fin ((n + 1) * 256)) c) : EReal) else ⊥) - _) = _
    rw [e]

theorem weights_apply (n : Nat) (hn : n < 8) (s : FVec Ideal (SP n) .f32) (b : FVec Ideal S8x512 .f32) (m : FVec Ideal S1x512 .f32)
    (k : Fin ((n + 1) * 256)) (c : Fin 512) :
    (weights n hn s b m (ix2 k c) : EReal) = weight n hn s b (m (ix2 0 c)) c k := by
  have hk := k.isLt
  cases n with
  | zero =>
    rw [← part_apply 0 hn s b m k c 0 (by show 0 = k.val / 256; omega)]
    refine congrArg (part 0 hn s b m 0) ?_
    funext i
    match i with
    | 0 => exact Fin.ext (by show k.val = k.val % 256; omega)
    | 1 => rfl
  | succ n =>
    rw [← part_apply (n + 1) hn s b m k c ⟨k.val / 256, by omega⟩ rfl]
    refine concatenate_ofFn_apply (t := SP (n + 1)) (s₁ := S256x512) 0 (part (n + 1) hn s b m) (concats_SP n _) rfl 256 rfl (ix2 k c) ⟨k.val / 256, by omega⟩ rfl _ rfl ?_
    intro i hi
    match i with
    | 0 => exact absurd rfl hi
    | 1 => rfl

open Idealize.ShloMosaic.ValueIdx in
theorem overKeys_apply (n : Nat) (lhs : FVec Ideal (SK n) .bf16) (rhs : FVec Ideal (SP n) .bf16) (acc : FVec Ideal S128x512 .f32)
    (r : Fin 128) (c : Fin 512) :
    (FloatOps.matmul (overKeys n) none lhs rhs acc (ValueIdx.ix2 r c) : EReal) =
      acc (ValueIdx.ix2 r c) + ∑ k : Fin ((n + 1) * 256), (lhs (ValueIdx.ix2 k r) : EReal) * rhs (ValueIdx.ix2 k c) := by
  have h1 : (overKeys n).contr.rank = 1 := rfl
  have h2 : (overKeys n).contr.size ⟨0, by rw [h1]; exact Nat.one_pos⟩ = (n + 1) * 256 := rfl
  rw [Ideal.matmul_apply, ← Equiv.sum_comp (contrEquiv1 (overKeys n) ((n + 1) * 256) h1 h2).symm]
  refine congrArg (acc (ValueIdx.ix2 r c) + ·) (Finset.sum_congr rfl fun k _ => ?_)
  have hk := contrEquiv1_symm_val (overKeys n) ((n + 1) * 256) h1 h2 k
  have el : (overKeys n).lhsIdx (ValueIdx.ix2 r c) ((contrEquiv1 (overKeys n) ((n + 1) * 256) h1 h2).symm k) = ValueIdx.ix2 k r := by
    funext a; apply Fin.ext
    match a with
    | ⟨0, _⟩ => exact hk
    | ⟨1, _⟩ => rfl
  have er : (overKeys n).rhsIdx (ValueIdx.ix2 r c) ((contrEquiv1 (overKeys n) ((n + 1) * 256) h1 h2).symm k) = ValueIdx.ix2 k c := by
    funext a; apply Fin.ext
    match a with
    | ⟨0, _⟩ => exact hk
    | ⟨1, _⟩ => rfl
  rw [el, er]

set_option maxRecDepth 16384 in
theorem mixed_apply (n : Nat) (p : FVec Ideal (SP n) .f32) (v : Vec Ideal (SK1 n) .bf16) (a : Fin 128) (c : Fin 512) :
    (mixed n p v (ix2 a c) : EReal) =
      Ideal.div (∑ k : Fin ((n + 1) * 256), (v (ix3 0 k a) : EReal) * p (ix2 k c)) (∑ k : Fin ((n + 1) * 256), (p (ix2 k c) : EReal)) := by
  have h := overKeys_apply n (shapeCast (SK n) v (casts_SK n)) (truncf .bf16 p bitsLt_bf16_f32) (constant S128x512 .f32 0x00000000#32) a c
  unfold mixed matmul
  generalize FloatOps.matmul (overKeys n) none (shapeCast (SK n) v (casts_SK n)) (truncf .bf16 p bitsLt_bf16_f32) (constant S128x512 .f32 0x00000000#32) = mm at h ⊢
  pointwise []
  refine congrArg₂ Ideal.div (h.trans ?_) rfl
  have hz : (constant (F := Ideal) S128x512 .f32 0x00000000#32 (ValueIdx.ix2 a c) : EReal) = 0 := by pointwise []
  rw [hz, zero_add]
  refine Finset.sum_congr rfl fun k _ => congrArg₂ (· * ·) ?_ rfl
  exact (shapeCast_dropUnit_apply ![(n + 1) * 256, 128] v (casts_SK n) (ix2 k a)).trans (congrArg v (by funext i; match i with | 0 => rfl | 1 => rfl | 2 => rfl))

set_option maxRecDepth 16384 in
theorem unstack_apply (o : FVec Ideal S128x512 .f32) (r : Fin 256) (l : Fin 128) :
    (unstack o (ix3 0 r l) : EReal) = o (ix2 l ⟨l.val / 64 * 256 + r.val, by omega⟩) := by
  pointwise [unstack]
  have hl := l.isLt
  by_cases h : l.val < 64
  · rw [dif_pos h]
    exact congrArg o (congrArg (ix2 l) (Fin.ext (by show r.val = l.val / 64 * 256 + r.val; omega)))
  · rw [dif_neg h]
    exact congrArg o (congrArg₂ ix2 (Fin.ext (by show 64 + (l.val - 64) = l.val; omega)) (Fin.ext (by show 256 + r.val = l.val / 64 * 256 + r.val; omega)))

end Cert.MobaVal
-- ==== Proof.Moba.Rank.lean ====
module

public import proofs.«01_k».proof.Proof.Moba.Eval
public import Idealize.ShloMosaic.Lib.PlanTiles.StableSort

@[expose] public section

/-! The places of a stable descending sort are the numbers of keys ahead. -/

noncomputable section

namespace Cert.MobaVal

open Idealize.ShloMosaic Idealize.ShloMosaic.PlanTiles

variable {m : Nat} (g : Fin m → EReal)

/-- How many keys are below the one at `a`. -/
def below (a : Fin m) : Nat := (Finset.univ.filter fun x => g x < g a).card

theorem below_lt (a b : Fin m) : below g a < below g b ↔ g a < g b := by
  constructor
  · intro h
    by_contra hn
    exact absurd h (Nat.not_lt.2 (Finset.card_le_card fun x hx => by
      simp only [Finset.mem_filter, Finset.mem_univ, true_and] at hx ⊢
      exact lt_of_lt_of_le hx (not_lt.1 hn)))
  · intro h
    refine Finset.card_lt_card ((Finset.ssubset_iff_of_subset fun x hx => ?_).2 ⟨a, by simp [h], by simp⟩)
    simp only [Finset.mem_filter, Finset.mem_univ, true_and] at hx ⊢
    exact hx.trans h

theorem below_eq (a b : Fin m) : below g a = below g b ↔ g a = g b := by
  constructor
  · intro h
    refine le_antisymm (not_lt.1 fun hl => ?_) (not_lt.1 fun hl => ?_)
    · have := (below_lt g b a).2 hl; omega
    · have := (below_lt g a b).2 hl; omega
  · intro h; unfold below; rw [h]

/-- `x` is ahead of `a`: its key is greater, or the same and it is earlier. -/
def Ahead (x a : Fin m) : Prop := g a < g x ∨ (g x = g a ∧ x.val < a.val)

theorem Ahead.asymm {x a : Fin m} (h : Ahead g x a) : ¬ Ahead g a x := by
  rintro (h' | ⟨h', l'⟩) <;> rcases h with h | ⟨h, l⟩
  · exact lt_asymm h h'
  · exact absurd h' (by rw [h]; exact lt_irrefl _)
  · exact absurd h (by rw [h']; exact lt_irrefl _)
  · omega

theorem sorted_ahead (i j : Fin m) (h : i < j) :
    Ahead g (sortedFrom (fun x y => decide (g y < g x)) i) (sortedFrom (fun x y => decide (g y < g x)) j) := by
  have e : (fun x y : Fin m => decide (g y < g x)) = fun x y => decide (below g y < below g x) := by
    funext x y
    exact decide_eq_decide.2 (below_lt g y x).symm
  have hp := List.pairwise_iff_get.mp (pairwise_stableSort_lex (below g) (· < ·) (List.finRange m) (List.pairwise_lt_finRange m))
  have hp' : ∀ a b : Fin (sortPositions m fun x y => decide (below g y < below g x)).length, a < b →
      Lex (below g) (· < ·) ((sortPositions m fun x y => decide (below g y < below g x)).get a)
        ((sortPositions m fun x y => decide (below g y < below g x)).get b) := hp
  rw [e]
  have := hp' (i.cast (length_sortPositions m _).symm) (j.cast (length_sortPositions m _).symm) h
  rcases this with h1 | ⟨h1, h2⟩
  · exact .inl ((below_lt g _ _).1 h1)
  · exact .inr ⟨(below_eq g _ _).1 h1, h2⟩

theorem rank_sorted (i : Fin m) : rank g (sortedFrom (fun x y => decide (g y < g x)) i) = i.val := by
  have hσ := sortedFrom_injective (fun x y : Fin m => decide (g y < g x))
  have hs := sortedFrom_surjective (fun x y : Fin m => decide (g y < g x))
  have ha := sorted_ahead g
  generalize sortedFrom (fun x y : Fin m => decide (g y < g x)) = σ at hσ hs ha ⊢
  unfold rank
  have e : (Finset.univ.filter fun x : Fin m => g (σ i) < g x ∨ (g x = g (σ i) ∧ x.val < (σ i).val)) = (Finset.univ.filter fun k : Fin m => k < i).map ⟨σ, hσ⟩ := by
    ext x
    obtain ⟨k, rfl⟩ := hs x
    simp only [Finset.mem_filter, Finset.mem_univ, true_and, Finset.mem_map, Function.Embedding.coeFn_mk]
    constructor
    · intro h
      refine ⟨k, ?_, rfl⟩
      rcases lt_trichotomy k i with hk | hk | hk
      · exact hk
      · subst hk
        exact absurd h (Ahead.asymm g h)
      · exact absurd (ha i k hk) (Ahead.asymm g h)
    · rintro ⟨k', hk, e⟩
      obtain rfl := hσ e
      exact ha k' i hk
  rw [e, Finset.card_map]
  have : (Finset.univ.filter fun k : Fin m => k < i) = Finset.Iio i := by ext; simp
  rw [this, Fin.card_Iio]

/-- A position is among the first `t` of the sort when fewer than `t` keys are ahead of its key. -/
theorem first_iff (t : Nat) (ht : t ≤ m) (a : Fin m) :
    (∃ i : Fin t, sortedFrom (fun x y => decide (g y < g x)) (i.castLE ht) = a) ↔ rank g a < t := by
  constructor
  · rintro ⟨i, rfl⟩
    rw [rank_sorted]
    exact i.isLt
  · intro h
    obtain ⟨i, rfl⟩ := sortedFrom_surjective (fun x y : Fin m => decide (g y < g x)) a
    rw [rank_sorted] at h
    exact ⟨⟨i.val, h⟩, rfl⟩

end Cert.MobaVal
-- ==== Proof.Moba.Math.lean ====
module

public import proofs.«01_k».proof.Proof.Moba.Eval
public import proofs.«01_k».proof.Proof.Moba.Rank

@[expose] public section

noncomputable section

/-! The attention of one query over the reals: the softmax in base two over the keys before the query's block's end is the
softmax in base e over all keys. -/

open scoped Classical

namespace Cert.MobaVal

open Cert.MobaIdeal Cert.MobaIdeal.Gen Idealize.ShloMosaic Idealize.ShloMosaic.TcCoe

/-! Sums. -/

theorem coe_sum {ι : Type} (s : Finset ι) (f : ι → ℝ) : (∑ i ∈ s, (f i : EReal)) = ((∑ i ∈ s, f i : ℝ) : EReal) := by
  induction s using Finset.induction_on with
  | empty => simp
  | insert a s h ih => rw [Finset.sum_insert h, Finset.sum_insert h, ih, EReal.coe_add]

theorem sum_mul_coe {ι : Type} (s : Finset ι) (f : ι → EReal) (c : ℝ) (hc : 0 ≤ c) : (∑ i ∈ s, f i) * (c : EReal) = ∑ i ∈ s, f i * c := by
  induction s using Finset.induction_on with
  | empty => simp
  | insert a s h ih =>
    rw [Finset.sum_insert h, Finset.sum_insert h,
      EReal.right_distrib_of_nonneg_of_ne_top (EReal.coe_nonneg.mpr hc) (EReal.coe_ne_top c), ih]

/-- A sum over two heads' lanes of which only one head's count. -/
theorem sum_head (h : Nat) (hh : h < 2) (f : Fin 128 → EReal) :
    (∑ l : Fin 128, if l.val / 64 = h then f l else 0) = ∑ d : Fin 64, f ⟨h * 64 + d.val, by omega⟩ := by
  rw [← Finset.sum_filter]
  symm
  refine Finset.sum_bij (fun d _ => ⟨h * 64 + d.val, by omega⟩) ?_ ?_ ?_ ?_
  · intro d _
    rw [Finset.mem_filter]
    exact ⟨Finset.mem_univ _, by show (h * 64 + d.val) / 64 = h; omega⟩
  · intro d _ d' _ e
    have : h * 64 + d.val = h * 64 + d'.val := congrArg Fin.val e
    exact Fin.ext (by omega)
  · intro l hl
    rw [Finset.mem_filter] at hl
    exact ⟨⟨l.val % 64, by omega⟩, Finset.mem_univ _, Fin.ext (by show h * 64 + l.val % 64 = l.val; omega)⟩
  · intro d _; rfl

/-! The softmax. -/

theorem sup_seen {M : Nat} (P : Fin M → Prop) (f : Fin M → ℝ) (k0 : Fin M) (h0 : P k0) (hm : ∀ k, P k → f k ≤ f k0) :
    (Finset.univ.sup fun k => if P k then (f k : EReal) else ⊥) = f k0 := by
  refine le_antisymm (Finset.sup_le fun k _ => ?_) ?_
  · by_cases h : P k
    · rw [if_pos h]; exact EReal.coe_le_coe_iff.mpr (hm k h)
    · rw [if_neg h]; exact bot_le
  · refine le_trans ?_ (Finset.le_sup (f := fun k => if P k then (f k : EReal) else ⊥) (Finset.mem_univ k0))
    rw [if_pos h0]

theorem factor_pos : 0 < factor := by
  unfold factor
  have := Real.log_pos (show (1 : ℝ) < 2 by norm_num)
  positivity

theorem exp2_factor (a b : ℝ) : Ideal.exp2 (((factor * a : ℝ) : EReal) - ((factor * b : ℝ) : EReal)) = ((Real.exp ((a - b) * 8⁻¹) : ℝ) : EReal) := by
  rw [← EReal.coe_sub]
  show ((Real.rpow 2 _ : ℝ) : EReal) = _
  refine congrArg _ ?_
  show (2 : ℝ) ^ (factor * a - factor * b) = _
  rw [Real.rpow_def_of_pos (by norm_num)]
  refine congrArg _ ?_
  unfold factor
  have := (Real.log_pos (show (1 : ℝ) < 2 by norm_num)).ne'
  field_simp

theorem exp_eighth (a b : ℝ) : Ideal.exp (((a * 8⁻¹ : ℝ) : EReal) - ((b * 8⁻¹ : ℝ) : EReal)) = ((Real.exp ((a - b) * 8⁻¹) : ℝ) : EReal) := by
  rw [← EReal.coe_sub]
  show ((Real.exp _ : ℝ) : EReal) = _
  rw [sub_mul]

/-- The weights of a softmax over the keys `P` tells of, of scores `S`, when `k0` scores most. -/
def soft {M : Nat} (P : Fin M → Prop) (S : Fin M → ℝ) (k0 k : Fin M) : ℝ := if P k then Real.exp ((S k - S k0) * 8⁻¹) else 0

theorem soft_nonneg {M : Nat} (P : Fin M → Prop) (S : Fin M → ℝ) (k0 k : Fin M) : 0 ≤ soft P S k0 k := by
  unfold soft
  by_cases h : P k
  · rw [if_pos h]; exact (Real.exp_pos _).le
  · rw [if_neg h]

theorem exp_soft {M : Nat} (P : Fin M → Prop) (S : Fin M → ℝ) (k0 k : Fin M) (h0 : P k0) (hm : ∀ k, P k → S k ≤ S k0) :
    Ideal.exp ((if P k then ((S k * 8⁻¹ : ℝ) : EReal) else ⊥) - Finset.univ.sup fun k => if P k then ((S k * 8⁻¹ : ℝ) : EReal) else ⊥) =
      ((soft P S k0 k : ℝ) : EReal) := by
  rw [sup_seen P (fun k => S k * 8⁻¹) k0 h0 fun k h => mul_le_mul_of_nonneg_right (hm k h) (by norm_num)]
  unfold soft
  by_cases h : P k
  · rw [if_pos h, if_pos h]; exact exp_eighth _ _
  · rw [if_neg h, if_neg h, EReal.bot_sub]; rfl

/-- A softmax may divide once at the end. -/
theorem div_once {M : Nat} (W : Fin M → ℝ) (V : Fin M → EReal) (hW : ∀ k, 0 ≤ W k) (hs : 0 < ∑ k, W k) :
    Ideal.div (∑ k, V k * (W k : EReal)) (∑ k, (W k : EReal)) = ∑ k, V k * Ideal.div (W k) (∑ k, (W k : EReal)) := by
  rw [coe_sum]
  have hne : ((∑ k, W k : ℝ) : EReal) ≠ 0 := by exact_mod_cast hs.ne'
  unfold Ideal.div
  simp only [if_neg hne]
  rw [← EReal.coe_inv, sum_mul_coe _ _ _ (inv_nonneg.mpr hs.le)]
  exact Finset.sum_congr rfl fun k _ => mul_assoc _ _ _

/-- Keys of no weight do not matter. -/
theorem sum_short {N M : Nat} (h : N ≤ M) (f : Fin M → EReal) (hz : ∀ k : Fin M, N ≤ k.val → f k = 0) :
    (∑ k : Fin N, f (k.castLE h)) = ∑ k, f k := by
  refine Finset.sum_of_injOn (fun k : Fin N => k.castLE h) (fun a _ b _ e => Fin.ext (congrArg (fun k : Fin M => k.val) e)) (fun _ _ => Finset.mem_coe.mpr (Finset.mem_univ _)) ?_ (fun _ _ => rfl)
  intro k _ hk
  refine hz k ?_
  by_contra hlt
  exact hk ⟨⟨k.val, by omega⟩, Finset.mem_coe.mpr (Finset.mem_univ _), rfl⟩

/-! The blocks a query looks at. -/

/-- The gates of the blocks before block `n`. -/
def past (n : Nat) (g : Fin 8 → ℝ) (j : Fin 8) : EReal := if j.val < n then (g j : EReal) else ⊥

theorem past_lt (n : Nat) (g : Fin 8 → ℝ) (c : ℝ) (hc : 0 < c) (a b : Fin 8) :
    past n (fun j => c * g j) a < past n (fun j => c * g j) b ↔ past n g a < past n g b := by
  unfold past
  by_cases ha : a.val < n <;> by_cases hb : b.val < n
  · rw [if_pos ha, if_pos hb, if_pos ha, if_pos hb, EReal.coe_lt_coe_iff, EReal.coe_lt_coe_iff]
    exact mul_lt_mul_iff_right₀ hc
  · rw [if_pos ha, if_neg hb, if_pos ha, if_neg hb]; simp
  · rw [if_neg ha, if_pos hb, if_neg ha, if_pos hb]; exact iff_of_true (EReal.bot_lt_coe _) (EReal.bot_lt_coe _)
  · rw [if_neg ha, if_neg hb, if_neg ha, if_neg hb]

theorem past_eq (n : Nat) (g : Fin 8 → ℝ) (c : ℝ) (hc : 0 < c) (a b : Fin 8) :
    past n (fun j => c * g j) a = past n (fun j => c * g j) b ↔ past n g a = past n g b := by
  have h1 := past_lt n g c hc a b
  have h2 := past_lt n g c hc b a
  constructor
  · intro h
    exact le_antisymm (not_lt.mp fun h' => absurd (h2.mpr h') (by rw [h]; exact lt_irrefl _))
      (not_lt.mp fun h' => absurd (h1.mpr h') (by rw [h]; exact lt_irrefl _))
  · intro h
    exact le_antisymm (not_lt.mp fun h' => absurd (h2.mp h') (by rw [h]; exact lt_irrefl _))
      (not_lt.mp fun h' => absurd (h1.mp h') (by rw [h]; exact lt_irrefl _))

/-- Scaling the gates moves no block. -/
theorem rank_scale (n : Nat) (g : Fin 8 → ℝ) (c : ℝ) (hc : 0 < c) (a : Fin 8) :
    rank (past n fun j => c * g j) a = rank (past n g) a := by
  unfold rank
  simp only [past_lt n g c hc, past_eq n g c hc]

/-- Whether query `t` looks at key `k`, by the gates of its blocks. -/
def Looks (g : Fin 8 → ℝ) (t k : Fin 2048) : Prop :=
  (k.val / 256 < t.val / 256 ∧ rank (past (t.val / 256) g) ⟨k.val / 256, by omega⟩ < 3) ∨ (k.val / 256 = t.val / 256 ∧ k.val ≤ t.val)

theorem looks_self (g : Fin 8 → ℝ) (t : Fin 2048) : Looks g t t := .inr ⟨rfl, le_refl _⟩

theorem exists_top (g : Fin 8 → ℝ) (t : Fin 2048) (S : Fin 2048 → ℝ) : ∃ k0, Looks g t k0 ∧ ∀ k, Looks g t k → S k ≤ S k0 := by
  obtain ⟨k0, h0, hm⟩ := Finset.exists_max_image (Finset.univ.filter (Looks g t)) S
    ⟨t, Finset.mem_filter.mpr ⟨Finset.mem_univ _, looks_self g t⟩⟩
  exact ⟨k0, (Finset.mem_filter.mp h0).2, fun k hk => hm k (Finset.mem_filter.mpr ⟨Finset.mem_univ _, hk⟩)⟩

/-- What a query's softmax over all keys gives. -/
def attend (g : Fin 8 → ℝ) (t : Fin 2048) (S : Fin 2048 → ℝ) (V : Fin 2048 → EReal) : EReal :=
  ∑ k, V k * Ideal.div (Ideal.exp ((if Looks g t k then ((S k * 8⁻¹ : ℝ) : EReal) else ⊥) -
      Finset.univ.sup fun k => if Looks g t k then ((S k * 8⁻¹ : ℝ) : EReal) else ⊥))
    (∑ k', Ideal.exp ((if Looks g t k' then ((S k' * 8⁻¹ : ℝ) : EReal) else ⊥) -
      Finset.univ.sup fun k => if Looks g t k then ((S k * 8⁻¹ : ℝ) : EReal) else ⊥))

/-- The keys beyond the query's block may be left out, and the division left to the end. -/
theorem attend_short (g : Fin 8 → ℝ) (t : Fin 2048) (S : Fin 2048 → ℝ) (V : Fin 2048 → EReal) (k0 : Fin 2048)
    (h0 : Looks g t k0) (hm : ∀ k, Looks g t k → S k ≤ S k0) (N : Nat) (hN : N ≤ 2048) (hN' : N = (t.val / 256 + 1) * 256) :
    attend g t S V = Ideal.div (∑ k : Fin N, V (k.castLE hN) * ((soft (Looks g t) S k0 (k.castLE hN) : ℝ) : EReal))
      (∑ k : Fin N, ((soft (Looks g t) S k0 (k.castLE hN) : ℝ) : EReal)) := by
  have hz : ∀ k : Fin 2048, N ≤ k.val → soft (Looks g t) S k0 k = 0 := by
    intro k hk
    unfold soft
    rw [if_neg]
    rintro (⟨h, -⟩ | ⟨h, -⟩) <;> omega
  rw [sum_short hN (fun k => V k * ((soft (Looks g t) S k0 k : ℝ) : EReal)) fun k hk => by
      rw [hz k hk, EReal.coe_zero, mul_zero],
    sum_short hN (fun k => ((soft (Looks g t) S k0 k : ℝ) : EReal)) fun k hk => by rw [hz k hk, EReal.coe_zero]]
  rw [div_once _ V (soft_nonneg _ S k0)]
  · unfold attend
    simp only [exp_soft (Looks g t) S k0 _ h0 hm]
  · refine Finset.sum_pos' (fun k _ => soft_nonneg _ S k0 k) ⟨k0, Finset.mem_univ _, ?_⟩
    unfold soft
    rw [if_pos h0]
    exact Real.exp_pos _

/-! The same by the block's own columns. -/

/-- A column's masked scores. -/
theorem masked_column (n : Nat) (hn : n < 8) (s : FVec Ideal (SP n) .f32) (b : FVec Ideal S8x512 .f32) (c : Fin 512) (t : Fin 2048)
    (htn : t.val / 256 = n) (hct : c.val % 256 = t.val % 256) (g : Fin 8 → ℝ) (S : Fin 2048 → ℝ)
    (hs : ∀ a : Fin ((n + 1) * 256), (s (ix2 a c) : EReal) = ((factor * S (a.castLE (by omega)) : ℝ) : EReal))
    (hb : ∀ j : Fin 8, (b (ix2 j c) : EReal) = if j.val < n ∧ rank (past n g) j < 3 then 0 else ⊥) (k : Fin ((n + 1) * 256)) :
    masked n hn s b c k = if Looks g t (k.castLE (by omega)) then ((factor * S (k.castLE (by omega)) : ℝ) : EReal) else ⊥ := by
  subst htn
  have hk := k.isLt
  unfold masked
  by_cases h : k.val / 256 < t.val / 256
  · rw [dif_pos h, hs, hb]
    by_cases h3 : rank (past (t.val / 256) g) ⟨k.val / 256, by omega⟩ < 3
    · rw [if_pos ⟨h, h3⟩, if_pos (.inl ⟨h, h3⟩), add_zero]
    · rw [if_neg fun hh => h3 hh.2, if_neg, EReal.add_bot]
      rintro (⟨-, h'⟩ | ⟨h', -⟩)
      · exact h3 h'
      · exact absurd h (by have : k.val / 256 = t.val / 256 := h'; omega)
  · rw [dif_neg h]
    by_cases h3 : k.val % 256 ≤ c.val % 256
    · rw [if_pos h3, if_pos, hs]
      exact .inr ⟨by show k.val / 256 = _; omega, by show k.val ≤ _; omega⟩
    · rw [if_neg h3, if_neg]
      rintro (⟨h', -⟩ | ⟨h', h''⟩)
      · exact h h'
      · have h1 : k.val ≤ t.val := h''
        omega

/-- A column's weights, its greatest score being `k0`'s. -/
theorem weight_column (n : Nat) (hn : n < 8) (s : FVec Ideal (SP n) .f32) (b : FVec Ideal S8x512 .f32) (c : Fin 512) (t : Fin 2048)
    (htn : t.val / 256 = n) (hct : c.val % 256 = t.val % 256) (g : Fin 8 → ℝ) (S : Fin 2048 → ℝ)
    (hs : ∀ a : Fin ((n + 1) * 256), (s (ix2 a c) : EReal) = ((factor * S (a.castLE (by omega)) : ℝ) : EReal))
    (hb : ∀ j : Fin 8, (b (ix2 j c) : EReal) = if j.val < n ∧ rank (past n g) j < 3 then 0 else ⊥) (k0 : Fin 2048) (k : Fin ((n + 1) * 256)) :
    weight n hn s b ((factor * S k0 : ℝ) : EReal) c k = ((soft (Looks g t) S k0 (k.castLE (by omega)) : ℝ) : EReal) := by
  subst htn
  have hk := k.isLt
  unfold weight soft
  by_cases h : k.val / 256 < t.val / 256
  · rw [dif_pos h, hs, hb]
    by_cases h3 : rank (past (t.val / 256) g) ⟨k.val / 256, by omega⟩ < 3
    · rw [if_pos ⟨h, h3⟩, if_pos (.inl ⟨h, h3⟩), sub_zero]; exact exp2_factor _ _
    · rw [if_neg fun hh => h3 hh.2, if_neg, EReal.coe_sub_bot, EReal.sub_top]
      · rfl
      rintro (⟨-, h'⟩ | ⟨h', -⟩)
      · exact h3 h'
      · exact absurd h (by have : k.val / 256 = t.val / 256 := h'; omega)
  · rw [dif_neg h]
    by_cases h3 : k.val % 256 ≤ c.val % 256
    · rw [if_pos h3, if_pos, hs]
      · exact exp2_factor _ _
      exact .inr ⟨by show k.val / 256 = _; omega, by show k.val ≤ _; omega⟩
    · rw [if_neg h3, if_neg, EReal.bot_sub]
      · rfl
      rintro (⟨h', -⟩ | ⟨h', h''⟩)
      · exact h h'
      · have h1 : k.val ≤ t.val := h''
        omega

/-- A product with a stacked query's lanes is the head's own, scaled. -/
theorem dot_query (x : Vec Ideal S1x256x128 .f32) (r : Fin 256) (l : Fin 128) (Q R : Fin 64 → ℝ) (f : Fin 128 → EReal)
    (hx : ∀ d : Fin 64, (x (ix3 0 r ⟨l.val / 64 * 64 + d.val, by omega⟩) : EReal) = (Q d : EReal))
    (hf : ∀ d : Fin 64, f ⟨l.val / 64 * 64 + d.val, by omega⟩ = (R d : EReal)) :
    (∑ l' : Fin 128, f l' * queries x (ix2 ⟨l.val / 64 * 256 + r.val, by omega⟩ l')) = ((factor * ∑ d, Q d * R d : ℝ) : EReal) := by
  have e : ∀ l' : Fin 128, f l' * (queries x (ix2 ⟨l.val / 64 * 256 + r.val, by omega⟩ l') : EReal) =
      if l'.val / 64 = l.val / 64 then f l' * ((x (ix3 0 r l') : EReal) * (factor : EReal)) else 0 := by
    intro l'
    rw [queries_apply]
    have e1 : (l.val / 64 * 256 + r.val) / 256 = l.val / 64 := by omega
    have e2 : (⟨(l.val / 64 * 256 + r.val) % 256, Nat.mod_lt _ (by omega)⟩ : Fin 256) = r :=
      Fin.ext (by show (l.val / 64 * 256 + r.val) % 256 = r.val; omega)
    simp only [e1, e2]
    by_cases h : l'.val / 64 = l.val / 64
    · rw [if_pos h, if_pos h]
    · rw [if_neg h, if_neg h, mul_zero]
  rw [Finset.sum_congr rfl fun l' _ => e l',
    sum_head (l.val / 64) (by omega) fun l' => f l' * ((x (ix3 0 r l') : EReal) * (factor : EReal))]
  simp only [hx, hf]
  rw [Finset.mul_sum, ← coe_sum]
  refine Finset.sum_congr rfl fun d _ => ?_
  rw [← EReal.coe_mul, ← EReal.coe_mul]
  exact congrArg _ (by ring)

/-- A query's gates of the blocks before its own. -/
theorem gates_query (n : Nat) (hn : n < 8) (x : Vec Ideal S1x256x128 .f32) (km : Vec Ideal S1x8x128 .f32) (r : Fin 256) (l : Fin 128)
    (Q : Fin 64 → ℝ) (KM : Fin 8 → Fin 64 → ℝ)
    (hx : ∀ d : Fin 64, (x (ix3 0 r ⟨l.val / 64 * 64 + d.val, by omega⟩) : EReal) = (Q d : EReal))
    (hkm : ∀ (j : Fin 8) (d : Fin 64), (km (ix3 0 j ⟨l.val / 64 * 64 + d.val, by omega⟩) : EReal) = (KM j d : EReal)) (j : Fin 8) :
    (gates n (queries x) km (ix2 j ⟨l.val / 64 * 256 + r.val, by omega⟩) : EReal) = past n (fun j => factor * ∑ d, Q d * KM j d) j := by
  rw [gates_apply n hn]
  unfold past
  by_cases h : j.val < n
  · rw [if_pos h, if_pos h,
      dot_query x r l Q (KM j) (fun l' => km (ix3 0 j l')) hx (hkm j),
      dot_query x r l Q (fun _ => 0) (fun l' => (km (ix3 0 j l') : EReal) - km (ix3 0 j l')) hx fun d => by
        rw [hkm, ← EReal.coe_sub, sub_self],
      dot_query x r l Q (fun _ => 0) (fun l' => (km (ix3 0 j l') : EReal) - km (ix3 0 j l') - (km (ix3 0 j l') - km (ix3 0 j l'))) hx fun d => by
        rw [hkm, ← EReal.coe_sub, sub_self, ← EReal.coe_sub, sub_self]]
    simp
  · rw [if_neg h, if_neg h]

/-- What a group stores is the attention of its query. -/
theorem group_attend (t : Fin 2048) (n : Nat) (hn : n < 8) (r : Fin 256) (ht : t.val = n * 256 + r.val) (l : Fin 128)
    (x : Vec Ideal S1x256x128 .f32) (k v : Vec Ideal (SK1 n) .bf16) (km : Vec Ideal S1x8x128 .f32)
    (Q : Fin 64 → ℝ) (K : Fin 2048 → Fin 64 → ℝ) (KM : Fin 8 → Fin 64 → ℝ) (V : Fin 2048 → EReal)
    (hx : ∀ d : Fin 64, (x (ix3 0 r ⟨l.val / 64 * 64 + d.val, by omega⟩) : EReal) = (Q d : EReal))
    (hk : ∀ (a : Fin ((n + 1) * 256)) (d : Fin 64),
      (k (ix3 0 a ⟨l.val / 64 * 64 + d.val, by omega⟩) : EReal) = (K (a.castLE (by omega)) d : EReal))
    (hkm : ∀ (j : Fin 8) (d : Fin 64), (km (ix3 0 j ⟨l.val / 64 * 64 + d.val, by omega⟩) : EReal) = (KM j d : EReal))
    (hv : ∀ a : Fin ((n + 1) * 256), (v (ix3 0 a l) : EReal) = V (a.castLE (by omega))) :
    (group n hn x k v km (ix3 0 r l) : EReal) = attend (fun j => ∑ d, Q d * KM j d) t (fun k => ∑ d, Q d * K k d) V := by
  have htn : t.val / 256 = n := by omega
  have hct : (⟨l.val / 64 * 256 + r.val, by omega⟩ : Fin 512).val % 256 = t.val % 256 := by
    show (l.val / 64 * 256 + r.val) % 256 = _; omega
  have hs : ∀ a : Fin ((n + 1) * 256), (scores n (queries x) k (ix2 a ⟨l.val / 64 * 256 + r.val, by omega⟩) : EReal) =
      ((factor * ∑ d, Q d * K (a.castLE (by omega)) d : ℝ) : EReal) := by
    intro a
    rw [scores_apply]
    exact dot_query x r l Q (K (a.castLE (by omega))) (fun l' => k (ix3 0 a l')) hx (hk a)
  have hb : ∀ j : Fin 8, (masks (gates n (queries x) km) n (Nat.le_of_lt hn) (ix2 j ⟨l.val / 64 * 256 + r.val, by omega⟩) : EReal) =
      if j.val < n ∧ rank (past n fun j => ∑ d, Q d * KM j d) j < 3 then 0 else ⊥ := by
    intro j
    rw [masks_apply, funext (gates_query n hn x km r l Q KM hx hkm), rank_scale n _ factor factor_pos]
  obtain ⟨k0, h0, hm⟩ := exists_top (fun j => ∑ d, Q d * KM j d) t (fun k => ∑ d, Q d * K k d)
  have hk0 : k0.val < (n + 1) * 256 := by rcases h0 with ⟨h, -⟩ | ⟨h, -⟩ <;> omega
  rw [attend_short _ t _ V k0 h0 hm ((n + 1) * 256) (by omega) (by rw [htn])]
  unfold group
  rw [unstack_apply, mixed_apply]
  generalize scores n (queries x) k = s at hs ⊢
  generalize masks (gates n (queries x) km) n (Nat.le_of_lt hn) = b at hb ⊢
  have htop : (top n hn s b (ix2 0 ⟨l.val / 64 * 256 + r.val, by omega⟩) : EReal) = ((factor * ∑ d, Q d * K k0 d : ℝ) : EReal) := by
    rw [top_apply n hn s b _ fun j => by
      rw [hb]
      by_cases h : j.val < n ∧ rank (past n fun j => ∑ d, Q d * KM j d) j < 3
      · exact .inl (if_pos h)
      · exact .inr (if_neg h),
      funext (masked_column n hn s b _ t htn hct _ (fun k => ∑ d, Q d * K k d) hs hb)]
    exact sup_seen (fun k : Fin ((n + 1) * 256) => Looks _ t (k.castLE _)) (fun k => factor * ∑ d, Q d * K (k.castLE _) d) ⟨k0.val, hk0⟩ h0
      fun k h => mul_le_mul_of_nonneg_left (hm _ h) factor_pos.le
  simp only [weights_apply, htop, weight_column n hn s b _ t htn hct _ (fun k => ∑ d, Q d * K k d) hs hb k0, hv]

end Cert.MobaVal
end
-- ==== Proof.Moba.Run.lean ====
module

public import proofs.«01_k».proof.Proof.Moba.Block
public import proofs.«01_k».proof.Proof.Moba.Math

@[expose] public section

noncomputable section

/-! The result array of the attention as one function of its argument arrays. -/

namespace Cert.MobaVal

open Cert.MobaIdeal Cert.MobaIdeal.Gen Cert.MobaIdeal.Value Idealize.ShloMosaic Idealize.ShloMosaic.TcCoe Idealize.SL.Sem

variable (m : (ℓ : Loc nD τ sig) → Buf (Elt Ideal) ℓ)

/-! The arrays the windows stage, after the host's conversions, reshapes and block means. -/

set_option maxRecDepth 16384 in
theorem V_q (c : Dev nD) (b : Fin 16) (s : Fin 2048) (l : Fin 512) : V m c main_v6 (ix3 b s l) =
    m ((c : Thread nD τ).loc main_arg0) (ix4 b s ⟨l.val / 64, by omega⟩ ⟨l.val % 64, by omega⟩) := by
  unfold V hostOps0; after_results_simp; pointwise []

set_option maxRecDepth 16384 in
theorem V_k (c : Dev nD) (b : Fin 16) (s : Fin 2048) (l : Fin 512) : V m c main_v7 (ix3 b s l) =
    m ((c : Thread nD τ).loc main_arg1) (ix4 b s ⟨l.val / 64, by omega⟩ ⟨l.val % 64, by omega⟩) := by
  unfold V hostOps0; after_results_simp; pointwise []

set_option maxRecDepth 16384 in
theorem V_v (c : Dev nD) (b : Fin 16) (s : Fin 2048) (l : Fin 512) : V m c main_v8 (ix3 b s l) =
    m ((c : Thread nD τ).loc main_arg2) (ix4 b s ⟨l.val / 64, by omega⟩ ⟨l.val % 64, by omega⟩) := by
  unfold V hostOps0; after_results_simp; pointwise []

/-- The mean of a block of keys. -/
def meanAt (x1 : Vec Ideal S16x2048x8x64 .f32) (b : Fin 16) (h : Fin 8) (j : Fin 8) (d : Fin 64) : EReal :=
  Ideal.div (∑ r : Fin 256, (x1 (ix4 b ⟨j.val * 256 + r.val, by omega⟩ h d) : EReal)) (Ideal.ofBits FTy.f32 1132462080#32)

set_option maxRecDepth 16384 in
theorem V_mean (c : Dev nD) (b : Fin 16) (j : Fin 8) (l : Fin 512) : V m c main_v3 (ix3 b j l) =
    meanAt (m ((c : Thread nD τ).loc main_arg1)) b ⟨l.val / 64, by omega⟩ j ⟨l.val % 64, by omega⟩ := by
  unfold V hostOps0; after_results_simp; unfold meanAt; pointwise []

/-- The block indices at grid point `t`. -/
theorem idx_facts : ∀ t : Fin cfg0.N,
    (win0_0.index t (0 : Fin 3) = t.val / 2 ∧ win0_0.index t (1 : Fin 3) = t.val % 2 ∧ win0_0.index t (2 : Fin 3) = 0) ∧
    (win0_1.index t (0 : Fin 3) = t.val / 2 ∧ win0_1.index t (1 : Fin 3) = 0 ∧ win0_1.index t (2 : Fin 3) = 0) ∧
    (win0_2.index t (0 : Fin 3) = t.val / 2 ∧ win0_2.index t (1 : Fin 3) = 0 ∧ win0_2.index t (2 : Fin 3) = 0) ∧
    (win0_3.index t (0 : Fin 3) = t.val / 2 ∧ win0_3.index t (1 : Fin 3) = 0 ∧ win0_3.index t (2 : Fin 3) = 0) ∧
    (win0_4.index t (0 : Fin 3) = t.val / 2 ∧ win0_4.index t (1 : Fin 3) = t.val % 2 ∧ win0_4.index t (2 : Fin 3) = 0) :=
  (by decide +kernel : ∀ t : Fin grid0.N, _)

theorem covers : win0_4.Covers := by decide +kernel

theorem point_lt (t : Fin cfg0.N) : t.val < 32 := t.isLt

/-- A window whose block is `n` rows at row `n * t`: its index maps, as numbers. -/
theorem rows_at {t k n : Nat} (i : Nat) (h : i = t) : i * n + 1 * k = t * n + k := by subst h; omega

theorem unit_at {t : Nat} (i : Nat) (h : i = t) : i * 1 + 1 * 0 = t := by subst h; omega

theorem here {k n : Nat} (i : Nat) (h : i = 0) : i * n + 1 * k = k := by subst h; omega

theorem emb_q (t : Fin cfg0.N) (r : Fin 1024) (l : Fin 512) : ((cfg0.win 0).blk t).view.emb (ix3 0 r l : S1x1024x512.Idx) =
    (ix3 ⟨t.val / 2, by have := point_lt t; omega⟩ ⟨t.val % 2 * 1024 + r.val, by omega⟩ l : S16x2048x512.Idx) := by
  obtain ⟨e0, e1, e2⟩ := (idx_facts t).1
  funext a; apply Fin.ext
  match a with
  | ⟨0, _⟩ => exact unit_at (win0_0.index t (0 : Fin 3)) e0
  | ⟨1, _⟩ => exact rows_at (k := r.val) (win0_0.index t (1 : Fin 3)) e1
  | ⟨2, _⟩ => exact here (k := l.val) (win0_0.index t (2 : Fin 3)) e2

theorem emb_k (t : Fin cfg0.N) (r : Fin 2048) (l : Fin 512) : ((cfg0.win 1).blk t).view.emb (ix3 0 r l : S1x2048x512.Idx) =
    (ix3 ⟨t.val / 2, by have := point_lt t; omega⟩ r l : S16x2048x512.Idx) := by
  obtain ⟨e0, e1, e2⟩ := (idx_facts t).2.1
  funext a; apply Fin.ext
  match a with
  | ⟨0, _⟩ => exact unit_at (win0_1.index t (0 : Fin 3)) e0
  | ⟨1, _⟩ => exact here (k := r.val) (win0_1.index t (1 : Fin 3)) e1
  | ⟨2, _⟩ => exact here (k := l.val) (win0_1.index t (2 : Fin 3)) e2

theorem emb_v (t : Fin cfg0.N) (r : Fin 2048) (l : Fin 512) : ((cfg0.win 2).blk t).view.emb (ix3 0 r l : S1x2048x512.Idx) =
    (ix3 ⟨t.val / 2, by have := point_lt t; omega⟩ r l : S16x2048x512.Idx) := by
  obtain ⟨e0, e1, e2⟩ := (idx_facts t).2.2.1
  funext a; apply Fin.ext
  match a with
  | ⟨0, _⟩ => exact unit_at (win0_2.index t (0 : Fin 3)) e0
  | ⟨1, _⟩ => exact here (k := r.val) (win0_2.index t (1 : Fin 3)) e1
  | ⟨2, _⟩ => exact here (k := l.val) (win0_2.index t (2 : Fin 3)) e2

theorem emb_mean (t : Fin cfg0.N) (j : Fin 8) (l : Fin 512) : ((cfg0.win 3).blk t).view.emb (ix3 0 j l : S1x8x512.Idx) =
    (ix3 ⟨t.val / 2, by have := point_lt t; omega⟩ j l : S16x8x512.Idx) := by
  obtain ⟨e0, e1, e2⟩ := (idx_facts t).2.2.2.1
  funext a; apply Fin.ext
  match a with
  | ⟨0, _⟩ => exact unit_at (win0_3.index t (0 : Fin 3)) e0
  | ⟨1, _⟩ => exact here (k := j.val) (win0_3.index t (1 : Fin 3)) e1
  | ⟨2, _⟩ => exact here (k := l.val) (win0_3.index t (2 : Fin 3)) e2

theorem emb_out (t : Fin cfg0.N) (r : Fin 1024) (l : Fin 512) : ((cfg0.win 4).blk t).view.emb (ix3 0 r l : S1x1024x512.Idx) =
    (ix3 ⟨t.val / 2, by have := point_lt t; omega⟩ ⟨t.val % 2 * 1024 + r.val, by omega⟩ l : S16x2048x512.Idx) := by
  obtain ⟨e0, e1, e2⟩ := (idx_facts t).2.2.2.2
  funext a; apply Fin.ext
  match a with
  | ⟨0, _⟩ => exact unit_at (win0_4.index t (0 : Fin 3)) e0
  | ⟨1, _⟩ => exact rows_at (k := r.val) (win0_4.index t (1 : Fin 3)) e1
  | ⟨2, _⟩ => exact here (k := l.val) (win0_4.index t (2 : Fin 3)) e2

end Cert.MobaVal
end
-- ==== Proof.Moba.Ref.lean ====
module

public import proofs.«01_k».proof.Proof.Gen.MobaRefIdeal.Read
public import proofs.«01_k».proof.Proof.Moba.Rank
public import proofs.«01_k».proof.Defs

@[expose] public section

noncomputable section

namespace Cert.MobaVal

open scoped Classical
open Cert.MobaRefIdeal Cert.MobaRefIdeal.Gen Cert.MobaRefIdeal.Read Idealize.ShloMosaic Idealize.SL.Sem

theorem own_bits (t : Fin 2048) : Scalar.select
      (IntOp.andi
        (IntOp.cmpi CmpIPredicate.ne
          (if BitVec.ofNat 32 ↑t = 0 then (0 : BitVec 32) else if (BitVec.ofNat 32 ↑t).msb = true then -1 else 1)
          (if (256#32 : BitVec 32) = 0 then 0 else if BitVec.msb 256#32 = true then -1 else 1))
        (IntOp.cmpi CmpIPredicate.ne (IntOp.remsi ArithUnit.host (BitVec.ofNat 32 ↑t) 256#32) 0#32))
      (IntOp.subi (IntOp.divsi ArithUnit.host (BitVec.ofNat 32 ↑t) 256#32) 1#32)
      (IntOp.divsi ArithUnit.host (BitVec.ofNat 32 ↑t) 256#32) = BitVec.ofNat 32 (t.val / 256) := by
  revert t; decide +kernel

set_option maxRecDepth 16384 in
theorem ref_own (t : Fin 2048) : val_main_v6 (F := Ideal) (ix1 t) = BitVec.ofNat 32 (t.val / 256) := by
  unfold val_main_v6 val_main_call0_v13 val_main_call0_v12 val_main_call0_c_0 val_main_call0_v11 val_main_call0_v10 val_main_call0_v9 val_main_call0_c val_main_call0_v8 val_main_call0_v7 val_main_call0_v6 val_main_call0_v5 val_main_call0_v4 val_main_call0_v3 val_main_call0_v2 val_main_call0_v1 val_main_call0_v0 val_main_c val_main_v5
  pointwise []
  exact own_bits t

/-- A block's mean key. -/
def meanKey (x1 : Vec Ideal S16x2048x8x64 .f32) (b : Fin 16) (h : Fin 8) (j : Fin 8) (d : Fin 64) : EReal :=
  Ideal.div (∑ r : Fin 256, (x1 (ix4 b ⟨j.val * 256 + r.val, by omega⟩ h d) : EReal)) (Ideal.ofBits FTy.f32 1132462080#32)

/-- A query's gate of a block, the blocks from its own on masked. -/
def gateOf (x0 x1 : Vec Ideal S16x2048x8x64 .f32) (b : Fin 16) (h : Fin 8) (t : Fin 2048) (j : Fin 8) : EReal :=
  if j.val < t.val / 256 then ∑ d : Fin 64, (x0 (ix4 b t h d) : EReal) * meanKey x1 b h j d else ⊥

set_option maxRecDepth 16384 in
theorem ref_gate (x0 x1 : Vec Ideal S16x2048x8x64 .f32) (b : Fin 16) (h : Fin 8) (t : Fin 2048) (j : Fin 8) :
   val_main_v13 (F := Ideal) x0 x1 (ix4 b h t j) = gateOf x0 x1 b h t j := by
  have hh := ref_own
  unfold val_main_v13 val_main_call1_v2 val_main_call1_v1 val_main_call1_v0 val_main_cst_1 val_main_v12 val_main_v11 val_main_v10 val_main_v9 val_main_v8 val_main_v7 val_main_v4 val_main_v3 val_main_v2 val_main_cst_0 val_main_v1 val_main_cst val_main_v0
  generalize val_main_v6 (F := Ideal) = y at hh ⊢
  pointwise []
  rw [hh, slt_small _ _ (by omega) (by omega), select_ofBool]
  unfold gateOf meanKey
  congr 1

theorem along_ix4 (b : Fin 16) (h : Fin 8) (t : Fin 2048) (i k : Fin 8) :
    Shape.Idx.along (s := S16x8x2048x8) (ix4 b h t i) 3 k = ix4 b h t k := by
  funext a
  match a with
  | 0 => rfl
  | 1 => rfl
  | 2 => rfl
  | 3 => rfl

/-- The positions of a row's first three in the stable descending order. -/
theorem topK_positions (y : FVec Ideal S16x8x2048x8 .f32) (hs : S16x8x2048x8.Slices (fun _ => 0) S16x8x2048x3)
    (b : Fin 16) (h : Fin 8) (t : Fin 2048) (i : Fin 3) :
    (Host.topK S16x8x2048x3 3 (FloatOps.cmpfTotal (F := Ideal) (φ := .f32) .gt) y hs).2 (ix4 b h t i) =
      BitVec.ofNat 32 (sortedFrom (fun x x' : Fin 8 => decide ((y (ix4 b h t x') : EReal) < y (ix4 b h t x))) (i.castLE (by omega))).val := by
  have e : (fun x x' : Fin 8 => FloatOps.cmpfTotal (F := Ideal) (φ := .f32) .gt (y (Shape.Idx.along (s := S16x8x2048x8) (ix4 b h t (i.castLE (by omega))) 3 x))
      (y (Shape.Idx.along (s := S16x8x2048x8) (ix4 b h t (i.castLE (by omega))) 3 x')) == 1#1) =
      fun x x' : Fin 8 => decide ((y (ix4 b h t x') : EReal) < y (ix4 b h t x)) := by
    funext x x'
    rw [along_ix4, along_ix4]
    by_cases hl : (y (ix4 b h t x') : EReal) < y (ix4 b h t x)
    · rw [decide_eq_true hl]
      show (BitVec.ofBool (decide _) == 1#1) = true
      rw [decide_eq_true hl]; rfl
    · rw [decide_eq_false hl]
      show (BitVec.ofBool (decide _) == 1#1) = false
      rw [decide_eq_false hl]; rfl
  have hi : ∀ hl : ∀ a : Fin S16x8x2048x8.rank, 0 + (ix4 b h t i (Fin.cast hs.1 a)).val < S16x8x2048x8.size a, (Shape.Idx.norm fun a => ⟨0 + (ix4 b h t i (Fin.cast hs.1 a)).val, hl a⟩ : S16x8x2048x8.Idx) = ix4 b h t (i.castLE (by omega)) := by
    intro hl
    funext a
    match a with
    | 0 => exact Fin.ext (Nat.zero_add _)
    | 1 => exact Fin.ext (Nat.zero_add _)
    | 2 => exact Fin.ext (Nat.zero_add _)
    | 3 => exact Fin.ext (Nat.zero_add _)
  rw [← e]
  unfold Host.topK Host.sort2
  simp only [Pointwise.extractStridedSlice_apply]
  rw [hi]
  rfl

theorem ref_indices (x0 x1 : Vec Ideal S16x2048x8x64 .f32) (b : Fin 16) (h : Fin 8) (t : Fin 2048) (i : Fin 3) :
    val_main_indices (F := Ideal) x0 x1 (ix4 b h t i) =
      BitVec.ofNat 32 (sortedFrom (fun x y : Fin 8 => decide (gateOf x0 x1 b h t y < gateOf x0 x1 b h t x)) (i.castLE (by omega))).val := by
  refine (topK_positions (val_main_v13 (F := Ideal) x0 x1) _ b h t i).trans ?_
  simp only [ref_gate]

theorem fold_or {m : Nat} (p : Fin m → Prop) [DecidablePred p] (s : Finset (Fin m)) :
    Finset.fold IntOp.ori (0#1) (fun x => BitVec.ofBool (decide (p x))) s = BitVec.ofBool (decide (∃ x ∈ s, p x)) := by
  classical
  induction s using Finset.induction_on with
  | empty => simp
  | insert a s ha ih =>
    rw [Finset.fold_insert ha, ih]
    by_cases h1 : p a <;> by_cases h2 : ∃ x ∈ s, p x <;> simp [IntOp.ori, h1, h2]

/-- A query's chosen blocks: the earlier ones with fewer than three gates ahead. -/
def Chosen (x0 x1 : Vec Ideal S16x2048x8x64 .f32) (b : Fin 16) (h : Fin 8) (t : Fin 2048) (j : Fin 8) : Prop :=
  j.val < t.val / 256 ∧ rank (gateOf x0 x1 b h t) j < 3

set_option maxRecDepth 16384 in
theorem ref_chosen (x0 x1 : Vec Ideal S16x2048x8x64 .f32) (b : Fin 16) (h : Fin 8) (t : Fin 2048) (j : Fin 8) :
   val_main_v26 (F := Ideal) x0 x1 (ix4 b h t j) = BitVec.ofBool (decide (Chosen x0 x1 b h t j)) := by
  have hh := ref_own
  have hi := ref_indices x0 x1
  unfold val_main_v26 val_main_v25 val_main_v24 val_main_v23 val_main_v22 val_main_v21 val_main_v20 val_main_v19 val_main_v18 val_main_v17 val_main_v16 val_main_v15 val_main_v14 val_main_v4 val_main_c_2
  generalize val_main_v6 (F := Ideal) = y at hh ⊢
  generalize val_main_indices (F := Ideal) x0 x1 = z at hi ⊢
  pointwise []
  rw [hh]
  have e : (fun x : Fin 3 => IntOp.andi (IntOp.cmpi CmpIPredicate.eq (z (ix4 b h t x)) (BitVec.ofNat 32 j.val))
      (IntOp.cmpi CmpIPredicate.slt (z (ix4 b h t x)) (BitVec.ofNat 32 (t.val / 256)))) =
      fun x : Fin 3 => BitVec.ofBool (decide (sortedFrom (fun x y : Fin 8 => decide (gateOf x0 x1 b h t y < gateOf x0 x1 b h t x)) (x.castLE (by omega)) = j ∧
        j.val < t.val / 256)) := by
    funext x
    rw [hi]
    generalize sortedFrom (fun x y : Fin 8 => decide (gateOf x0 x1 b h t y < gateOf x0 x1 b h t x)) (x.castLE (by omega)) = p
    rw [eq_small _ _ (by omega) (by omega), slt_small _ _ (by omega) (by omega)]
    by_cases h1 : p = j
    · subst h1
      by_cases h2 : p.val < t.val / 256 <;> simp [h2, IntOp.andi]
    · have h1' : ¬ p.val = j.val := fun e => h1 (Fin.ext e)
      by_cases h2 : p.val < t.val / 256 <;> simp [h1, h1', h2, IntOp.andi]
  rw [e, fold_or]
  refine congrArg BitVec.ofBool (decide_eq_decide.2 ?_)
  rw [Chosen, ← first_iff (gateOf x0 x1 b h t) 3 (by omega) j]
  exact ⟨fun ⟨x, _, h1, h2⟩ => ⟨h2, x, h1⟩, fun ⟨h2, x, h1⟩ => ⟨x, Finset.mem_univ _, h1, h2⟩⟩

/-- The keys a query sees: its chosen blocks' and those of its own block up to itself. -/
def Seen (x0 x1 : Vec Ideal S16x2048x8x64 .f32) (b : Fin 16) (h : Fin 8) (t k : Fin 2048) : Prop :=
  Chosen x0 x1 b h t ⟨k.val / 256, by omega⟩ ∨ (k.val / 256 = t.val / 256 ∧ k.val ≤ t.val)

set_option maxRecDepth 16384 in
theorem ref_allowed (x0 x1 : Vec Ideal S16x2048x8x64 .f32) (b : Fin 16) (h : Fin 8) (t : Fin 2048) (k : Fin 2048) :
   val_main_v46 (F := Ideal) x0 x1 (ix4 b h t k) = BitVec.ofBool (decide (Seen x0 x1 b h t k)) := by
  have hh := ref_own
  have hi := ref_chosen x0 x1
  unfold val_main_v46 val_main_v45 val_main_v44 val_main_v40 val_main_v39 val_main_v38 val_main_v37 val_main_v36 val_main_v35 val_main_v34 val_main_v33 val_main_v32 val_main_v31 val_main_v30 val_main_v29 val_main_v28 val_main_v27 val_main_v5
  generalize val_main_v6 (F := Ideal) = y at hh ⊢
  generalize val_main_v26 (F := Ideal) x0 x1 = z at hi ⊢
  pointwise []
  rw [hi, hh, hh, eq_small _ _ (by omega) (by omega), sle_small _ _ (by omega) (by omega)]
  unfold Seen
  generalize Chosen x0 x1 b h t ⟨k.val / 256, _⟩ = P
  by_cases h1 : P <;> by_cases h2 : k.val / 256 = t.val / 256 <;>
    by_cases h3 : k.val ≤ t.val <;> simp [IntOp.ori, IntOp.andi, h1, h2, h3]

theorem eighth_bits : Ideal.ofBits FTy.f32 1040187392#32 = (((8 : ℝ)⁻¹ : ℝ) : EReal) := by
  simp [Ideal.ofBits, Ideal.ieee, -EReal.coe_mul]; norm_num

/-- A key's logit, nothing where it is not seen. -/
def logitOf (x0 x1 : Vec Ideal S16x2048x8x64 .f32) (b : Fin 16) (h : Fin 8) (t k : Fin 2048) : EReal :=
  if Seen x0 x1 b h t k then (∑ d : Fin 64, (x0 (ix4 b t h d) : EReal) * x1 (ix4 b k h d)) * (((8 : ℝ)⁻¹ : ℝ) : EReal) else ⊥

set_option maxRecDepth 16384 in
theorem ref_logit (x0 x1 : Vec Ideal S16x2048x8x64 .f32) (b : Fin 16) (h : Fin 8) (t : Fin 2048) (k : Fin 2048) :
   val_main_v47 (F := Ideal) x0 x1 (ix4 b h t k) = logitOf x0 x1 b h t k := by
  have hi := ref_allowed x0 x1
  unfold val_main_v47 val_main_call2_v1 val_main_call2_v0 val_main_cst_4 val_main_v43 val_main_v42 val_main_v41 val_main_cst_3
  generalize val_main_v46 (F := Ideal) x0 x1 = z at hi ⊢
  pointwise []
  rw [hi, select_ofBool, eighth_bits]
  unfold logitOf
  congr 1

theorem hostMax {n0 n1 n2 n3 : Nat} (x : (⟨4, ![n0, n1, n2, n3]⟩ : Shape).Idx → EReal) (init : S_.Idx → EReal)
    (hr : (⟨4, ![n0, n1, n2, n3]⟩ : Shape).ReducesTo [3] ⟨3, ![n0, n1, n2]⟩) (hu : 0 < S_.numel) (b : Fin n0) (h : Fin n1) (t : Fin n2) :
    Host.reduce (FloatOps.maximumf (F := Ideal) (φ := .f32)) x init hr hu (ix3 b h t) =
      Finset.fold max (init (Shape.Idx.first hu)) (fun k : Fin n3 => x (ix4 b h t k)) Finset.univ := by
  rw [Host.reduce_eq_fold]
  exact hr.fold_fiber_r4_a3 (ix3 b h t) max _ x

theorem ref_top (x0 x1 : Vec Ideal S16x2048x8x64 .f32) (L : Fin 16 → Fin 8 → Fin 2048 → Fin 2048 → EReal)
    (hi : ∀ b h t k, val_main_v47 (F := Ideal) x0 x1 (ix4 b h t k) = L b h t k) (b : Fin 16) (h : Fin 8) (t : Fin 2048) :
    (val_main_v50 (F := Ideal) x0 x1 (ix3 b h t) : EReal) = Finset.univ.sup (L b h t) := by
  rw [val_main_v50_apply, val_main_v49_apply, val_main_cst_6_apply]
  have e : (val_main_v48 (F := Ideal) x0 x1 (ix3 b h t) : EReal) = Finset.fold max ⊥ (fun k => L b h t k) Finset.univ := by
    refine (hostMax (val_main_v47 (F := Ideal) x0 x1) (val_main_cst_5 (F := Ideal)) reducesTo_S16x8x2048x2048_S16x8x2048_d3 h_S_ b h t).trans ?_
    rw [val_main_cst_5_apply]
    simp only [hi]
    exact congrArg (fun z => Finset.fold max z (fun k => L b h t k) Finset.univ) negInf_bits
  rw [e]
  show max (Ideal.ofBits FTy.f32 4286578688#32) _ = _
  rw [negInf_bits, bot_sup_eq]
  rfl

theorem idx_top (b : Fin 16) (h : Fin 8) (t k : Fin 2048) : idx_main_v51 (idx_main_v52 (ix4 b h t k)) = ix3 b h t := by
  funext a
  match a with
  | 0 => rfl
  | 1 => rfl
  | 2 => rfl

theorem ref_exp (x0 x1 : Vec Ideal S16x2048x8x64 .f32) (L : Fin 16 → Fin 8 → Fin 2048 → Fin 2048 → EReal)
    (hi : ∀ b h t k, val_main_v47 (F := Ideal) x0 x1 (ix4 b h t k) = L b h t k) (b : Fin 16) (h : Fin 8) (t : Fin 2048) (k : Fin 2048) :
    (val_main_v54 (F := Ideal) x0 x1 (ix4 b h t k) : EReal) = Ideal.exp (L b h t k - Finset.univ.sup (L b h t)) := by
  rw [val_main_v54_apply, val_main_v53_apply, val_main_v52_apply, val_main_v51_apply, idx_top, hi, ref_top x0 x1 L hi]
  rfl

set_option maxRecDepth 16384 in
theorem ref_mix (x0 x1 x2 : Vec Ideal S16x2048x8x64 .f32) (e : Fin 16 → Fin 8 → Fin 2048 → Fin 2048 → EReal)
    (hi : ∀ b h t k, (val_main_v54 (F := Ideal) x0 x1 (ix4 b h t k) : EReal) = e b h t k) (b : Fin 16) (t : Fin 2048) (l : Fin 512) :
    (val_main_v62 (F := Ideal) x0 x1 x2 (ix3 b t l) : EReal) = ∑ k, (x2 (ix4 b k ⟨l.val / 64, by omega⟩ ⟨l.val % 64, by omega⟩) : EReal) *
        Ideal.div (e b ⟨l.val / 64, by omega⟩ t k) (∑ k', e b ⟨l.val / 64, by omega⟩ t k') := by
  unfold val_main_v62 val_main_v61 val_main_v60 val_main_v59 val_main_v58 val_main_v57 val_main_v56 val_main_v55 val_main_cst_7
  generalize val_main_v54 (F := Ideal) x0 x1 = z at hi ⊢
  pointwise []
  simp only [hi]

/-- The reference's output: the values under the softmax of the logits. -/
theorem ref_out (x0 x1 x2 : Vec Ideal S16x2048x8x64 .f32) (b : Fin 16) (t : Fin 2048) (l : Fin 512) :
    (val_main_v62 (F := Ideal) x0 x1 x2 (ix3 b t l) : EReal) = ∑ k, (x2 (ix4 b k ⟨l.val / 64, by omega⟩ ⟨l.val % 64, by omega⟩) : EReal) *
      Ideal.div (Ideal.exp (logitOf x0 x1 b ⟨l.val / 64, by omega⟩ t k - Finset.univ.sup (logitOf x0 x1 b ⟨l.val / 64, by omega⟩ t)))
        (∑ k', Ideal.exp (logitOf x0 x1 b ⟨l.val / 64, by omega⟩ t k' - Finset.univ.sup (logitOf x0 x1 b ⟨l.val / 64, by omega⟩ t))) :=
  ref_mix x0 x1 x2 _ (ref_exp x0 x1 (logitOf x0 x1) (ref_logit x0 x1)) b t l

end Cert.MobaVal
-- ==== Proof.Moba.Result.lean ====
module

public import proofs.«01_k».proof.Proof.Moba.Run
public import proofs.«01_k».proof.Proof.Moba.Ref
public import proofs.«01_k».proof.Proof.Gen.MobaRefIdeal.Run

@[expose] public section

noncomputable section

/-! The attention's result array and the reference's, on queries and keys that are numbers. -/

namespace Cert.MobaVal

open Cert.MobaIdeal Cert.MobaIdeal.Gen Cert.MobaIdeal.Value Idealize.ShloMosaic Idealize.ShloMosaic.TcCoe Idealize.SL.Sem

/-! ## Numbers -/

theorem inf_bits : Ideal.ofBits FTy.f32 2139095040#32 = ⊤ := by simp [Ideal.ofBits, Ideal.ieee]

theorem real_of_abs (x : EReal) (h : max x (-x) < ⊤) : ((x.toReal : ℝ) : EReal) = x := by
  refine EReal.coe_toReal (fun e => ?_) (fun e => ?_)
  · rw [e] at h; simp at h
  · rw [e] at h; simp at h

theorem finite_facts : Cert.Pre_finite.Facts := ⟨by decide⟩

attribute [local instance] finite_facts

set_option maxRecDepth 16384 in
/-- What the precondition says of queries and keys. -/
theorem finite_real (x0 x1 x2 : Vec Ideal S16x2048x8x64 .f32)
    (h : (Cert.Pre_finite.fn (F := Ideal) x0 x1 x2).1 = (fun _ => 1#1) ∧ (Cert.Pre_finite.fn (F := Ideal) x0 x1 x2).2 = (fun _ => 1#1))
    (b : Fin 16) (s : Fin 2048) (n : Fin 8) (d : Fin 64) :
    (((x0 (ix4 b s n d) : EReal).toReal : ℝ) : EReal) = x0 (ix4 b s n d) ∧
      (((x1 (ix4 b s n d) : EReal).toReal : ℝ) : EReal) = x1 (ix4 b s n d) := by
  have h0 := congrFun h.1 (ix4 b s n d)
  have h1 := congrFun h.2 (ix4 b s n d)
  unfold Cert.Pre_finite.fn at h0 h1
  dsimp only at h0 h1
  have e (x : Vec Ideal S16x2048x8x64 .f32) : cmpf .olt (Host.absf x) (broadcastInDim S16x2048x8x64 ![]
      Cert.Pre_finite.Facts.bcast_S_S16x2048x8x64 (constant (F := Ideal) Cert.Pre_finite.S_ .f32 0x7F800000#32)) (ix4 b s n d) =
      BitVec.ofBool (decide (max (x (ix4 b s n d) : EReal) (-(x (ix4 b s n d) : EReal)) < Ideal.ofBits FTy.f32 2139095040#32)) := by
    pointwise []
    rfl
  have key (x : Vec Ideal S16x2048x8x64 .f32) (hx : cmpf .olt (Host.absf x) (broadcastInDim S16x2048x8x64 ![]
      Cert.Pre_finite.Facts.bcast_S_S16x2048x8x64 (constant (F := Ideal) Cert.Pre_finite.S_ .f32 0x7F800000#32)) (ix4 b s n d) = 1#1) :
      (((x (ix4 b s n d) : EReal).toReal : ℝ) : EReal) = x (ix4 b s n d) := by
    rw [e, inf_bits] at hx
    refine real_of_abs _ ?_
    by_contra hn
    rw [decide_eq_false hn] at hx
    exact absurd hx (by decide)
  exact ⟨key x0 h0, key x1 h1⟩

theorem blockSize_bits : Ideal.ofBits FTy.f32 1132462080#32 = ((256 : ℝ) : EReal) := by
  simp [Ideal.ofBits, Ideal.ieee, -EReal.coe_mul]; norm_num

/-- A block's mean key is a number when its keys are. -/
theorem mean_real (x1 : Vec Ideal S16x2048x8x64 .f32) (hk : ∀ b s n d, (((x1 (ix4 b s n d) : EReal).toReal : ℝ) : EReal) = x1 (ix4 b s n d))
    (b : Fin 16) (h j : Fin 8) (d : Fin 64) : (((meanAt x1 b h j d).toReal : ℝ) : EReal) = meanAt x1 b h j d := by
  have e : meanAt x1 b h j d = (((∑ r : Fin 256, (x1 (ix4 b ⟨j.val * 256 + r.val, by omega⟩ h d) : EReal).toReal) * 256⁻¹ : ℝ) : EReal) := by
    unfold meanAt Ideal.div
    rw [blockSize_bits, if_neg (by exact_mod_cast (by norm_num : (256 : ℝ) ≠ 0)), EReal.coe_mul, ← coe_sum, EReal.coe_inv]
    simp only [hk]
  rw [e]; rfl

/-! ## The layer at an index -/

/-- The attention of head `h`'s query `s` of sequence `b`, lane `d` of the values. -/
def attendAt (x0 x1 x2 : Vec Ideal S16x2048x8x64 .f32) (b : Fin 16) (s : Fin 2048) (h : Fin 8) (d : Fin 64) : EReal :=
  attend (fun j => ∑ e, (x0 (ix4 b s h e) : EReal).toReal * (meanAt x1 b h j e).toReal) s
    (fun k => ∑ e, (x0 (ix4 b s h e) : EReal).toReal * (x1 (ix4 b k h e) : EReal).toReal) fun k => x2 (ix4 b k h d)

/-- The sixteen stores of a grid point at an index. -/
theorem pieces_apply (i : Nat) (hi : i < 2) (x0 : Vec Ideal S1x1024x512 .f32) (x1 x2 : Vec Ideal S1x2048x512 .bf16) (x3 : Vec Ideal S1x8x512 .f32)
    (R : Fin 1024) (L : Fin 512) (z : EReal)
    (hz : ∀ (t c : Nat) (ht : t < 4) (hc : c < 4) (r : Fin 256) (l : Fin 128), R.val = t * 256 + r.val → L.val = c * 128 + l.val →
      (groupAt i t c hi ht hc x0 x1 x2 x3 (ix3 0 r l) : EReal) = z) :
    (View.canon (pieces i hi x0 x1 x2 x3) (ix3 0 R L) : EReal) = z := by
  have tile (t c : Nat) (ht : t < 4) (hc : c < 4) :
      View.TileAt (Val := Elt Ideal) (S := S1x1024x512) (e := .bf16) (ix3 0 R L) ![0, t * 256, c * 128] S1x256x128.size
      (groupAt i t c hi ht hc x0 x1 x2 x3) z := by
    intro x hx
    rw [eq_ix3 x]
    exact (congrArg (fun y : Fin 1 => (groupAt i t c hi ht hc x0 x1 x2 x3 (ix3 y (x 1) (x 2)) : EReal)) (Subsingleton.elim (α := Fin 1) (x 0) 0)).trans
      (hz t c ht hc (x 1) (x 2) (hx 1) (hx 2))
  exact View.canon_eq_of_allAt _ _ _ (View.cover_of_tiledL (pieces i hi x0 x1 x2 x3) S1x256x128.size (by sl_kernel_rfl) _) <|
    View.allAt_cons_unit _ _ _ _ _ (tile 3 3 (by omega) (by omega)) <| View.allAt_cons_unit _ _ _ _ _ (tile 3 2 (by omega) (by omega)) <|
    View.allAt_cons_unit _ _ _ _ _ (tile 3 1 (by omega) (by omega)) <| View.allAt_cons_unit _ _ _ _ _ (tile 3 0 (by omega) (by omega)) <|
    View.allAt_cons_unit _ _ _ _ _ (tile 2 3 (by omega) (by omega)) <| View.allAt_cons_unit _ _ _ _ _ (tile 2 2 (by omega) (by omega)) <|
    View.allAt_cons_unit _ _ _ _ _ (tile 2 1 (by omega) (by omega)) <| View.allAt_cons_unit _ _ _ _ _ (tile 2 0 (by omega) (by omega)) <|
    View.allAt_cons_unit _ _ _ _ _ (tile 1 3 (by omega) (by omega)) <| View.allAt_cons_unit _ _ _ _ _ (tile 1 2 (by omega) (by omega)) <|
    View.allAt_cons_unit _ _ _ _ _ (tile 1 1 (by omega) (by omega)) <| View.allAt_cons_unit _ _ _ _ _ (tile 1 0 (by omega) (by omega)) <|
    View.allAt_cons_unit _ _ _ _ _ (tile 0 3 (by omega) (by omega)) <| View.allAt_cons_unit _ _ _ _ _ (tile 0 2 (by omega) (by omega)) <|
    View.allAt_cons_unit _ _ _ _ _ (tile 0 1 (by omega) (by omega)) <| View.allAt_cons_unit _ _ _ _ _ (tile 0 0 (by omega) (by omega)) <|
    View.allAt_nil _ _

/-! What a group loads, at an index. -/

theorem ld_q (x : Vec Ideal S1x1024x512 .f32) (t c : Nat) (ht : t < 4) (hc : c < 4) (r : Fin 256) (l : Fin 128) :
    View.ld x (Rect.unit (s := S1x1024x512) ![0, t * 256, c * 128] S1x256x128.size (inb_x t c ht hc)) (ix3 0 r l) =
      x (ix3 0 ⟨t * 256 + r.val, by omega⟩ ⟨c * 128 + l.val, by omega⟩) :=
  View.ld_unit_apply_of x _ _ _ _ _ fun a => match a with
    | ⟨0, _⟩ => rfl | ⟨1, _⟩ => rfl | ⟨2, _⟩ => rfl

theorem ld_keys (x : Vec Ideal S1x2048x512 .bf16) (n c : Nat) (hn : n < 8) (hc : c < 4) (r : Fin ((n + 1) * 256)) (l : Fin 128) :
    View.ld x (Rect.unit (s := S1x2048x512) ![0, 0, c * 128] (SK1 n).size (inb_k n c hn hc)) (ix3 0 r l) =
      x (ix3 0 (r.castLE (by omega)) ⟨c * 128 + l.val, by omega⟩) :=
  View.ld_unit_apply_of x _ _ _ _ _ fun a => match a with
    | ⟨0, _⟩ => rfl | ⟨1, _⟩ => (Nat.zero_add _).symm | ⟨2, _⟩ => rfl

theorem ld_means (x : Vec Ideal S1x8x512 .f32) (c : Nat) (hc : c < 4) (j : Fin 8) (l : Fin 128) :
    View.ld x (Rect.unit (s := S1x8x512) ![0, 0, c * 128] S1x8x128.size (inb_km c hc)) (ix3 0 j l) =
      x (ix3 0 j ⟨c * 128 + l.val, by omega⟩) :=
  View.ld_unit_apply_of x _ _ _ _ _ fun a => match a with
    | ⟨0, _⟩ => rfl | ⟨1, _⟩ => (Nat.zero_add _).symm | ⟨2, _⟩ => rfl

/-- A group's store at an index, its block's arrays being those of sequence `b`. -/
theorem groupAt_apply (y0 y1 y2 : Vec Ideal S16x2048x8x64 .f32)
    (hq : ∀ b s n d, (((y0 (ix4 b s n d) : EReal).toReal : ℝ) : EReal) = y0 (ix4 b s n d))
    (hk : ∀ b s n d, (((y1 (ix4 b s n d) : EReal).toReal : ℝ) : EReal) = y1 (ix4 b s n d))
    (b : Fin 16) (i : Nat) (hi : i < 2)
    (x0 : Vec Ideal S1x1024x512 .f32) (x1 x2 : Vec Ideal S1x2048x512 .bf16) (x3 : Vec Ideal S1x8x512 .f32)
    (h0 : ∀ (R : Fin 1024) (L : Fin 512), (x0 (ix3 0 R L) : EReal) =
      y0 (ix4 b ⟨i * 1024 + R.val, by omega⟩ ⟨L.val / 64, by omega⟩ ⟨L.val % 64, by omega⟩))
    (h1 : ∀ (R : Fin 2048) (L : Fin 512), (x1 (ix3 0 R L) : EReal) = y1 (ix4 b R ⟨L.val / 64, by omega⟩ ⟨L.val % 64, by omega⟩))
    (h2 : ∀ (R : Fin 2048) (L : Fin 512), (x2 (ix3 0 R L) : EReal) = y2 (ix4 b R ⟨L.val / 64, by omega⟩ ⟨L.val % 64, by omega⟩))
    (h3 : ∀ (j : Fin 8) (L : Fin 512), (x3 (ix3 0 j L) : EReal) = meanAt y1 b ⟨L.val / 64, by omega⟩ j ⟨L.val % 64, by omega⟩)
    (t c : Nat) (ht : t < 4) (hc : c < 4) (r : Fin 256) (l : Fin 128) (s : Fin 2048) (h : Fin 8) (d : Fin 64)
    (hs : s.val = i * 1024 + (t * 256 + r.val)) (hh : h.val = (c * 128 + l.val) / 64) (hd : d.val = (c * 128 + l.val) % 64) :
    (groupAt i t c hi ht hc x0 x1 x2 x3 (ix3 0 r l) : EReal) = attendAt y0 y1 y2 b s h d := by
  have hl := l.isLt
  have hhead (e : Fin 64) : (⟨(c * 128 + (l.val / 64 * 64 + e.val)) / 64, by omega⟩ : Fin 8) = h :=
    Fin.ext (by show (c * 128 + (l.val / 64 * 64 + e.val)) / 64 = h.val; omega)
  have hlane (e : Fin 64) : (⟨(c * 128 + (l.val / 64 * 64 + e.val)) % 64, by omega⟩ : Fin 64) = e :=
    Fin.ext (by show (c * 128 + (l.val / 64 * 64 + e.val)) % 64 = e.val; omega)
  unfold groupAt attendAt
  refine group_attend s (4 * i + t) (by omega) r (by omega) l _ _ _ _ (fun e => (y0 (ix4 b s h e) : EReal).toReal)
    (fun k e => (y1 (ix4 b k h e) : EReal).toReal) (fun j e => (meanAt y1 b h j e).toReal) (fun k => y2 (ix4 b k h d)) ?_ ?_ ?_ ?_
  · intro e
    rw [hq]
    refine (ld_q x0 t c ht hc r _).trans ((h0 _ _).trans ?_)
    rw [hhead e, hlane e]
    exact congrArg (fun s => y0 (ix4 b s h e)) (Fin.ext hs.symm)
  · intro a e
    rw [hk]
    refine (ld_keys x1 (4 * i + t) c (by omega) hc a _).trans ((h1 _ _).trans ?_)
    rw [hhead e, hlane e]
  · intro j e
    rw [mean_real y1 hk]
    refine (ld_means x3 c hc j _).trans ((h3 _ _).trans ?_)
    rw [hhead e, hlane e]
  · intro a
    refine (ld_keys x2 (4 * i + t) c (by omega) hc a _).trans ((h2 _ _).trans ?_)
    exact congrArg₂ (fun h d => y2 (ix4 b _ h d)) (Fin.ext hh.symm) (Fin.ext hd.symm)

variable (m : (ℓ : Loc nD τ sig) → Buf (Elt Ideal) ℓ)

/-- The result array after the run. -/
def out (c : Dev nD) : Vec Ideal S16x2048x512 .bf16 := fun i =>
  attendAt (m ((c : Thread nD τ).loc main_arg0)) (m ((c : Thread nD τ).loc main_arg1)) (m ((c : Thread nD τ).loc main_arg2)) (i 0) (i 1)
    ⟨(i 2).val / 64, by have : (i 2).val < 512 := (i 2).isLt; omega⟩ ⟨(i 2).val % 64, by omega⟩

/-- The precondition, of one device. -/
abbrev Numbers (c : Dev nD) : Prop :=
  (∀ b s n d, ((((m ((c : Thread nD τ).loc main_arg0) : Vec Ideal S16x2048x8x64 .f32) (ix4 b s n d) : EReal).toReal : ℝ) : EReal) =
    (m ((c : Thread nD τ).loc main_arg0) : Vec Ideal S16x2048x8x64 .f32) (ix4 b s n d)) ∧
  (∀ b s n d, ((((m ((c : Thread nD τ).loc main_arg1) : Vec Ideal S16x2048x8x64 .f32) (ix4 b s n d) : EReal).toReal : ℝ) : EReal) =
    (m ((c : Thread nD τ).loc main_arg1) : Vec Ideal S16x2048x8x64 .f32) (ix4 b s n d))

/-- A grid point's block at an index is the attention there. -/
theorem block_value (c : Dev nD) (hn : Numbers m c) (t : Fin cfg0.N) (R : Fin 1024) (L : Fin 512) :
    (outsAt0 m c t.val t.isLt : Vec Ideal S1x1024x512 .bf16) (ix3 0 R L) =
      out m c (((cfg0.win 4).blk t).view.emb (ix3 0 R L : S1x1024x512.Idx)) := by
  have ht := point_lt t
  rw [emb_out]
  have all (i : Nat) (hi : i < 2) (e : t.val % 2 = i) :
      (View.canon (pieces i hi (iblk m c 0 t) (iblk m c 1 t) (iblk m c 2 t) (iblk m c 3 t)) (ix3 0 R L) : EReal) =
      out m c (ix3 ⟨t.val / 2, by omega⟩ ⟨t.val % 2 * 1024 + R.val, by omega⟩ L) := by
    subst e
    refine pieces_apply _ hi _ _ _ _ R L _ fun t' c' ht' hc' r l hR hL => ?_
    refine groupAt_apply (m ((c : Thread nD τ).loc main_arg0)) (m ((c : Thread nD τ).loc main_arg1)) (m ((c : Thread nD τ).loc main_arg2))
      hn.1 hn.2 ⟨t.val / 2, by omega⟩ _ hi _ _ _ _ ?_ ?_ ?_ ?_ t' c' ht' hc' r l _ _ _ ?_ ?_ ?_
    · exact fun R L => (congrArg (V m c main_v6) (emb_q t R L)).trans (V_q m c _ _ _)
    · exact fun R L => (congrArg (V m c main_v7) (emb_k t R L)).trans (V_k m c _ _ _)
    · exact fun R L => (congrArg (V m c main_v8) (emb_v t R L)).trans (V_v m c _ _ _)
    · exact fun j L => (congrArg (V m c main_v3) (emb_mean t j L)).trans (V_mean m c _ _ _)
    · show t.val % 2 * 1024 + R.val = _; omega
    · show L.val / 64 = _; omega
    · show L.val % 64 = _; omega
  by_cases h0 : t.val % 2 = 0
  · rw [out_first m c t h0]; exact all 0 (by omega) h0
  · rw [out_second m c t h0]; exact all 1 (by omega) (by omega)

/-- A block that agrees with an array at every row and lane is the array's block. -/
theorem cut_eq (t : Fin cfg0.N) (f : Vec Ideal S1x1024x512 .bf16) (g : Vec Ideal S16x2048x512 .bf16)
    (h : ∀ (R : Fin 1024) (L : Fin 512), f (ix3 0 R L) = g (((cfg0.win 4).blk t).view.emb (ix3 0 R L : S1x1024x512.Idx))) :
    (cfg0.win 4).cut (grid0.coords t) f = ((cfg0.win 4).blk t).view.read (Elt Ideal) g := by
  funext j
  show f j = g (((cfg0.win 4).blk t).view.emb j)
  have e : j = (ix3 0 (j 1) (j 2) : S1x1024x512.Idx) := (eq_ix3 (n0 := 1) (n1 := 1024) (n2 := 512) j).trans
    (congrArg (fun y : Fin 1 => (ix3 y (j 1) (j 2) : S1x1024x512.Idx)) (Subsingleton.elim (α := Fin 1) (j 0) 0))
  rw [e]; exact h _ _

/-- The result array after the run is the attention everywhere. -/
theorem final (c : Dev nD) (hn : Numbers m c) : (dats m 0 c).arrAt 4 cfg0.N = out m c :=
  (dats m 0 c).arrAt_eq_of_cover 4 (out m c)
    (fun t _ => (flushed4 m c t).trans (cut_eq t _ (out m c) (block_value m c hn t)))
    (Pipeline.Window.Covers.cover _ covers (Memref.isWhole_whole _))

/-! ## The reference at an index -/

open scoped Classical in
/-- The reference's logits of a query over numbers. -/
theorem logits_real (x0 x1 : Vec Ideal S16x2048x8x64 .f32)
    (hq : ∀ b s n d, (((x0 (ix4 b s n d) : EReal).toReal : ℝ) : EReal) = x0 (ix4 b s n d))
    (hk : ∀ b s n d, (((x1 (ix4 b s n d) : EReal).toReal : ℝ) : EReal) = x1 (ix4 b s n d)) (b : Fin 16) (h : Fin 8) (t k : Fin 2048) :
    logitOf x0 x1 b h t k =
      if Looks (fun j => ∑ e, (x0 (ix4 b t h e) : EReal).toReal * (meanAt x1 b h j e).toReal) t k then
        (((∑ e, (x0 (ix4 b t h e) : EReal).toReal * (x1 (ix4 b k h e) : EReal).toReal) * 8⁻¹ : ℝ) : EReal) else ⊥ := by
  have hg : gateOf x0 x1 b h t = past (t.val / 256) fun j => ∑ e, (x0 (ix4 b t h e) : EReal).toReal * (meanAt x1 b h j e).toReal := by
    funext j
    unfold gateOf past
    rw [← coe_sum]
    simp only [EReal.coe_mul, hq, mean_real x1 hk]
    rfl
  have hl : Seen x0 x1 b h t k = Looks (fun j => ∑ e, (x0 (ix4 b t h e) : EReal).toReal * (meanAt x1 b h j e).toReal) t k := by
    unfold Seen Chosen Looks
    rw [hg]
  unfold logitOf
  rw [hl, EReal.coe_mul, ← coe_sum]
  simp only [EReal.coe_mul, hq, hk]

/-- The reference's output over numbers. -/
theorem ref_apply (x0 x1 x2 : Vec Ideal S16x2048x8x64 .f32)
    (hq : ∀ b s n d, (((x0 (ix4 b s n d) : EReal).toReal : ℝ) : EReal) = x0 (ix4 b s n d))
    (hk : ∀ b s n d, (((x1 (ix4 b s n d) : EReal).toReal : ℝ) : EReal) = x1 (ix4 b s n d)) (b : Fin 16) (t : Fin 2048) (l : Fin 512) :
    (Cert.MobaRefIdeal.Read.val_main_v62 (F := Ideal) x0 x1 x2 (ix3 b t l) : EReal) =
      attendAt x0 x1 x2 b t ⟨l.val / 64, by omega⟩ ⟨l.val % 64, by omega⟩ := by
  rw [ref_out x0 x1 x2 b t l, funext (logits_real x0 x1 hq hk b ⟨l.val / 64, by omega⟩ t)]
  rfl

/-- From arguments that agree, the queries and keys numbers, the two runs end with one result array. -/
theorem algebraic : Cert.algebraic_MobaIdeal_MobaRefIdeal_pre_finite
    (hMobaIdeal := Cert.MobaIdeal.Gen.facts) (hMobaRefIdeal := Cert.MobaRefIdeal.Gen.facts) (hPre_finite := finite_facts) := by
  intro m g m' g' hpre hagree
  have hn (c : Dev nD) : Numbers m c :=
    ⟨fun b s n d => (finite_real _ _ _ (hpre c) b s n d).1, fun b s n d => (finite_real _ _ _ (hpre c) b s n d).2⟩
  refine ⟨fun c => out m c, ?_, ?_⟩
  · exact (θ_run _ _ _).mono (fun r h c => ⟨(h c).1.trans (final m c (hn c)), (h c).2⟩) (Cert.MobaIdeal.Value.run_blocks m g)
  · refine (θ_run _ _ _).mono (fun r h c => ⟨(h c).1.trans ?_, (h c).2⟩) (Cert.MobaRefIdeal.Value.run m' g')
    obtain ⟨a0, a1, a2⟩ := hagree c
    rw [Cert.MobaRefIdeal.Read.val_main_v62_eq]
    funext i
    rw [a0, a1, a2, eq_ix3 i]
    exact ref_apply _ _ _ (hn c).1 (hn c).2 _ _ _

end Cert.MobaVal
end
-- ==== Proof.lean ====
module

public import proofs.«01_k».proof.Defs
public import proofs.«01_k».proof.Proof.Gen.Moba.Frame
public import proofs.«01_k».proof.Proof.Gen.MobaIdeal.Value
public import proofs.«01_k».proof.Proof.Gen.MobaRefIdeal.Run
public import proofs.«01_k».proof.Proof.Gen.MobaRefIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MixFfn.Frame
public import proofs.«01_k».proof.Proof.Gen.MixFfnIdeal.Value
public import proofs.«01_k».proof.Proof.Gen.MixFfnRefIdeal.Run
public import proofs.«01_k».proof.Proof.Gen.MixFfnRefIdeal.Read
public import proofs.«01_k».proof.Proof.Gen.Sconv.Frame
public import proofs.«01_k».proof.Proof.Gen.SconvIdeal.Value
public import proofs.«01_k».proof.Proof.Gen.SconvRefIdeal.Run
public import proofs.«01_k».proof.Proof.Gen.SconvRefIdeal.Read
public import proofs.«01_k».proof.Proof.Gen.ProjLru.Frame
public import proofs.«01_k».proof.Proof.Gen.ProjLruIdeal.Value
public import proofs.«01_k».proof.Proof.Gen.ProjLruRefIdeal.Run
public import proofs.«01_k».proof.Proof.Gen.ProjLruRefIdeal.Read
public import proofs.«01_k».proof.Proof.Ffn.Ref
public import proofs.«01_k».proof.Proof.Mix.Ref
public import proofs.«01_k».proof.Proof.Sconv.Ref
public import proofs.«01_k».proof.Proof.ProjLru.Ref
public import proofs.«01_k».proof.Proof.Moba.Result

@[expose] public section

open Idealize.ShloMosaic

theorem Cert.Proof.claim : Cert.Claim :=
  ⟨Cert.Moba.Gen.facts, Cert.MobaIdeal.Gen.facts, Cert.MobaRefIdeal.Gen.facts, Cert.Ffn.Gen.facts, Cert.FfnIdeal.Gen.facts,
    Cert.FfnRefIdeal.Gen.facts, Cert.MixFfn.Gen.facts, Cert.MixFfnIdeal.Gen.facts, Cert.MixFfnRefIdeal.Gen.facts,
    Cert.Sconv.Gen.facts, Cert.SconvIdeal.Gen.facts, Cert.SconvRefIdeal.Gen.facts, Cert.ProjLru.Gen.facts, Cert.ProjLruIdeal.Gen.facts,
    Cert.ProjLruRefIdeal.Gen.facts, Cert.MobaVal.finite_facts,
    fun m ρ _ => Cert.Moba.Gen.frame m ρ,
    fun m ρ _ => Cert.MobaIdeal.Gen.frame m ρ,
    fun m ρ _ => Cert.MobaIdeal.Gen.frame m ρ,
    fun m ρ _ => (θ_run _ _ _).mono (fun _ h => ⟨fun c => (h c).2, funext fun s => nomatch s⟩) (Cert.MobaRefIdeal.Value.run m ρ),
    fun m ρ _ => (θ_run _ _ _).mono (fun _ h => ⟨fun c => (h c).2, funext fun s => nomatch s⟩) (Cert.MobaRefIdeal.Value.run m ρ),
    fun m ρ _ => Cert.Ffn.Gen.frame m ρ,
    fun m ρ _ => Cert.FfnIdeal.Gen.frame m ρ,
    fun m ρ _ => (θ_run _ _ _).mono (fun _ h => ⟨fun c => (h c).2, funext fun s => nomatch s⟩) (Cert.FfnRefIdeal.Value.run m ρ),
    fun m ρ _ => Cert.MixFfn.Gen.frame m ρ,
    fun m ρ _ => Cert.MixFfnIdeal.Gen.frame m ρ,
    fun m ρ _ => (θ_run _ _ _).mono (fun _ h => ⟨fun c => (h c).2, funext fun s => nomatch s⟩) (Cert.MixFfnRefIdeal.Value.run m ρ),
    fun m ρ _ => Cert.Sconv.Gen.frame m ρ,
    fun m ρ _ => Cert.SconvIdeal.Gen.frame m ρ,
    fun m ρ _ => (θ_run _ _ _).mono (fun _ h => ⟨fun c => (h c).2, funext fun s => nomatch s⟩) (Cert.SconvRefIdeal.Value.run m ρ),
    fun m ρ _ => Cert.ProjLru.Gen.frame m ρ,
    fun m ρ _ => Cert.ProjLruIdeal.Gen.frame m ρ,
    fun m ρ _ => (θ_run _ _ _).mono (fun _ h => ⟨fun c => (h c).2.2.2.2, funext fun s => nomatch s⟩)
      (Cert.ProjLruRefIdeal.Value.run m ρ),
    ⟨IdealRules.named_const.statement Cert.MobaIdeal.κ "scale" .f32 0x3E38AA3B#32 ((8⁻¹ * (Real.log 2)⁻¹ : ℝ) : EReal) rfl,
      IdealRules.named_const.statement Cert.MobaIdeal.κ "mask" .f32 0xF149F2CA#32 ⊥ rfl⟩,
    Cert.MobaVal.algebraic,
    trivial,
    Cert.FfnVal.algebraic,
    trivial,
    Cert.MixVal.algebraic,
    trivial,
    Cert.SconvVal.algebraic,
    trivial,
    Cert.ProjLruVal.algebraic⟩

end
